-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_KernelB (m : (ℓ : Loc Cert.KernelB.nD Cert.KernelB.τ Cert.KernelB.sig) → Buf (Elt Bits) ℓ) : Prop :=
  True

def Pre_KernelBIdeal (m : (ℓ : Loc Cert.KernelBIdeal.nD Cert.KernelBIdeal.τ Cert.KernelBIdeal.sig) → Buf (Elt Ideal) ℓ) : Prop :=
  True

def Pre_KernelBIdeal_k2_in_range [hPre_k2_in_range : Cert.Pre_k2_in_range.Facts] (m : (ℓ : Loc Cert.KernelBIdeal.nD Cert.KernelBIdeal.τ Cert.KernelBIdeal.sig) → Buf (Elt Ideal) ℓ) : Prop :=
  ∀ c : Dev Cert.KernelBIdeal.nD,
    (Cert.Pre_k2_in_range.fn (F := Ideal) (m ((c.tc : Thread Cert.KernelBIdeal.nD Cert.KernelBIdeal.τ).loc Cert.KernelBIdeal.main_arg0)) (m ((c.tc : Thread Cert.KernelBIdeal.nD Cert.KernelBIdeal.τ).loc Cert.KernelBIdeal.main_arg1)) (m ((c.tc : Thread Cert.KernelBIdeal.nD Cert.KernelBIdeal.τ).loc Cert.KernelBIdeal.main_arg2)) (m ((c.tc : Thread Cert.KernelBIdeal.nD Cert.KernelBIdeal.τ).loc Cert.KernelBIdeal.main_arg3)) (m ((c.tc : Thread Cert.KernelBIdeal.nD Cert.KernelBIdeal.τ).loc Cert.KernelBIdeal.main_arg4)) (m ((c.tc : Thread Cert.KernelBIdeal.nD Cert.KernelBIdeal.τ).loc Cert.KernelBIdeal.main_arg5)) (m ((c.tc : Thread Cert.KernelBIdeal.nD Cert.KernelBIdeal.τ).loc Cert.KernelBIdeal.main_arg6)) (m ((c.tc : Thread Cert.KernelBIdeal.nD Cert.KernelBIdeal.τ).loc Cert.KernelBIdeal.main_arg7)) (m ((c.tc : Thread Cert.KernelBIdeal.nD Cert.KernelBIdeal.τ).loc Cert.KernelBIdeal.main_arg8))) = (fun _ => 1#1)

def Pre_ReferenceBIdeal (m : (ℓ : Loc Cert.ReferenceBIdeal.nD Cert.ReferenceBIdeal.τ Cert.ReferenceBIdeal.sig) → Buf (Elt Ideal) ℓ) : Prop :=
  True

def Pre_ReferenceBIdeal_k2_in_range [hPre_k2_in_range : Cert.Pre_k2_in_range.Facts] (m : (ℓ : Loc Cert.ReferenceBIdeal.nD Cert.ReferenceBIdeal.τ Cert.ReferenceBIdeal.sig) → Buf (Elt Ideal) ℓ) : Prop :=
  ∀ c : Dev Cert.ReferenceBIdeal.nD,
    (Cert.Pre_k2_in_range.fn (F := Ideal) (m ((c.tc : Thread Cert.ReferenceBIdeal.nD Cert.ReferenceBIdeal.τ).loc Cert.ReferenceBIdeal.main_arg0)) (m ((c.tc : Thread Cert.ReferenceBIdeal.nD Cert.ReferenceBIdeal.τ).loc Cert.ReferenceBIdeal.main_arg1)) (m ((c.tc : Thread Cert.ReferenceBIdeal.nD Cert.ReferenceBIdeal.τ).loc Cert.ReferenceBIdeal.main_arg2)) (m ((c.tc : Thread Cert.ReferenceBIdeal.nD Cert.ReferenceBIdeal.τ).loc Cert.ReferenceBIdeal.main_arg3)) (m ((c.tc : Thread Cert.ReferenceBIdeal.nD Cert.ReferenceBIdeal.τ).loc Cert.ReferenceBIdeal.main_arg4)) (m ((c.tc : Thread Cert.ReferenceBIdeal.nD Cert.ReferenceBIdeal.τ).loc Cert.ReferenceBIdeal.main_arg5)) (m ((c.tc : Thread Cert.ReferenceBIdeal.nD Cert.ReferenceBIdeal.τ).loc Cert.ReferenceBIdeal.main_arg6)) (m ((c.tc : Thread Cert.ReferenceBIdeal.nD Cert.ReferenceBIdeal.τ).loc Cert.ReferenceBIdeal.main_arg7)) (m ((c.tc : Thread Cert.ReferenceBIdeal.nD Cert.ReferenceBIdeal.τ).loc Cert.ReferenceBIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelB [hKernelB : Cert.KernelB.Facts] : Prop :=
  ∀ (m : (ℓ : Loc Cert.KernelB.nD Cert.KernelB.τ Cert.KernelB.sig) → Buf (Elt Bits) ℓ) (g : Dev Cert.KernelB.nD → PrngReg), Pre_KernelB m →
    θ_run (Cert.KernelB.defs (F := Bits)) (onTc (τ := Cert.KernelB.τ) (Cert.KernelB.main (F := Bits))) ⟨m, fun _ => 0, g⟩ (fun r => (∀ c : Dev Cert.KernelB.nD,
      r.2.mem ((c.tc : Thread Cert.KernelB.nD Cert.KernelB.τ).loc Cert.KernelB.main_arg0) = m ((c.tc : Thread Cert.KernelB.nD Cert.KernelB.τ).loc Cert.KernelB.main_arg0)
      ∧ r.2.mem ((c.tc : Thread Cert.KernelB.nD Cert.KernelB.τ).loc Cert.KernelB.main_arg1) = m ((c.tc : Thread Cert.KernelB.nD Cert.KernelB.τ).loc Cert.KernelB.main_arg1)
      ∧ r.2.mem ((c.tc : Thread Cert.KernelB.nD Cert.KernelB.τ).loc Cert.KernelB.main_arg2) = m ((c.tc : Thread Cert.KernelB.nD Cert.KernelB.τ).loc Cert.KernelB.main_arg2)
      ∧ r.2.mem ((c.tc : Thread Cert.KernelB.nD Cert.KernelB.τ).loc Cert.KernelB.main_arg3) = m ((c.tc : Thread Cert.KernelB.nD Cert.KernelB.τ).loc Cert.KernelB.main_arg3)
      ∧ r.2.mem ((c.tc : Thread Cert.KernelB.nD Cert.KernelB.τ).loc Cert.KernelB.main_arg4) = m ((c.tc : Thread Cert.KernelB.nD Cert.KernelB.τ).loc Cert.KernelB.main_arg4)
      ∧ r.2.mem ((c.tc : Thread Cert.KernelB.nD Cert.KernelB.τ).loc Cert.KernelB.main_arg5) = m ((c.tc : Thread Cert.KernelB.nD Cert.KernelB.τ).loc Cert.KernelB.main_arg5)
      ∧ r.2.mem ((c.tc : Thread Cert.KernelB.nD Cert.KernelB.τ).loc Cert.KernelB.main_arg6) = m ((c.tc : Thread Cert.KernelB.nD Cert.KernelB.τ).loc Cert.KernelB.main_arg6)
      ∧ r.2.mem ((c.tc : Thread Cert.KernelB.nD Cert.KernelB.τ).loc Cert.KernelB.main_arg7) = m ((c.tc : Thread Cert.KernelB.nD Cert.KernelB.τ).loc Cert.KernelB.main_arg7)
      ∧ r.2.mem ((c.tc : Thread Cert.KernelB.nD Cert.KernelB.τ).loc Cert.KernelB.main_arg8) = m ((c.tc : Thread Cert.KernelB.nD Cert.KernelB.τ).loc Cert.KernelB.main_arg8))
      ∧ r.2.sem = fun _ => 0)

def quiescent_KernelBIdeal [hKernelBIdeal : Cert.KernelBIdeal.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8))
      ∧ r.2.sem = fun _ => 0)

def quiescent_KernelBIdeal_pre_k2_in_range [hKernelBIdeal : Cert.KernelBIdeal.Facts] [hPre_k2_in_range : Cert.Pre_k2_in_range.Facts] : Prop :=
  ∀ (m : (ℓ : Loc Cert.KernelBIdeal.nD Cert.KernelBIdeal.τ Cert.KernelBIdeal.sig) → Buf (Elt Ideal) ℓ) (g : Dev Cert.KernelBIdeal.nD → PrngReg), Pre_KernelBIdeal_k2_in_range m →
    θ_run (Cert.KernelBIdeal.defs (F := Ideal)) (onTc (τ := Cert.KernelBIdeal.τ) (Cert.KernelBIdeal.main (F := Ideal))) ⟨m, fun _ => 0, g⟩ (fun r => (∀ c : Dev Cert.KernelBIdeal.nD,
      r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
      ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
      ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
      ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
      ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
      ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
      ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
      ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
      ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8))
      ∧ r.2.sem = fun _ => 0)

def quiescent_ReferenceBIdeal [hReferenceBIdeal : Cert.ReferenceBIdeal.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8))
      ∧ r.2.sem = fun _ => 0)

def quiescent_ReferenceBIdeal_pre_k2_in_range [hReferenceBIdeal : Cert.ReferenceBIdeal.Facts] [hPre_k2_in_range : Cert.Pre_k2_in_range.Facts] : Prop :=
  ∀ (m : (ℓ : Loc Cert.ReferenceBIdeal.nD Cert.ReferenceBIdeal.τ Cert.ReferenceBIdeal.sig) → Buf (Elt Ideal) ℓ) (g : Dev Cert.ReferenceBIdeal.nD → PrngReg), Pre_ReferenceBIdeal_k2_in_range m →
    θ_run (Cert.ReferenceBIdeal.defs (F := Ideal)) (onTc (τ := Cert.ReferenceBIdeal.τ) (Cert.ReferenceBIdeal.main (F := Ideal))) ⟨m, fun _ => 0, g⟩ (fun r => (∀ c : Dev Cert.ReferenceBIdeal.nD,
      r.2.mem ((c.tc : Thread Cert.ReferenceBIdeal.nD Cert.ReferenceBIdeal.τ).loc Cert.ReferenceBIdeal.main_arg0) = m ((c.tc : Thread Cert.ReferenceBIdeal.nD Cert.ReferenceBIdeal.τ).loc Cert.ReferenceBIdeal.main_arg0)
      ∧ r.2.mem ((c.tc : Thread Cert.ReferenceBIdeal.nD Cert.ReferenceBIdeal.τ).loc Cert.ReferenceBIdeal.main_arg1) = m ((c.tc : Thread Cert.ReferenceBIdeal.nD Cert.ReferenceBIdeal.τ).loc Cert.ReferenceBIdeal.main_arg1)
      ∧ r.2.mem ((c.tc : Thread Cert.ReferenceBIdeal.nD Cert.ReferenceBIdeal.τ).loc Cert.ReferenceBIdeal.main_arg2) = m ((c.tc : Thread Cert.ReferenceBIdeal.nD Cert.ReferenceBIdeal.τ).loc Cert.ReferenceBIdeal.main_arg2)
      ∧ r.2.mem ((c.tc : Thread Cert.ReferenceBIdeal.nD Cert.ReferenceBIdeal.τ).loc Cert.ReferenceBIdeal.main_arg3) = m ((c.tc : Thread Cert.ReferenceBIdeal.nD Cert.ReferenceBIdeal.τ).loc Cert.ReferenceBIdeal.main_arg3)
      ∧ r.2.mem ((c.tc : Thread Cert.ReferenceBIdeal.nD Cert.ReferenceBIdeal.τ).loc Cert.ReferenceBIdeal.main_arg4) = m ((c.tc : Thread Cert.ReferenceBIdeal.nD Cert.ReferenceBIdeal.τ).loc Cert.ReferenceBIdeal.main_arg4)
      ∧ r.2.mem ((c.tc : Thread Cert.ReferenceBIdeal.nD Cert.ReferenceBIdeal.τ).loc Cert.ReferenceBIdeal.main_arg5) = m ((c.tc : Thread Cert.ReferenceBIdeal.nD Cert.ReferenceBIdeal.τ).loc Cert.ReferenceBIdeal.main_arg5)
      ∧ r.2.mem ((c.tc : Thread Cert.ReferenceBIdeal.nD Cert.ReferenceBIdeal.τ).loc Cert.ReferenceBIdeal.main_arg6) = m ((c.tc : Thread Cert.ReferenceBIdeal.nD Cert.ReferenceBIdeal.τ).loc Cert.ReferenceBIdeal.main_arg6)
      ∧ r.2.mem ((c.tc : Thread Cert.ReferenceBIdeal.nD Cert.ReferenceBIdeal.τ).loc Cert.ReferenceBIdeal.main_arg7) = m ((c.tc : Thread Cert.ReferenceBIdeal.nD Cert.ReferenceBIdeal.τ).loc Cert.ReferenceBIdeal.main_arg7)
      ∧ r.2.mem ((c.tc : Thread Cert.ReferenceBIdeal.nD Cert.ReferenceBIdeal.τ).loc Cert.ReferenceBIdeal.main_arg8) = m ((c.tc : Thread Cert.ReferenceBIdeal.nD Cert.ReferenceBIdeal.τ).loc Cert.ReferenceBIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelB_KernelBIdeal : Prop :=
  True

def algebraic_KernelBIdeal_ReferenceBIdeal_pre_k2_in_range [hKernelBIdeal : Cert.KernelBIdeal.Facts] [hReferenceBIdeal : Cert.ReferenceBIdeal.Facts] [hPre_k2_in_range : Cert.Pre_k2_in_range.Facts] : Prop :=
  ∀ (m : (ℓ : Loc Cert.KernelBIdeal.nD Cert.KernelBIdeal.τ Cert.KernelBIdeal.sig) → Buf (Elt Ideal) ℓ) (g : Dev Cert.KernelBIdeal.nD → PrngReg)
    (m' : (ℓ : Loc Cert.ReferenceBIdeal.nD Cert.ReferenceBIdeal.τ Cert.ReferenceBIdeal.sig) → Buf (Elt Ideal) ℓ) (g' : Dev Cert.ReferenceBIdeal.nD → PrngReg), Pre_KernelBIdeal_k2_in_range m →
    (∀ c : Dev Cert.KernelBIdeal.nD,
      m' ((c.tc : Thread Cert.ReferenceBIdeal.nD Cert.ReferenceBIdeal.τ).loc Cert.ReferenceBIdeal.main_arg0) = m ((c.tc : Thread Cert.KernelBIdeal.nD Cert.KernelBIdeal.τ).loc Cert.KernelBIdeal.main_arg0)
      ∧ m' ((c.tc : Thread Cert.ReferenceBIdeal.nD Cert.ReferenceBIdeal.τ).loc Cert.ReferenceBIdeal.main_arg1) = m ((c.tc : Thread Cert.KernelBIdeal.nD Cert.KernelBIdeal.τ).loc Cert.KernelBIdeal.main_arg1)
      ∧ m' ((c.tc : Thread Cert.ReferenceBIdeal.nD Cert.ReferenceBIdeal.τ).loc Cert.ReferenceBIdeal.main_arg2) = m ((c.tc : Thread Cert.KernelBIdeal.nD Cert.KernelBIdeal.τ).loc Cert.KernelBIdeal.main_arg2)
      ∧ m' ((c.tc : Thread Cert.ReferenceBIdeal.nD Cert.ReferenceBIdeal.τ).loc Cert.ReferenceBIdeal.main_arg3) = m ((c.tc : Thread Cert.KernelBIdeal.nD Cert.KernelBIdeal.τ).loc Cert.KernelBIdeal.main_arg3)
      ∧ m' ((c.tc : Thread Cert.ReferenceBIdeal.nD Cert.ReferenceBIdeal.τ).loc Cert.ReferenceBIdeal.main_arg4) = m ((c.tc : Thread Cert.KernelBIdeal.nD Cert.KernelBIdeal.τ).loc Cert.KernelBIdeal.main_arg4)
      ∧ m' ((c.tc : Thread Cert.ReferenceBIdeal.nD Cert.ReferenceBIdeal.τ).loc Cert.ReferenceBIdeal.main_arg5) = m ((c.tc : Thread Cert.KernelBIdeal.nD Cert.KernelBIdeal.τ).loc Cert.KernelBIdeal.main_arg5)
      ∧ m' ((c.tc : Thread Cert.ReferenceBIdeal.nD Cert.ReferenceBIdeal.τ).loc Cert.ReferenceBIdeal.main_arg6) = m ((c.tc : Thread Cert.KernelBIdeal.nD Cert.KernelBIdeal.τ).loc Cert.KernelBIdeal.main_arg6)
      ∧ m' ((c.tc : Thread Cert.ReferenceBIdeal.nD Cert.ReferenceBIdeal.τ).loc Cert.ReferenceBIdeal.main_arg7) = m ((c.tc : Thread Cert.KernelBIdeal.nD Cert.KernelBIdeal.τ).loc Cert.KernelBIdeal.main_arg7)
      ∧ m' ((c.tc : Thread Cert.ReferenceBIdeal.nD Cert.ReferenceBIdeal.τ).loc Cert.ReferenceBIdeal.main_arg8) = m ((c.tc : Thread Cert.KernelBIdeal.nD Cert.KernelBIdeal.τ).loc Cert.KernelBIdeal.main_arg8)) →
    ∃ (v0 : (c : Dev Cert.KernelBIdeal.nD) → Buf (Elt Ideal) ((c.tc : Thread Cert.KernelBIdeal.nD Cert.KernelBIdeal.τ).loc Cert.KernelBIdeal.main_v24)),
      θ_run (Cert.KernelBIdeal.defs (F := Ideal)) (onTc (τ := Cert.KernelBIdeal.τ) (Cert.KernelBIdeal.main (F := Ideal))) ⟨m, fun _ => 0, g⟩ (fun r => ∀ c : Dev Cert.KernelBIdeal.nD,
          r.2.mem ((c.tc : Thread Cert.KernelBIdeal.nD Cert.KernelBIdeal.τ).loc Cert.KernelBIdeal.main_v24) = v0 c
          ∧ r.2.mem ((c.tc : Thread Cert.KernelBIdeal.nD Cert.KernelBIdeal.τ).loc Cert.KernelBIdeal.main_arg0) = m ((c.tc : Thread Cert.KernelBIdeal.nD Cert.KernelBIdeal.τ).loc Cert.KernelBIdeal.main_arg0)
          ∧ r.2.mem ((c.tc : Thread Cert.KernelBIdeal.nD Cert.KernelBIdeal.τ).loc Cert.KernelBIdeal.main_arg1) = m ((c.tc : Thread Cert.KernelBIdeal.nD Cert.KernelBIdeal.τ).loc Cert.KernelBIdeal.main_arg1)
          ∧ r.2.mem ((c.tc : Thread Cert.KernelBIdeal.nD Cert.KernelBIdeal.τ).loc Cert.KernelBIdeal.main_arg2) = m ((c.tc : Thread Cert.KernelBIdeal.nD Cert.KernelBIdeal.τ).loc Cert.KernelBIdeal.main_arg2)
          ∧ r.2.mem ((c.tc : Thread Cert.KernelBIdeal.nD Cert.KernelBIdeal.τ).loc Cert.KernelBIdeal.main_arg3) = m ((c.tc : Thread Cert.KernelBIdeal.nD Cert.KernelBIdeal.τ).loc Cert.KernelBIdeal.main_arg3)
          ∧ r.2.mem ((c.tc : Thread Cert.KernelBIdeal.nD Cert.KernelBIdeal.τ).loc Cert.KernelBIdeal.main_arg4) = m ((c.tc : Thread Cert.KernelBIdeal.nD Cert.KernelBIdeal.τ).loc Cert.KernelBIdeal.main_arg4)
          ∧ r.2.mem ((c.tc : Thread Cert.KernelBIdeal.nD Cert.KernelBIdeal.τ).loc Cert.KernelBIdeal.main_arg5) = m ((c.tc : Thread Cert.KernelBIdeal.nD Cert.KernelBIdeal.τ).loc Cert.KernelBIdeal.main_arg5)
          ∧ r.2.mem ((c.tc : Thread Cert.KernelBIdeal.nD Cert.KernelBIdeal.τ).loc Cert.KernelBIdeal.main_arg6) = m ((c.tc : Thread Cert.KernelBIdeal.nD Cert.KernelBIdeal.τ).loc Cert.KernelBIdeal.main_arg6)
          ∧ r.2.mem ((c.tc : Thread Cert.KernelBIdeal.nD Cert.KernelBIdeal.τ).loc Cert.KernelBIdeal.main_arg7) = m ((c.tc : Thread Cert.KernelBIdeal.nD Cert.KernelBIdeal.τ).loc Cert.KernelBIdeal.main_arg7)
          ∧ r.2.mem ((c.tc : Thread Cert.KernelBIdeal.nD Cert.KernelBIdeal.τ).loc Cert.KernelBIdeal.main_arg8) = m ((c.tc : Thread Cert.KernelBIdeal.nD Cert.KernelBIdeal.τ).loc Cert.KernelBIdeal.main_arg8))
      ∧ θ_run (Cert.ReferenceBIdeal.defs (F := Ideal)) (onTc (τ := Cert.ReferenceBIdeal.τ) (Cert.ReferenceBIdeal.main (F := Ideal))) ⟨m', fun _ => 0, g'⟩ (fun r => ∀ c : Dev Cert.ReferenceBIdeal.nD,
          r.2.mem ((c.tc : Thread Cert.ReferenceBIdeal.nD Cert.ReferenceBIdeal.τ).loc Cert.ReferenceBIdeal.main_v6) = v0 c
          ∧ r.2.mem ((c.tc : Thread Cert.ReferenceBIdeal.nD Cert.ReferenceBIdeal.τ).loc Cert.ReferenceBIdeal.main_arg0) = m' ((c.tc : Thread Cert.ReferenceBIdeal.nD Cert.ReferenceBIdeal.τ).loc Cert.ReferenceBIdeal.main_arg0)
          ∧ r.2.mem ((c.tc : Thread Cert.ReferenceBIdeal.nD Cert.ReferenceBIdeal.τ).loc Cert.ReferenceBIdeal.main_arg1) = m' ((c.tc : Thread Cert.ReferenceBIdeal.nD Cert.ReferenceBIdeal.τ).loc Cert.ReferenceBIdeal.main_arg1)
          ∧ r.2.mem ((c.tc : Thread Cert.ReferenceBIdeal.nD Cert.ReferenceBIdeal.τ).loc Cert.ReferenceBIdeal.main_arg2) = m' ((c.tc : Thread Cert.ReferenceBIdeal.nD Cert.ReferenceBIdeal.τ).loc Cert.ReferenceBIdeal.main_arg2)
          ∧ r.2.mem ((c.tc : Thread Cert.ReferenceBIdeal.nD Cert.ReferenceBIdeal.τ).loc Cert.ReferenceBIdeal.main_arg3) = m' ((c.tc : Thread Cert.ReferenceBIdeal.nD Cert.ReferenceBIdeal.τ).loc Cert.ReferenceBIdeal.main_arg3)
          ∧ r.2.mem ((c.tc : Thread Cert.ReferenceBIdeal.nD Cert.ReferenceBIdeal.τ).loc Cert.ReferenceBIdeal.main_arg4) = m' ((c.tc : Thread Cert.ReferenceBIdeal.nD Cert.ReferenceBIdeal.τ).loc Cert.ReferenceBIdeal.main_arg4)
          ∧ r.2.mem ((c.tc : Thread Cert.ReferenceBIdeal.nD Cert.ReferenceBIdeal.τ).loc Cert.ReferenceBIdeal.main_arg5) = m' ((c.tc : Thread Cert.ReferenceBIdeal.nD Cert.ReferenceBIdeal.τ).loc Cert.ReferenceBIdeal.main_arg5)
          ∧ r.2.mem ((c.tc : Thread Cert.ReferenceBIdeal.nD Cert.ReferenceBIdeal.τ).loc Cert.ReferenceBIdeal.main_arg6) = m' ((c.tc : Thread Cert.ReferenceBIdeal.nD Cert.ReferenceBIdeal.τ).loc Cert.ReferenceBIdeal.main_arg6)
          ∧ r.2.mem ((c.tc : Thread Cert.ReferenceBIdeal.nD Cert.ReferenceBIdeal.τ).loc Cert.ReferenceBIdeal.main_arg7) = m' ((c.tc : Thread Cert.ReferenceBIdeal.nD Cert.ReferenceBIdeal.τ).loc Cert.ReferenceBIdeal.main_arg7)
          ∧ r.2.mem ((c.tc : Thread Cert.ReferenceBIdeal.nD Cert.ReferenceBIdeal.τ).loc Cert.ReferenceBIdeal.main_arg8) = m' ((c.tc : Thread Cert.ReferenceBIdeal.nD Cert.ReferenceBIdeal.τ).loc Cert.ReferenceBIdeal.main_arg8))

def Claim : Prop :=
  ∃ (hKernel : Cert.Kernel.Facts) (hKernelIdeal : Cert.KernelIdeal.Facts) (hReferenceIdeal : Cert.ReferenceIdeal.Facts) (hKernelB : Cert.KernelB.Facts) (hKernelBIdeal : Cert.KernelBIdeal.Facts) (hReferenceBIdeal : Cert.ReferenceBIdeal.Facts) (hPre_k2_in_range : Cert.Pre_k2_in_range.Facts),
    quiescent_Kernel (hKernel := hKernel)
    ∧ quiescent_KernelIdeal (hKernelIdeal := hKernelIdeal)
    ∧ quiescent_ReferenceIdeal (hReferenceIdeal := hReferenceIdeal)
    ∧ quiescent_KernelB (hKernelB := hKernelB)
    ∧ quiescent_KernelBIdeal (hKernelBIdeal := hKernelBIdeal)
    ∧ quiescent_KernelBIdeal_pre_k2_in_range (hKernelBIdeal := hKernelBIdeal) (hPre_k2_in_range := hPre_k2_in_range)
    ∧ quiescent_ReferenceBIdeal (hReferenceBIdeal := hReferenceBIdeal)
    ∧ quiescent_ReferenceBIdeal_pre_k2_in_range (hReferenceBIdeal := hReferenceBIdeal) (hPre_k2_in_range := hPre_k2_in_range)
    ∧ preserves_Kernel_KernelIdeal
    ∧ algebraic_KernelIdeal_ReferenceIdeal (hKernelIdeal := hKernelIdeal) (hReferenceIdeal := hReferenceIdeal)
    ∧ preserves_KernelB_KernelBIdeal
    ∧ algebraic_KernelBIdeal_ReferenceBIdeal_pre_k2_in_range (hKernelBIdeal := hKernelBIdeal) (hReferenceBIdeal := hReferenceBIdeal) (hPre_k2_in_range := hPre_k2_in_range)
-- ==== Pre_k2_in_range.lean ====
abbrev S1280x16384 : Shape := ⟨2, ![1280, 16384]⟩
abbrev S16384x4096 : Shape := ⟨2, ![16384, 4096]⟩
abbrev S1280x4096 : Shape := ⟨2, ![1280, 4096]⟩
abbrev S4096 : Shape := ⟨1, ![4096]⟩
abbrev S_ : Shape := ⟨0, ![]⟩

class Facts : Prop where
  bcast_S_S4096 : S_.BroadcastsInDim S4096 (![] : Fin 0 → Fin S4096.rank)

variable [Facts]

def fn {F : FTy → Type} [FloatOps F] (main_arg0 : IVec S1280x16384 8) (main_arg1 : IVec S16384x4096 8) (main_arg2 : IVec S1280x4096 8) (main_arg3 : IVec S4096 32) (main_arg4 : IVec S4096 32) (main_arg5 : IVec S4096 32) (main_arg6 : IVec S4096 32) (main_arg7 : IVec S4096 32) (main_arg8 : IVec S4096 32) : IVec S4096 1 :=
  let main_c : IVec S_ 32 := constantI S_ 32 16#32
  let main_v0 : IVec S4096 32 := broadcastInDim S4096 ![] bcast_S_S4096 main_c
  let main_v1 : IVec S4096 1 := cmpi .sge main_arg5 main_v0
  let main_c_0 : IVec S_ 32 := constantI S_ 32 31#32
  let main_v2 : IVec S4096 32 := broadcastInDim S4096 ![] bcast_S_S4096 main_c_0
  let main_v3 : IVec S4096 1 := cmpi .sle main_arg5 main_v2
  let main_v4 : IVec S4096 1 := andi main_v1 main_v3
  main_v4
-- ==== Kernel.lean ====
abbrev S1280x4096 : Shape := ⟨2, ![1280, 4096]⟩
abbrev S4096x16384 : Shape := ⟨2, ![4096, 16384]⟩
abbrev S16384 : Shape := ⟨1, ![16384]⟩
abbrev S1x16384 : Shape := ⟨2, ![1, 16384]⟩
abbrev S_ : Shape := ⟨0, ![]⟩
abbrev S1280x16384 : Shape := ⟨2, ![1280, 16384]⟩
abbrev S4096x512 : Shape := ⟨2, ![4096, 512]⟩
abbrev S1x512 : Shape := ⟨2, ![1, 512]⟩
abbrev S1280x512 : Shape := ⟨2, ![1280, 512]⟩
abbrev S256x1024 : Shape := ⟨2, ![256, 1024]⟩
abbrev S1024x512 : Shape := ⟨2, ![1024, 512]⟩
abbrev S256x512 : Shape := ⟨2, ![256, 512]⟩

abbrev nBuf : Space → Nat
  | .hbm => 22
  | .vmem => 19
  | .smem => 0
  | _ => 0

abbrev bufTy : (tb : Table) → Fin (tcTables nBuf tb) → BufTy
  | .hbm, ⟨0, _⟩ => ⟨S1280x4096, .i8⟩
  | .hbm, ⟨1, _⟩ => ⟨S4096x16384, .i8⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S1x16384, .i32⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .i32⟩
  | .hbm, ⟨16, _⟩ => ⟨S1x16384, .i32⟩
  | .hbm, ⟨17, _⟩ => ⟨S1x16384, .i32⟩
  | .hbm, ⟨18, _⟩ => ⟨S1x16384, .i32⟩
  | .hbm, ⟨19, _⟩ => ⟨S1x16384, .i32⟩
  | .hbm, ⟨20, _⟩ => ⟨S1280x16384, .i16⟩
  | .hbm, ⟨21, _⟩ => ⟨S1280x16384, .i8⟩
  | .local _ .vmem, ⟨0, _⟩ => ⟨S1280x4096, .i8⟩
  | .local _ .vmem, ⟨1, _⟩ => ⟨S4096x512, .i8⟩
  | .local _ .vmem, ⟨2, _⟩ => ⟨S4096x512, .i8⟩
  | .local _ .vmem, ⟨3, _⟩ => ⟨S1x512, .i32⟩
  | .local _ .vmem, ⟨4, _⟩ => ⟨S1x512, .i32⟩
  | .local _ .vmem, ⟨5, _⟩ => ⟨S1x512, .i32⟩
  | .local _ .vmem, ⟨6, _⟩ => ⟨S1x512, .i32⟩
  | .local _ .vmem, ⟨7, _⟩ => ⟨S1x512, .i32⟩
  | .local _ .vmem, ⟨8, _⟩ => ⟨S1x512, .i32⟩
  | .local _ .vmem, ⟨9, _⟩ => ⟨S1x512, .i32⟩
  | .local _ .vmem, ⟨10, _⟩ => ⟨S1x512, .i32⟩
  | .local _ .vmem, ⟨11, _⟩ => ⟨S1x512, .i32⟩
  | .local _ .vmem, ⟨12, _⟩ => ⟨S1x512, .i32⟩
  | .local _ .vmem, ⟨13, _⟩ => ⟨S1280x512, .i16⟩
  | .local _ .vmem, ⟨14, _⟩ => ⟨S1280x512, .i16⟩
  | .local _ .vmem, ⟨15, _⟩ => ⟨S1280x512, .i8⟩
  | .local _ .vmem, ⟨16, _⟩ => ⟨S1280x512, .i8⟩
  | .local _ .vmem, ⟨17, _⟩ => ⟨S1280x4096, .bf16⟩
  | .local _ .vmem, ⟨18, _⟩ => ⟨S4096x512, .bf16⟩
  | _, _ => ⟨S1280x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1280x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1280x512 .i16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1280x512 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceIdeal.lean ====
abbrev S1280x4096 : Shape := ⟨2, ![1280, 4096]⟩
abbrev S4096x16384 : Shape := ⟨2, ![4096, 16384]⟩
abbrev S16384 : Shape := ⟨1, ![16384]⟩
abbrev S1x16384 : Shape := ⟨2, ![1, 16384]⟩
abbrev S1280x16384 : Shape := ⟨2, ![1280, 16384]⟩

abbrev nBuf : Space → Nat
  | .hbm => 10
  | .vmem => 7
  | .smem => 0
  | _ => 0

abbrev bufTy : (tb : Table) → Fin (tcTables nBuf tb) → BufTy
  | .hbm, ⟨0, _⟩ => ⟨S1280x4096, .i8⟩
  | .hbm, ⟨1, _⟩ => ⟨S4096x16384, .i8⟩
  | .hbm, ⟨2, _⟩ => ⟨S16384, .i32⟩
  | .hbm, ⟨3, _⟩ => ⟨S16384, .i32⟩
  | .hbm, ⟨4, _⟩ => ⟨S16384, .i32⟩
  | .hbm, ⟨5, _⟩ => ⟨S1x16384, .i32⟩
  | .hbm, ⟨6, _⟩ => ⟨S1x16384, .i32⟩
  | .hbm, ⟨7, _⟩ => ⟨S1x16384, .i32⟩
  | .hbm, ⟨8, _⟩ => ⟨S1280x16384, .i16⟩
  | .hbm, ⟨9, _⟩ => ⟨S1280x16384, .i8⟩
  | .local _ .vmem, ⟨0, _⟩ => ⟨S1280x4096, .i8⟩
  | .local _ .vmem, ⟨1, _⟩ => ⟨S4096x16384, .i8⟩
  | .local _ .vmem, ⟨2, _⟩ => ⟨S1x16384, .i32⟩
  | .local _ .vmem, ⟨3, _⟩ => ⟨S1x16384, .i32⟩
  | .local _ .vmem, ⟨4, _⟩ => ⟨S1x16384, .i32⟩
  | .local _ .vmem, ⟨5, _⟩ => ⟨S1280x16384, .i16⟩
  | .local _ .vmem, ⟨6, _⟩ => ⟨S1280x16384, .i8⟩
  | _, _ => ⟨S1280x4096, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1280x4096 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x16384 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x16384 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280x16384 .i16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280x16384 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== KernelB.lean ====
abbrev S1280x16384 : Shape := ⟨2, ![1280, 16384]⟩
abbrev S16384x4096 : Shape := ⟨2, ![16384, 4096]⟩
abbrev S1280x4096 : Shape := ⟨2, ![1280, 4096]⟩
abbrev S4096 : Shape := ⟨1, ![4096]⟩
abbrev S1x4096 : Shape := ⟨2, ![1, 4096]⟩
abbrev S_ : Shape := ⟨0, ![]⟩
abbrev S1280x1024 : Shape := ⟨2, ![1280, 1024]⟩
abbrev S1024x4096 : Shape := ⟨2, ![1024, 4096]⟩
abbrev S256x1024 : Shape := ⟨2, ![256, 1024]⟩
abbrev S256x512 : Shape := ⟨2, ![256, 512]⟩
abbrev S1024x512 : Shape := ⟨2, ![1024, 512]⟩
abbrev S64x128 : Shape := ⟨2, ![64, 128]⟩
abbrev S1x128 : Shape := ⟨2, ![1, 128]⟩
abbrev S64 : Shape := ⟨1, ![64]⟩
abbrev S64x1 : Shape := ⟨2, ![64, 1]⟩

abbrev nBuf : Space → Nat
  | .hbm => 40
  | .vmem => 18
  | .smem => 0
  | _ => 0

abbrev bufTy : (tb : Table) → Fin (tcTables nBuf tb) → BufTy
  | .hbm, ⟨0, _⟩ => ⟨S1280x16384, .i8⟩
  | .hbm, ⟨1, _⟩ => ⟨S16384x4096, .i8⟩
  | .hbm, ⟨2, _⟩ => ⟨S1280x4096, .i8⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S1x4096, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .i32⟩
  | .hbm, ⟨14, _⟩ => ⟨S4096, .i32⟩
  | .hbm, ⟨15, _⟩ => ⟨S4096, .i32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S4096, .i32⟩
  | .hbm, ⟨20, _⟩ => ⟨S1x4096, .i32⟩
  | .hbm, ⟨21, _⟩ => ⟨S1x4096, .i32⟩
  | .hbm, ⟨22, _⟩ => ⟨S1x4096, .i32⟩
  | .hbm, ⟨23, _⟩ => ⟨S1x4096, .i32⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S_, .i32⟩
  | .hbm, ⟨28, _⟩ => ⟨S4096, .i32⟩
  | .hbm, ⟨29, _⟩ => ⟨S4096, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096, .i32⟩
  | .hbm, ⟨34, _⟩ => ⟨S1x4096, .i32⟩
  | .hbm, ⟨35, _⟩ => ⟨S1x4096, .i32⟩
  | .hbm, ⟨36, _⟩ => ⟨S1x4096, .i32⟩
  | .hbm, ⟨37, _⟩ => ⟨S1x4096, .i32⟩
  | .hbm, ⟨38, _⟩ => ⟨S1x4096, .i32⟩
  | .hbm, ⟨39, _⟩ => ⟨S1280x4096, .i8⟩
  | .local _ .vmem, ⟨0, _⟩ => ⟨S1280x1024, .i8⟩
  | .local _ .vmem, ⟨1, _⟩ => ⟨S1280x1024, .i8⟩
  | .local _ .vmem, ⟨2, _⟩ => ⟨S1024x4096, .i8⟩
  | .local _ .vmem, ⟨3, _⟩ => ⟨S1024x4096, .i8⟩
  | .local _ .vmem, ⟨4, _⟩ => ⟨S1280x4096, .i8⟩
  | .local _ .vmem, ⟨5, _⟩ => ⟨S1x4096, .i32⟩
  | .local _ .vmem, ⟨6, _⟩ => ⟨S1x4096, .i32⟩
  | .local _ .vmem, ⟨7, _⟩ => ⟨S1x4096, .i32⟩
  | .local _ .vmem, ⟨8, _⟩ => ⟨S1x4096, .i32⟩
  | .local _ .vmem, ⟨9, _⟩ => ⟨S1x4096, .i32⟩
  | .local _ .vmem, ⟨10, _⟩ => ⟨S1x4096, .i32⟩
  | .local _ .vmem, ⟨11, _⟩ => ⟨S1x4096, .i32⟩
  | .local _ .vmem, ⟨12, _⟩ => ⟨S1x4096, .i32⟩
  | .local _ .vmem, ⟨13, _⟩ => ⟨S1x4096, .i32⟩
  | .local _ .vmem, ⟨14, _⟩ => ⟨S1x4096, .i32⟩
  | .local _ .vmem, ⟨15, _⟩ => ⟨S1280x4096, .i8⟩
  | .local _ .vmem, ⟨16, _⟩ => ⟨S1280x4096, .i32⟩
  | .local _ .vmem, ⟨17, _⟩ => ⟨S1024x4096, .bf16⟩
  | _, _ => ⟨S1280x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_c_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_4 : BitVec 32 := 0#32
  let c5_i32 : BitVec 32 := 5#32
  let v8 : BitVec 32 := Scalar.addi c0_i32_4 c5_i32
  let c1_i32 : BitVec 32 := 1#32
  ⟨c0_i32_4, v8, c1_i32⟩
def k0_mult1 (k0_t1 : Fin k0_t1_loop.trips) : BitVec 32 :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  v12
def k0_off1 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v14 : Index := Scalar.indexCast v13
  let c0_7 : Index := 0#32
  ![v14.toNat, 0]
def k0_off2 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v17 : Index := Scalar.indexCast v13
  let c0_8 : Index := 0#32
  ![v17.toNat, 0]
def k0_off3 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v27 : Index := Scalar.indexCast v13
  let c512 : Index := 512#32
  ![v27.toNat, 512]
def k0_off4 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v37 : Index := Scalar.indexCast v13
  let c1024 : Index := 1024#32
  ![v37.toNat, 1024]
def k0_off5 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v47 : Index := Scalar.indexCast v13
  let c1536 : Index := 1536#32
  ![v47.toNat, 1536]
def k0_off6 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v57 : Index := Scalar.indexCast v13
  let c2048 : Index := 2048#32
  ![v57.toNat, 2048]
def k0_off7 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v67 : Index := Scalar.indexCast v13
  let c2560 : Index := 2560#32
  ![v67.toNat, 2560]
def k0_off8 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v77 : Index := Scalar.indexCast v13
  let c3072 : Index := 3072#32
  ![v77.toNat, 3072]
def k0_off9 (k0_t1 : Fin k0_t1_loop.trips) : Fin 2 → Nat :=
  let c0_i32_4 : BitVec 32 := 0#32
  let c1_i32 : BitVec 32 := 1#32
  let arg17 : BitVec 32 := Scf.iv c0_i32_4 c1_i32 k0_t1
  let c256_i32 : BitVec 32 := 256#32
  let v12 : BitVec 32 := Scalar.muli arg17 c256_i32
  let v13 : BitVec 32 := v12
  let v87 : Index := Scalar.indexCast v13
  let c3584 : Index := 3584#32
  ![v87.toNat, 3584]
def k0_cond2 (i : grid0.Coords) : BitVec 1 :=
  let arg0 : BitVec 32 := BitVec.ofNat 32 (i 0).val
  let c15_i32 : BitVec 32 := 15#32
  let v9 : BitVec 1 := Scalar.cmpi .eq arg0 c15_i32
  let v10 : BitVec 32 := Scalar.extui v9
  let c0_i32_6 : BitVec 32 := 0#32
  let v11 : BitVec 1 := Scalar.cmpi .ne v10 c0_i32_6
  v11

@[reducible] def k0_t2_loop : Scf.Loop 32 :=
  let c0_i32_7 : BitVec 32 := 0#32
  let c20_i32 : BitVec 32 := 20#32
  let v12 : BitVec 32 := Scalar.addi c0_i32_7 c20_i32
  let c1_i32_8 : BitVec 32 := 1#32
  ⟨c0_i32_7, v12, c1_i32_8⟩
def k0_mult2 (k0_t2 : Fin k0_t2_loop.trips) : BitVec 32 :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  v13
def k0_off10 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v16 : Index := Scalar.indexCast v14
  let c0_11 : Index := 0#32
  ![v16.toNat, 0]
def k0_off11 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v56 : Index := Scalar.indexCast v14
  let c128 : Index := 128#32
  ![v56.toNat, 128]
def k0_off12 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v96 : Index := Scalar.indexCast v14
  let c256 : Index := 256#32
  ![v96.toNat, 256]
def k0_off13 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v136 : Index := Scalar.indexCast v14
  let c384 : Index := 384#32
  ![v136.toNat, 384]
def k0_off14 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v176 : Index := Scalar.indexCast v14
  let c512 : Index := 512#32
  ![v176.toNat, 512]
def k0_off15 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v216 : Index := Scalar.indexCast v14
  let c640 : Index := 640#32
  ![v216.toNat, 640]
def k0_off16 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v256 : Index := Scalar.indexCast v14
  let c768 : Index := 768#32
  ![v256.toNat, 768]
def k0_off17 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v296 : Index := Scalar.indexCast v14
  let c896 : Index := 896#32
  ![v296.toNat, 896]
def k0_off18 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v336 : Index := Scalar.indexCast v14
  let c1024 : Index := 1024#32
  ![v336.toNat, 1024]
def k0_off19 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v376 : Index := Scalar.indexCast v14
  let c1152 : Index := 1152#32
  ![v376.toNat, 1152]
def k0_off20 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v416 : Index := Scalar.indexCast v14
  let c1280 : Index := 1280#32
  ![v416.toNat, 1280]
def k0_off21 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v456 : Index := Scalar.indexCast v14
  let c1408 : Index := 1408#32
  ![v456.toNat, 1408]
def k0_off22 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v496 : Index := Scalar.indexCast v14
  let c1536 : Index := 1536#32
  ![v496.toNat, 1536]
def k0_off23 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v536 : Index := Scalar.indexCast v14
  let c1664 : Index := 1664#32
  ![v536.toNat, 1664]
def k0_off24 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v576 : Index := Scalar.indexCast v14
  let c1792 : Index := 1792#32
  ![v576.toNat, 1792]
def k0_off25 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v616 : Index := Scalar.indexCast v14
  let c1920 : Index := 1920#32
  ![v616.toNat, 1920]
def k0_off26 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v656 : Index := Scalar.indexCast v14
  let c2048 : Index := 2048#32
  ![v656.toNat, 2048]
def k0_off27 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v696 : Index := Scalar.indexCast v14
  let c2176 : Index := 2176#32
  ![v696.toNat, 2176]
def k0_off28 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v736 : Index := Scalar.indexCast v14
  let c2304 : Index := 2304#32
  ![v736.toNat, 2304]
def k0_off29 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v776 : Index := Scalar.indexCast v14
  let c2432 : Index := 2432#32
  ![v776.toNat, 2432]
def k0_off30 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v816 : Index := Scalar.indexCast v14
  let c2560 : Index := 2560#32
  ![v816.toNat, 2560]
def k0_off31 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v856 : Index := Scalar.indexCast v14
  let c2688 : Index := 2688#32
  ![v856.toNat, 2688]
def k0_off32 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v896 : Index := Scalar.indexCast v14
  let c2816 : Index := 2816#32
  ![v896.toNat, 2816]
def k0_off33 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v936 : Index := Scalar.indexCast v14
  let c2944 : Index := 2944#32
  ![v936.toNat, 2944]
def k0_off34 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v976 : Index := Scalar.indexCast v14
  let c3072 : Index := 3072#32
  ![v976.toNat, 3072]
def k0_off35 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v1016 : Index := Scalar.indexCast v14
  let c3200 : Index := 3200#32
  ![v1016.toNat, 3200]
def k0_off36 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v1056 : Index := Scalar.indexCast v14
  let c3328 : Index := 3328#32
  ![v1056.toNat, 3328]
def k0_off37 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v1096 : Index := Scalar.indexCast v14
  let c3456 : Index := 3456#32
  ![v1096.toNat, 3456]
def k0_off38 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v1136 : Index := Scalar.indexCast v14
  let c3584 : Index := 3584#32
  ![v1136.toNat, 3584]
def k0_off39 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v1176 : Index := Scalar.indexCast v14
  let c3712 : Index := 3712#32
  ![v1176.toNat, 3712]
def k0_off40 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v1216 : Index := Scalar.indexCast v14
  let c3840 : Index := 3840#32
  ![v1216.toNat, 3840]
def k0_off41 (k0_t2 : Fin k0_t2_loop.trips) : Fin 2 → Nat :=
  let c0_i32_7 : BitVec 32 := 0#32
  let c1_i32_8 : BitVec 32 := 1#32
  let arg17 : BitVec 32 := Scf.iv c0_i32_7 c1_i32_8 k0_t2
  let c64_i32 : BitVec 32 := 64#32
  let v13 : BitVec 32 := Scalar.muli arg17 c64_i32
  let v14 : BitVec 32 := v13
  let v1256 : Index := Scalar.indexCast v14
  let c3968 : Index := 3968#32
  ![v1256.toNat, 3968]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1280x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x4096 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x4096 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x4096 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1280x4096 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceBIdeal.lean ====
abbrev S1280x16384 : Shape := ⟨2, ![1280, 16384]⟩
abbrev S16384x4096 : Shape := ⟨2, ![16384, 4096]⟩
abbrev S1280x4096 : Shape := ⟨2, ![1280, 4096]⟩
abbrev S4096 : Shape := ⟨1, ![4096]⟩
abbrev S1x4096 : Shape := ⟨2, ![1, 4096]⟩
abbrev S1280 : Shape := ⟨1, ![1280]⟩
abbrev S1280x1 : Shape := ⟨2, ![1280, 1]⟩

abbrev nBuf : Space → Nat
  | .hbm => 16
  | .vmem => 10
  | .smem => 0
  | _ => 0

abbrev bufTy : (tb : Table) → Fin (tcTables nBuf tb) → BufTy
  | .hbm, ⟨0, _⟩ => ⟨S1280x16384, .i8⟩
  | .hbm, ⟨1, _⟩ => ⟨S16384x4096, .i8⟩
  | .hbm, ⟨2, _⟩ => ⟨S1280x4096, .i8⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S4096, .i32⟩
  | .hbm, ⟨9, _⟩ => ⟨S1x4096, .i32⟩
  | .hbm, ⟨10, _⟩ => ⟨S1x4096, .i32⟩
  | .hbm, ⟨11, _⟩ => ⟨S1x4096, .i32⟩
  | .hbm, ⟨12, _⟩ => ⟨S1x4096, .i32⟩
  | .hbm, ⟨13, _⟩ => ⟨S1x4096, .i32⟩
  | .hbm, ⟨14, _⟩ => ⟨S1x4096, .i32⟩
  | .hbm, ⟨15, _⟩ => ⟨S1280x4096, .i8⟩
  | .local _ .vmem, ⟨0, _⟩ => ⟨S1280x16384, .i8⟩
  | .local _ .vmem, ⟨1, _⟩ => ⟨S16384x4096, .i8⟩
  | .local _ .vmem, ⟨2, _⟩ => ⟨S1280x4096, .i8⟩
  | .local _ .vmem, ⟨3, _⟩ => ⟨S1x4096, .i32⟩
  | .local _ .vmem, ⟨4, _⟩ => ⟨S1x4096, .i32⟩
  | .local _ .vmem, ⟨5, _⟩ => ⟨S1x4096, .i32⟩
  | .local _ .vmem, ⟨6, _⟩ => ⟨S1x4096, .i32⟩
  | .local _ .vmem, ⟨7, _⟩ => ⟨S1x4096, .i32⟩
  | .local _ .vmem, ⟨8, _⟩ => ⟨S1x4096, .i32⟩
  | .local _ .vmem, ⟨9, _⟩ => ⟨S1280x4096, .i8⟩
  | _, _ => ⟨S1280x16384, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S1280x16384 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x4096 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x4096 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x4096 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4096 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x4096 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x4096 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1280x4096 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.BLn.lean ====
/-
  Hand-written, untrusted. What one trip of the LayerNorm loop of `KernelB` writes does not depend on what the result's memref
  held before: the pieces of the loop can be stated at any earlier contents of it.
-/
module

public import proofs.«01_k».proof.Proof.Gen.KernelB.Loops

@[expose] public section

set_option maxRecDepth 16384

noncomputable section

namespace Cert.KernelB.Gen

open Idealize.ShloMosaic Idealize.ShloMosaic.TcCoe Idealize.SL Idealize.SL.Sem

variable {F : FTy → Type} [FloatOps F]

/-- One trip's pieces of the result and of the accumulator, whatever the result's memref held. -/
theorem tripL_indep (𝒱 : Variants) (c : Dev nD) (bd : Option 𝒱.V) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (k0_h2 : k0_cond2 i = 1#1) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (k : Fin k0_t2_loop.trips) (f14 f14' : BufTy.Contents (Elt F) arg14.view.ty) (f15 : BufTy.Contents (Elt F) arg15.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15 = tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14' f15 := by
  unfold tripL_k0_t2 trip_k0_t2; rfl

/-- All trips' pieces, whatever the result's memref held. -/
theorem pb_indep (𝒱 : Variants) (c : Dev nD) (bd : Option 𝒱.V) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (k0_h2 : k0_cond2 i = 1#1) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (G14 G14' : BufTy.Contents (Elt F) arg14.view.ty) (G15 : BufTy.Contents (Elt F) arg15.view.ty) (k : ℕ) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14 G15 k = pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14' G15 k := by
  induction k with
  | zero => rfl
  | succ k ih =>
    rw [pb_k0_t2.eq_2, pb_k0_t2.eq_2, ih]
    unfold pb_k0_t2Step
    split
    · rw [tripL_indep (F := F) (f14' := arg14.view.writes (Elt F) G14' (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14' G15 k).1)]
    · rfl

end Cert.KernelB.Gen

end
-- ==== Proof.BRunC.lean ====
/-
  Untrusted. The whole-body run of `KernelB`'s kernel in the LAST of its cases (the step that also runs the LayerNorm loop): the
  generated module's text, with one rewriting added before the buffers are handed over: the loop's pieces stated at no
  earlier contents of the result's memref (`pb_indep`). Without it the pieces would mention contents that the statement
  does not know.
-/
module

public import proofs.«01_k».proof.Proof.Gen.KernelB.Frame.RunB
public import proofs.«01_k».proof.Proof.BLn

@[expose] public section

-- membership in a rectangle of production extents (`View.cover_of_tiled`): the elaborator's structural look
-- recurses once per coordinate of the long axes
set_option maxRecDepth 16384

noncomputable section

namespace Cert.KernelB.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) :
    Σ' (L13 : List (View.Piece (Elt F) S1280x4096 .i8)), { LS0 : List (View.Piece (Elt F) S1280x4096 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xs0 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ (∃ d, owns (c : Thread nD τ) arg16 fullShare d)) -∗ K ⟨⟩))
          ⊢ wp frame (wpE (defs₀ (F := F)) Variants.none c none) E (cc0_ffn2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_ffn2_eq_skeleton]; unfold cc0_ffn2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfs0
    sl_exec (disch := first | sl_exact hc0 | sl_exact hc1)
    sl_step
    rw [pb_indep (F := F) (G14' := arg14.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [HS0]; · iexists _; iexact HS0
    iexists _, _; isplitr; swap; · iexact HS1
    ipureintro; rfl

end Cert.KernelB.Gen

end
-- ==== Proof.BFrame.lean ====
/-
  Untrusted. The frame of `KernelB`: the generated module's text, over `BRunC` instead of the generated last case.
-/
module

public import proofs.«01_k».proof.Proof.BRunC
public import Idealize.ShloMosaic.Lib.Claim

@[expose] public section

-- membership in a rectangle of production extents (`View.cover_of_tiled`): the elaborator's structural look
-- recurses once per coordinate of the long axes
set_option maxRecDepth 16384

noncomputable section

namespace Cert.KernelB.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 13 (the window is idle at its points and not written back there):
    no pieces — a placeholder (junk read back) that nothing consults, since at these points the window is neither
    written back nor read at the next point (Lib/Pipeline.lean "Idle points"). -/
def out0_A_13 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) : Vec F S1280x4096 .i8 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).1)

/-- Case A's pieces for scratch `arg15`, which the kernel carries between points, cover it: one of them a store of the WHOLE buffer (Lib/Ring.lean `sl_whole_mem`). -/
theorem scover0_A_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (y : S1280x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1 (by sl_whole_mem) y

/-- What case A leaves in scratch `arg15`: its pieces read back over junk. -/
def sout0_A_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) : Vec F S1280x4096 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1)

/-- Case B stores nothing into output 13 (the window is idle at its points and not written back there):
    no pieces — a placeholder (junk read back) that nothing consults, since at these points the window is neither
    written back nor read at the next point (Lib/Pipeline.lean "Idle points"). -/
def out0_B_13 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) : Vec F S1280x4096 .i8 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1)

/-- Case B's pieces for scratch `arg15`, which the kernel carries between points, cover it: 40 pieces of `S256x512` tiling it (Lib/Ring.lean `Piece.tiledL`). -/
theorem scover0_B_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) (y : S1280x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1 S256x512.size (by sl_kernel_rfl) y

/-- What case B leaves in scratch `arg15`: its pieces read back over junk. -/
def sout0_B_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) : Vec F S1280x4096 .i32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1)

/-- Case C's pieces for output 13 tile its block (640 stores of `S64x128`, checked by the kernel's evaluation: Lib/Ring.lean `Piece.tiledL`, linear in the pieces, through a loop's `@[irreducible]` trip theorem too), so they cover it. -/
theorem cover0_C_13 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) (y : S1280x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1 S64x128.size (by sl_kernel_rfl) y

/-- What case C leaves in output 13's staging buffer: its pieces read back over junk. -/
def out0_C_13 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) : Vec F S1280x4096 .i8 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1)

/-- Case C's pieces for scratch `arg15`, which the kernel carries between points, cover it: 1320 pieces (stores and landed copies) of several sizes (`S256x512`, `S64x128`) tiling it when cut into blocks of `![64, 128]` (Lib/Ring.lean `Piece.tiledBy`). -/
theorem scover0_C_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) (y : S1280x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1 ![64, 128] (by sl_kernel_rfl) y

/-- What case C leaves in scratch `arg15`: its pieces read back over junk. -/
def sout0_C_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) : Vec F S1280x4096 .i32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x4096 .i8 × Vec F S1280x4096 .i32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      if h1 : (n + 1) % 16 = 15 then
        (out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)
      else
        (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [Dat.leavesExact_idle (dats m 0 c) 13 t (idleAt0_13_A t ((hcond0_0 t).mpr h0) (fun h => h1 ((hcond0_1 t).mp h))) (noFlush0_13_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexact HS0
        isplitl [HS1]; · iexact HS1
        iintro ⟨H0, H1, H2, H3, H4, H5, H6, H7, H8, H9, H10, H11, H12, H13, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13_C t (fun h => h0 ((hcond0_0 t).mp h)) ((hcond0_1 t).mpr h1)], after0_13]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_13 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [HS0]; · iexact HS0
        isplitl [HS1]; · iexact HS1
        iintro ⟨H0, H1, H2, H3, H4, H5, H6, H7, H8, H9, H10, H11, H12, ⟨%e13, H13⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        unfold owns; iexists _; isplitr
        swap; · iexact H13
        ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [Dat.leavesExact_idle (dats m 0 c) 13 t (idleAt0_13_B t (fun h => h0 ((hcond0_0 t).mp h)) (fun h => h1 ((hcond0_1 t).mp h))) (noFlush0_13_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexact HS0
        isplitl [HS1]; · iexact HS1
        iintro ⟨H0, H1, H2, H3, H4, H5, H6, H7, H8, H9, H10, H11, H12, H13, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelB`'s statement (Defs.lean) at any `F` — Proof.lean cites it at `Bits`:
    `theorem Cert.Proof.claim : Cert.Claim := ⟨Cert.KernelB.Gen.facts, fun m ρ _ => Cert.KernelB.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelB.Gen

end
-- ==== Proof.BIdealLn.lean ====
/-
  Hand-written, untrusted. What one trip of the LayerNorm loop of `KernelBIdeal` writes does not depend on what the result's memref
  held before: the pieces of the loop can be stated at any earlier contents of it.
-/
module

public import proofs.«01_k».proof.Proof.Gen.KernelBIdeal.Loops

@[expose] public section

set_option maxRecDepth 16384

noncomputable section

namespace Cert.KernelBIdeal.Gen

open Idealize.ShloMosaic Idealize.ShloMosaic.TcCoe Idealize.SL Idealize.SL.Sem

variable {F : FTy → Type} [FloatOps F]

/-- One trip's pieces of the result and of the accumulator, whatever the result's memref held. -/
theorem tripL_indep (𝒱 : Variants) (c : Dev nD) (bd : Option 𝒱.V) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (k0_h2 : k0_cond2 i = 1#1) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (k : Fin k0_t2_loop.trips) (f14 f14' : BufTy.Contents (Elt F) arg14.view.ty) (f15 : BufTy.Contents (Elt F) arg15.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15 = tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14' f15 := by
  unfold tripL_k0_t2 trip_k0_t2; rfl

/-- All trips' pieces, whatever the result's memref held. -/
theorem pb_indep (𝒱 : Variants) (c : Dev nD) (bd : Option 𝒱.V) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (k0_h2 : k0_cond2 i = 1#1) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (G14 G14' : BufTy.Contents (Elt F) arg14.view.ty) (G15 : BufTy.Contents (Elt F) arg15.view.ty) (k : ℕ) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14 G15 k = pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14' G15 k := by
  induction k with
  | zero => rfl
  | succ k ih =>
    rw [pb_k0_t2.eq_2, pb_k0_t2.eq_2, ih]
    unfold pb_k0_t2Step
    split
    · rw [tripL_indep (F := F) (f14' := arg14.view.writes (Elt F) G14' (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14' G15 k).1)]
    · rfl

end Cert.KernelBIdeal.Gen

end
-- ==== Proof.BIdealRunC.lean ====
/-
  Untrusted. The whole-body run of `KernelBIdeal`'s kernel in the LAST of its cases (the step that also runs the LayerNorm loop): the
  generated module's text, with one rewriting added before the buffers are handed over: the loop's pieces stated at no
  earlier contents of the result's memref (`pb_indep`). Without it the pieces would mention contents that the statement
  does not know.
-/
module

public import proofs.«01_k».proof.Proof.Gen.KernelBIdeal.Frame.RunB
public import proofs.«01_k».proof.Proof.BIdealLn

@[expose] public section

-- membership in a rectangle of production extents (`View.cover_of_tiled`): the elaborator's structural look
-- recurses once per coordinate of the long axes
set_option maxRecDepth 16384

noncomputable section

namespace Cert.KernelBIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) :
    Σ' (L13 : List (View.Piece (Elt F) S1280x4096 .i8)), { LS0 : List (View.Piece (Elt F) S1280x4096 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d) ∗ owns (c : Thread nD τ) arg15 fullShare xs0 ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ f, arg14.view.loc (c : Thread nD τ) ↦[arg14.view.set]{fullShare} arg14.view.writes (Elt F) f L13) ∗ (∃ f, arg15.view.loc (c : Thread nD τ) ↦[arg15.view.set]{fullShare} arg15.view.writes (Elt F) f LS0) ∗ (∃ d, owns (c : Thread nD τ) arg16 fullShare d)) -∗ K ⟨⟩))
          ⊢ wp frame (wpE (defs₀ (F := F)) Variants.none c none) E (cc0_ffn2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, ?_, fun E K => ?run⟩
  case run =>
    simp only [cc0_ffn2_eq_skeleton]; unfold cc0_ffn2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%fs0, %hfs0, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg15.eq_unread hfs0
    sl_exec (disch := first | sl_exact hc0 | sl_exact hc1)
    sl_step
    rw [pb_indep (F := F) (G14' := arg14.view.junk)]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]; · iexists _; iexact H13
    isplitl [HS0]; · iexists _; iexact HS0
    iexists _, _; isplitr; swap; · iexact HS1
    ipureintro; rfl

end Cert.KernelBIdeal.Gen

end
-- ==== Proof.BIdealFrame.lean ====
/-
  Untrusted. The frame of `KernelBIdeal`: the generated module's text, over `BIdealRunC` instead of the generated last case.
-/
module

public import proofs.«01_k».proof.Proof.BIdealRunC
public import Idealize.ShloMosaic.Lib.Claim

@[expose] public section

-- membership in a rectangle of production extents (`View.cover_of_tiled`): the elaborator's structural look
-- recurses once per coordinate of the long axes
set_option maxRecDepth 16384

noncomputable section

namespace Cert.KernelBIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A stores nothing into output 13 (the window is idle at its points and not written back there):
    no pieces — a placeholder (junk read back) that nothing consults, since at these points the window is neither
    written back nor read at the next point (Lib/Pipeline.lean "Idle points"). -/
def out0_A_13 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) : Vec F S1280x4096 .i8 :=
  VO0_13.read (Elt F) (VO0_13.writes (Elt F) VO0_13.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).1)

/-- Case A's pieces for scratch `arg15`, which the kernel carries between points, cover it: one of them a store of the WHOLE buffer (Lib/Ring.lean `sl_whole_mem`). -/
theorem scover0_A_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (y : S1280x4096.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1 (by sl_whole_mem) y

/-- What case A leaves in scratch `arg15`: its pieces read back over junk. -/
def sout0_A_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) : Vec F S1280x4096 .i32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1)

/-- Case B stores nothing into output 13 (the window is idle at its points and not written back there):
    no pieces — a placeholder (junk read back) that nothing consults, since at these points the window is neither
    written back nor read at the next point (Lib/Pipeline.lean "Idle points"). -/
def out0_B_13 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) : Vec F S1280x4096 .i8 :=
  VO0_13.read (Elt F) (VO0_13.writes (Elt F) VO0_13.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1)

/-- Case B's pieces for scratch `arg15`, which the kernel carries between points, cover it: 40 pieces of `S256x512` tiling it (Lib/Ring.lean `Piece.tiledL`). -/
theorem scover0_B_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) (y : S1280x4096.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1 S256x512.size (by sl_kernel_rfl) y

/-- What case B leaves in scratch `arg15`: its pieces read back over junk. -/
def sout0_B_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : ¬cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) : Vec F S1280x4096 .i32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1)

/-- Case C's pieces for output 13 tile its block (640 stores of `S64x128`, checked by the kernel's evaluation: Lib/Ring.lean `Piece.tiledL`, linear in the pieces, through a loop's `@[irreducible]` trip theorem too), so they cover it. -/
theorem cover0_C_13 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) (y : S1280x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1 S64x128.size (by sl_kernel_rfl) y

/-- What case C leaves in output 13's staging buffer: its pieces read back over junk. -/
def out0_C_13 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) : Vec F S1280x4096 .i8 :=
  VO0_13.read (Elt F) (VO0_13.writes (Elt F) VO0_13.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1)

/-- Case C's pieces for scratch `arg15`, which the kernel carries between points, cover it: 1320 pieces (stores and landed copies) of several sizes (`S256x512`, `S64x128`) tiling it when cut into blocks of `![64, 128]` (Lib/Ring.lean `Piece.tiledBy`). -/
theorem scover0_C_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) (y : S1280x4096.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1, y ∈ pc.1.set :=
  View.cover_of_tiledBy (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1 ![64, 128] (by sl_kernel_rfl) y

/-- What case C leaves in scratch `arg15`: its pieces read back over junk. -/
def sout0_C_0 (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec F S1280x1024 .i8) (x1 : Vec F S1024x4096 .i8) (x2 : Vec F S1280x4096 .i8) (x3 : Vec F S1x4096 .i32) (x4 : Vec F S1x4096 .i32) (x5 : Vec F S1x4096 .i32) (x6 : Vec F S1x4096 .i32) (x7 : Vec F S1x4096 .i32) (x8 : Vec F S1x4096 .i32) (x9 : Vec F S1x4096 .i32) (x10 : Vec F S1x4096 .i32) (x11 : Vec F S1x4096 .i32) (x12 : Vec F S1x4096 .i32) (xs0 : Vec F S1280x4096 .i32) : Vec F S1280x4096 .i32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1280x4096 .i8 × Vec F S1280x4096 .i32
  | 0, hn => (out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩) (iblk m c 10 ⟨0, hn⟩) (iblk m c 11 ⟨0, hn⟩) (iblk m c 12 ⟨0, hn⟩))
  | n + 1, hn =>
    if h0 : (n + 1) % 16 = 0 then
      if h1 : (n + 1) % 16 = 15 then
        False.elim (by have hN : n + 1 < 16 := lt_of_lt_of_eq hn (show cfg0.N = 16 from N_0); omega)
      else
        (out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩))
    else
      if h1 : (n + 1) % 16 = 15 then
        (out0_C_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)
      else
        (out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (outsAt0 c n (Nat.lt_of_succ_lt hn)).2)

/-- `outsAt0` at a point of case A: that case's contents. -/
theorem outsAt0_A (c : Dev nD) (t : Fin cfg0.N) (h0 : t.val % 16 = 0) (h1 : ¬t.val % 16 = 15) :
    outsAt0 m c t.val t.isLt = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2) ∗ (∃ d, owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2) ∗ (∃ d, owns (c : Thread nD τ) scM0_1 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2) ∗ (∃ d, owns (c : Thread nD τ) scM0_1 fullShare d)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 19200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [Dat.leavesExact_idle (dats m 0 c) 13 t (idleAt0_13_A t ((hcond0_0 t).mpr h0) (fun h => h1 ((hcond0_1 t).mp h))) (noFlush0_13_A t ((hcond0_0 t).mpr h0) (fun h => h1 ((hcond0_1 t).mp h)))]
      by_cases hz : t.val = 0
      · rw [PhiS_castSucc m c t, PhiS_zero m c _ _ hz, PhiA0_eq]
        rw [outsAt0_A m c t h0 h1]
        unfold sout0_A_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexact HS0
        isplitl [HS1]; · iexact HS1
        iintro ⟨H0, H1, H2, H3, H4, H5, H6, H7, H8, H9, H10, H11, H12, H13, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13
      · exfalso; have hN : t.val < 16 := lt_of_lt_of_eq t.isLt (show cfg0.N = 16 from N_0); omega
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13_C t (fun h => h0 ((hcond0_0 t).mp h)) ((hcond0_1 t).mpr h1)], after0_13]
      by_cases hz : t.val = 0
      · exfalso; have hN : t.val < 16 := lt_of_lt_of_eq t.isLt (show cfg0.N = 16 from N_0); omega
      · rw [PhiS_castSucc m c t, PhiS_pos m c _ _ hz]
        rw [outsAt0_C m c t h0 h1]
        unfold out0_C_13 sout0_C_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexists _; iexact H13
        isplitl [HS0]; · iexact HS0
        isplitl [HS1]; · iexact HS1
        iintro ⟨H0, H1, H2, H3, H4, H5, H6, H7, H8, H9, H10, H11, H12, ⟨%e13, H13⟩, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        unfold owns; iexists _; isplitr
        swap; · iexact H13
        ipureintro; exact View.read_writes_of_cover _ _ _ _ _ (cover0_C_13 c _ _ _ _ _ _ _ _ _ _ _ _ _ _ _ _ _ _ _ _ _ _ _ _ _ _ _ _ _ _ _ _ _ _ _ _ _ _ _ _ _ _ _ _ _ _ _ _ _)
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [Dat.leavesExact_idle (dats m 0 c) 13 t (idleAt0_13_B t (fun h => h0 ((hcond0_0 t).mp h)) (fun h => h1 ((hcond0_1 t).mp h))) (noFlush0_13_B t (fun h => h0 ((hcond0_0 t).mp h)) (fun h => h1 ((hcond0_1 t).mp h)))]
      by_cases hz : t.val = 0
      · exfalso; have hN : t.val < 16 := lt_of_lt_of_eq t.isLt (show cfg0.N = 16 from N_0); omega
      · rw [PhiS_castSucc m c t, PhiS_pos m c _ _ hz]
        rw [outsAt0_B m c t h0 h1]
        unfold sout0_B_0; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
        iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [HS0]; · iexact HS0
        isplitl [HS1]; · iexact HS1
        iintro ⟨H0, H1, H2, H3, H4, H5, H6, H7, H8, H9, H10, H11, H12, H13, ⟨%es0, HS0⟩, HS1⟩
        isplitl [HS0 HS1 Hg]
        · isplitl [HS0 HS1]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _)
            iexact HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        iexists _; iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_KernelBIdeal`'s statement (Defs.lean) at any `F` — Proof.lean cites it at `Bits`:
    `theorem Cert.Proof.claim : Cert.Claim := ⟨Cert.KernelBIdeal.Gen.facts, fun m ρ _ => Cert.KernelBIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.KernelBIdeal.Gen

end
-- ==== Proof.Words.lean ====
/-
  Hand-written, untrusted. THE ARITHMETIC, apart from any program: an i8 by i8 dot product read over the reals and
  converted to a 32-bit integer is the integer dot product; the integer requantisation as one function of words; the
  clip to a code; and the integer GELU, which the kernel computes in floats and the reference in integers.
-/
module

public import Idealize.ShloMosaic.PureOps
public import Idealize.ShloMosaic.PureOps.Ideal
public import Idealize.ShloMosaic.Lib.ValueIdx

@[expose] public section

noncomputable section

open scoped BigOperators

namespace Cert.Proof.Words

open Idealize.ShloMosaic

/-! ## Exact integers in floats -/

/-- A real that is an integer within the 32-bit range converts to that integer's word. -/
theorem fptosi_int (z : ℤ) (h1 : -2147483648 ≤ z) (h2 : z ≤ 2147483647) :
    Ideal.fptosi 32 (((z : ℝ)) : EReal) = BitVec.ofInt 32 z := by
  have e : Ideal.toIntClamped (-(2 ^ (32 - 1) : Nat)) ((2 ^ (32 - 1) : Nat) - 1) (((z : ℝ)) : EReal) = z := by
    show max (-((2 ^ (32 - 1) : Nat) : ℤ)) (min (((2 ^ (32 - 1) : Nat) : ℤ) - 1) (if 0 ≤ (z : ℝ) then ⌊(z : ℝ)⌋ else ⌈(z : ℝ)⌉)) = z
    rw [Int.floor_intCast, Int.ceil_intCast, ite_self]
    norm_num
    omega
  unfold Ideal.fptosi
  rw [e]

/-- A sum of products of integers, each read as a real, is the integer sum read as a real. -/
theorem sum_coe {n : ℕ} (a b : Fin n → ℤ) :
    (0 : EReal) + ∑ k, (((a k : ℤ) : ℝ) : EReal) * (((b k : ℤ) : ℝ) : EReal) = (((∑ k, a k * b k : ℤ) : ℝ) : EReal) := by
  rw [zero_add]
  have h : ∀ s : Finset (Fin n), ∑ k ∈ s, (((a k : ℤ) : ℝ) : EReal) * (((b k : ℤ) : ℝ) : EReal)
      = (((∑ k ∈ s, a k * b k : ℤ) : ℝ) : EReal) := by
    intro s
    induction s using Finset.cons_induction with
    | empty => simp
    | cons i s hi ih => rw [Finset.sum_cons, Finset.sum_cons, ih, ← EReal.coe_mul, ← EReal.coe_add]; push_cast; rfl
  exact h Finset.univ

/-- A sum of `n` products of 8-bit integers is at most `16384 n` in magnitude. -/
theorem dot_bound {n : ℕ} (a b : Fin n → BitVec 8) :
    |∑ k, (a k).toInt * (b k).toInt| ≤ 16384 * (n : ℤ) := by
  refine (Finset.abs_sum_le_sum_abs _ _).trans ?_
  refine (Finset.sum_le_card_nsmul _ _ 16384 fun k _ => ?_).trans (by simp [mul_comm])
  have h1 := (a k).toInt_lt; have h2 := (a k).le_toInt
  have h3 := (b k).toInt_lt; have h4 := (b k).le_toInt
  norm_num at h1 h2 h3 h4
  rw [abs_mul]
  have ha : |(a k).toInt| ≤ 128 := abs_le.2 ⟨by omega, by omega⟩
  have hb : |(b k).toInt| ≤ 128 := abs_le.2 ⟨by omega, by omega⟩
  calc |(a k).toInt| * |(b k).toInt| ≤ 128 * 128 := mul_le_mul ha hb (abs_nonneg _) (by norm_num)
    _ = 16384 := by norm_num

/-- THE DOT PRODUCT: up to 16384 products of 8-bit integers, summed over the reals from zero and converted to a 32-bit
    integer, are the word of the integer sum. -/
theorem dot_fptosi {n : ℕ} (hn : n ≤ 16384) (a b : Fin n → BitVec 8) :
    Ideal.fptosi 32 ((0 : EReal) + ∑ k, (((a k).toInt : ℝ) : EReal) * (((b k).toInt : ℝ) : EReal))
      = BitVec.ofInt 32 (∑ k, (a k).toInt * (b k).toInt) := by
  rw [sum_coe (fun k => (a k).toInt) (fun k => (b k).toInt)]
  have h := abs_le.1 (dot_bound a b)
  have hn' : (n : ℤ) ≤ 16384 := by exact_mod_cast hn
  exact fptosi_int _ (by omega) (by omega)

/-! ## The requantisation -/

/-- The dyadic requantisation of `v` by `m / 2^(l + rest)`, as words: the high part `v >> l` times `m`, plus the low
    part times `m` rounded and shifted by `l`, all shifted by `rest`. -/
def rq (v m l rnd rest : BitVec 32) : BitVec 32 :=
  IntOp.shrsi .vector
    (IntOp.addi (IntOp.muli (IntOp.shrsi .vector v l) m)
      (IntOp.shrsi .vector
        (IntOp.addi (IntOp.muli (IntOp.andi v (IntOp.subi (IntOp.shli .vector 1#32 l) 1#32)) m) rnd) l)) rest

/-- The requantisation by `m / 2^k`: the low part is `min (k, 15)` bits and the rounding term is `2^(k-1)`. -/
def rqk (v m k : BitVec 32) : BitVec 32 :=
  rq v m (IntOp.minsi k 15#32) (IntOp.shli .vector 1#32 (IntOp.subi k 1#32)) (IntOp.subi k (IntOp.minsi k 15#32))

/-! ## The clip to a code of 13 bits -/

/-- The clip of a word to `[-4095, 4095]`. -/
def clip4095 (w : BitVec 32) : BitVec 32 := IntOp.minsi 4095#32 (IntOp.maxsi 4294963201#32 w)

/-- The clip's value as an integer. -/
theorem clip4095_toInt (w : BitVec 32) : (clip4095 w).toInt = min 4095 (max (-4095) w.toInt) := by
  unfold clip4095 IntOp.minsi IntOp.maxsi
  simp only [BitVec.slt_iff_toInt_lt]
  have e1 : (4294963201#32 : BitVec 32).toInt = -4095 := by decide
  have e2 : (4095#32 : BitVec 32).toInt = 4095 := by decide
  rw [e1]
  split <;> rename_i h1 <;> split <;> rename_i h2 <;> simp only [e1, e2] at * <;> omega

/-- The clip in floats of an integer is the clipped word's integer. -/
theorem clip_float (w : BitVec 32) :
    min ((4095 : ℝ) : EReal) (max ((-4095 : ℝ) : EReal) ((w.toInt : ℝ) : EReal)) = (((clip4095 w).toInt : ℝ) : EReal) := by
  rw [clip4095_toInt, ← EReal.coe_strictMono.monotone.map_max, ← EReal.coe_strictMono.monotone.map_min]
  push_cast
  rfl

/-! ## The integer GELU -/

/-- The integer GELU's polynomial and step on a code, in integers: `q` times `floor (± (453850 - t²) / 256) + 1772`,
    `t = min (|q|, 640) - 641`. -/
def geluProd (q : ℤ) : ℤ :=
  let t := min |q| 640 - 641
  let e := 453850 - t * t
  q * ((if q < 0 then -e else e) / 256 + 1772)

/-- The GELU's code: the product scaled by `18927 / 2^29`, rounded half up and clipped to `[-127, 127]`. -/
def geluCode (q : ℤ) : ℤ := max (-127) (min 127 ((geluProd q * 18927 + 268435456) / 536870912))

/-- The integer GELU's product as the words the reference computes. -/
def geluW (w : BitVec 32) : BitVec 32 :=
  let t := IntOp.addi (IntOp.minsi (IntOp.absi w) 640#32) 4294966655#32
  let s := IntOp.subi ((IntOp.cmpi .sgt w 0#32).setWidth 32) ((IntOp.cmpi .slt w 0#32).setWidth 32)
  let e := IntOp.muli s (IntOp.subi 453850#32 (IntOp.muli t t))
  IntOp.muli w (IntOp.addi (IntOp.shrsi .vector e 8#32) 1772#32)

/-- The GELU's code as the words the reference computes. -/
def geluH (w : BitVec 32) : BitVec 8 :=
  BitVec.setWidth 8 (IntOp.minsi 127#32 (IntOp.maxsi 4294967169#32
    (rq (geluW w) 18927#32 15#32 268435456#32 14#32)))

/-- The product of a code is below `2^24`. -/
theorem geluProd_bound (q : ℤ) (h1 : -4095 ≤ q) (h2 : q ≤ 4095) : -16777216 < geluProd q ∧ geluProd q < 16777216 := by
  unfold geluProd
  set t := min |q| 640 - 641 with ht
  have ha : 0 ≤ |q| := abs_nonneg q
  have t1 : -641 ≤ t := by omega
  have t2 : t ≤ -1 := by omega
  have s1 : 0 ≤ t * t := mul_self_nonneg t
  have s2 : t * t ≤ 410881 := by nlinarith
  have g1 : -1 ≤ (if q < 0 then -(453850 - t * t) else 453850 - t * t) / 256 + 1772 := by split <;> omega
  have g2 : (if q < 0 then -(453850 - t * t) else 453850 - t * t) / 256 + 1772 ≤ 3544 := by split <;> omega
  show -16777216 < q * ((if q < 0 then -(453850 - t * t) else 453850 - t * t) / 256 + 1772)
    ∧ q * ((if q < 0 then -(453850 - t * t) else 453850 - t * t) / 256 + 1772) < 16777216
  generalize (if q < 0 then -(453850 - t * t) else 453850 - t * t) / 256 + 1772 = g at *
  constructor <;> nlinarith

/-- A word of an integer in the 32-bit range has that integer. -/
theorem toInt_ofInt (z : ℤ) (h1 : -2147483648 ≤ z) (h2 : z ≤ 2147483647) : (BitVec.ofInt 32 z).toInt = z := by
  rw [BitVec.toInt_ofInt]
  exact Int.bmod_eq_of_le (by norm_num; omega) (by norm_num; omega)

/-- The smaller of two integers' words. -/
theorem minsi_ofInt (a b : ℤ) (ha : -2147483648 ≤ a ∧ a ≤ 2147483647) (hb : -2147483648 ≤ b ∧ b ≤ 2147483647) :
    IntOp.minsi (BitVec.ofInt 32 a) (BitVec.ofInt 32 b) = BitVec.ofInt 32 (min a b) := by
  unfold IntOp.minsi
  rw [BitVec.slt_eq_decide, toInt_ofInt a ha.1 ha.2, toInt_ofInt b hb.1 hb.2]
  by_cases h : a < b
  · rw [if_pos (by simpa using h), min_eq_left h.le]
  · rw [if_neg (by simpa using h), min_eq_right (not_lt.1 h)]

/-- The larger of two integers' words. -/
theorem maxsi_ofInt (a b : ℤ) (ha : -2147483648 ≤ a ∧ a ≤ 2147483647) (hb : -2147483648 ≤ b ∧ b ≤ 2147483647) :
    IntOp.maxsi (BitVec.ofInt 32 a) (BitVec.ofInt 32 b) = BitVec.ofInt 32 (max a b) := by
  unfold IntOp.maxsi
  rw [BitVec.slt_eq_decide, toInt_ofInt a ha.1 ha.2, toInt_ofInt b hb.1 hb.2]
  by_cases h : b < a
  · rw [if_pos (by simpa using h), max_eq_left h.le]
  · rw [if_neg (by simpa using h), max_eq_right (not_lt.1 h)]

/-- The magnitude of an integer's word. -/
theorem absi_ofInt (a : ℤ) (ha : -2147483648 ≤ a ∧ a ≤ 2147483647) : IntOp.absi (BitVec.ofInt 32 a) = BitVec.ofInt 32 |a| := by
  unfold IntOp.absi
  rw [BitVec.msb_eq_toInt, toInt_ofInt a ha.1 ha.2]
  by_cases h : a < 0
  · rw [if_pos (by simpa using h), abs_of_neg h, BitVec.ofInt_neg]
  · rw [if_neg (by simpa using h), abs_of_nonneg (not_lt.1 h)]

/-- The arithmetic shift of an integer's word by a constant is the floor of its quotient by the power of two. -/
theorem shrsi_ofInt (a : ℤ) (n : ℕ) (hn : n < 32) (ha : -2147483648 ≤ a ∧ a ≤ 2147483647) :
    IntOp.shrsi .vector (BitVec.ofInt 32 a) (BitVec.ofNat 32 n) = BitVec.ofInt 32 (a / 2 ^ n) := by
  have hn' : (BitVec.ofNat 32 n).toNat = n := by
    rw [BitVec.toNat_ofNat]; exact Nat.mod_eq_of_lt (by omega)
  unfold IntOp.shrsi
  rw [hn', if_pos hn]
  apply BitVec.eq_of_toInt_eq
  rw [BitVec.sshiftRight', hn', BitVec.toInt_sshiftRight, toInt_ofInt a ha.1 ha.2, Int.shiftRight_eq_div_pow]
  have hp : (0 : ℤ) < 2 ^ n := by positivity
  have h1 : -2147483648 ≤ a / 2 ^ n := by
    rw [Int.le_ediv_iff_mul_le hp]
    have : (1 : ℤ) ≤ 2 ^ n := hp
    nlinarith
  have h2 : a / 2 ^ n ≤ 2147483647 := by
    have := Int.ediv_le_ediv hp ha.2
    refine this.trans (Int.ediv_le_self _ (by norm_num))
  push_cast
  rw [toInt_ofInt _ h1 h2]

/-- Keeping the low fifteen bits of an integer's word is its remainder by `2^15`. -/
theorem andi_mask_ofInt (a : ℤ) : IntOp.andi (BitVec.ofInt 32 a) 32767#32 = BitVec.ofInt 32 (a % 32768) := by
  apply BitVec.eq_of_toNat_eq
  show (BitVec.ofInt 32 a &&& 32767#32).toNat = _
  rw [BitVec.toNat_and]
  show (BitVec.ofInt 32 a).toNat &&& (2 ^ 15 - 1) = _
  rw [Nat.and_two_pow_sub_one_eq_mod]
  simp only [BitVec.toNat_ofInt]
  omega

/-- On every code the reference's words are the integer GELU's code. -/
theorem geluH_ofInt (q : ℤ) (h1 : -4095 ≤ q) (h2 : q ≤ 4095) : geluH (BitVec.ofInt 32 q) = BitVec.ofInt 8 (geluCode q) := by
  rcases eq_or_ne q 0 with rfl | hq
  · decide
  have hb := geluProd_bound q h1 h2
  have hW : geluW (BitVec.ofInt 32 q) = BitVec.ofInt 32 (geluProd q) := by
    unfold geluW
    rw [absi_ofInt q (by omega), show (640#32 : BitVec 32) = BitVec.ofInt 32 640 from rfl,
      minsi_ofInt |q| 640 ⟨by have := abs_nonneg q; omega, by have := abs_le.2 ⟨h1, h2⟩; omega⟩ (by norm_num),
      show (4294966655#32 : BitVec 32) = BitVec.ofInt 32 (-641) from rfl]
    have hs : IntOp.subi ((IntOp.cmpi .sgt (BitVec.ofInt 32 q) 0#32).setWidth 32) ((IntOp.cmpi .slt (BitVec.ofInt 32 q) 0#32).setWidth 32)
        = BitVec.ofInt 32 (if q < 0 then -1 else 1) := by
      unfold IntOp.cmpi
      simp only [BitVec.slt_eq_decide, toInt_ofInt q (by omega) (by omega), show (0#32 : BitVec 32).toInt = 0 from rfl]
      by_cases h : q < 0
      · rw [if_pos h, decide_eq_false (by omega), decide_eq_true h]; decide
      · rw [if_neg h, decide_eq_true (by omega), decide_eq_false h]; decide
    rw [hs]
    have ha0 : 0 ≤ |q| := abs_nonneg q
    set t : ℤ := min |q| 640 - 641 with ht
    have t1 : -641 ≤ t := by omega
    have t2 : t ≤ -1 := by omega
    have s1 : 0 ≤ t * t := mul_self_nonneg t
    have s2 : t * t ≤ 410881 := by nlinarith
    have e1 : IntOp.addi (BitVec.ofInt 32 (min |q| 640)) (BitVec.ofInt 32 (-641)) = BitVec.ofInt 32 t := by
      show _ + _ = _
      rw [← BitVec.ofInt_add, ht]; congr 1
    rw [e1]
    have e2 : IntOp.muli (BitVec.ofInt 32 (if q < 0 then -1 else 1)) (IntOp.subi 453850#32 (IntOp.muli (BitVec.ofInt 32 t) (BitVec.ofInt 32 t)))
        = BitVec.ofInt 32 (if q < 0 then -(453850 - t * t) else 453850 - t * t) := by
      show BitVec.ofInt 32 _ * (BitVec.ofInt 32 453850 - BitVec.ofInt 32 t * BitVec.ofInt 32 t) = _
      rw [← BitVec.ofInt_mul, BitVec.sub_eq_add_neg, ← BitVec.ofInt_neg, ← BitVec.ofInt_add, ← BitVec.ofInt_mul]
      congr 1
      split <;> ring
    dsimp only
    rw [e2]
    have e3 := shrsi_ofInt (if q < 0 then -(453850 - t * t) else 453850 - t * t) 8 (by norm_num) (by split <;> omega)
    show IntOp.muli _ (IntOp.addi (IntOp.shrsi .vector (BitVec.ofInt 32 _) 8#32) 1772#32) = _
    rw [e3]
    show BitVec.ofInt 32 q * (BitVec.ofInt 32 _ + BitVec.ofInt 32 1772) = _
    rw [← BitVec.ofInt_add, ← BitVec.ofInt_mul]
    rfl
  unfold geluH geluCode
  rw [hW]
  generalize geluProd q = v at hb
  have hR : rq (BitVec.ofInt 32 v) 18927#32 15#32 268435456#32 14#32 = BitVec.ofInt 32 ((v * 18927 + 268435456) / 536870912) := by
    unfold rq
    have e1 := shrsi_ofInt v 15 (by norm_num) (by omega)
    have e2 : IntOp.andi (BitVec.ofInt 32 v) (IntOp.subi (IntOp.shli .vector 1#32 15#32) 1#32) = BitVec.ofInt 32 (v % 32768) := andi_mask_ofInt v
    rw [e1, e2]
    have e3 : IntOp.addi (IntOp.muli (BitVec.ofInt 32 (v % 32768)) 18927#32) 268435456#32 = BitVec.ofInt 32 (v % 32768 * 18927 + 268435456) := by
      show BitVec.ofInt 32 _ * BitVec.ofInt 32 18927 + BitVec.ofInt 32 268435456 = _
      rw [← BitVec.ofInt_mul, ← BitVec.ofInt_add]
    have e4 := shrsi_ofInt (v % 32768 * 18927 + 268435456) 15 (by norm_num) (by omega)
    rw [e3, e4]
    have e5 : IntOp.addi (IntOp.muli (BitVec.ofInt 32 (v / 2 ^ 15)) 18927#32) (BitVec.ofInt 32 ((v % 32768 * 18927 + 268435456) / 2 ^ 15))
        = BitVec.ofInt 32 (v / 2 ^ 15 * 18927 + (v % 32768 * 18927 + 268435456) / 2 ^ 15) := by
      show BitVec.ofInt 32 _ * BitVec.ofInt 32 18927 + _ = _
      rw [← BitVec.ofInt_mul, ← BitVec.ofInt_add]
    have e6 := shrsi_ofInt (v / 2 ^ 15 * 18927 + (v % 32768 * 18927 + 268435456) / 2 ^ 15) 14 (by norm_num) (by omega)
    rw [e5, e6]
    congr 1
    omega
  rw [hR, show (4294967169#32 : BitVec 32) = BitVec.ofInt 32 (-127) from rfl, show (127#32 : BitVec 32) = BitVec.ofInt 32 127 from rfl,
    maxsi_ofInt _ _ (by norm_num) (by omega), minsi_ofInt _ _ (by norm_num) (by omega)]
  have hc : min 127 (max (-127) ((v * 18927 + 268435456) / 536870912)) = max (-127) (min 127 ((v * 18927 + 268435456) / 536870912)) := by omega
  rw [hc]
  show BitVec.setWidth 8 (BitVec.ofInt 32 (max (-127) (min 127 ((v * 18927 + 268435456) / 536870912)))) = BitVec.ofInt 8 (max (-127) (min 127 ((v * 18927 + 268435456) / 536870912)))
  apply BitVec.eq_of_toNat_eq
  simp only [BitVec.toNat_setWidth, BitVec.toNat_ofInt]
  omega

/-- … stated of a word whose integer is a code. -/
theorem geluH_eq (w : BitVec 32) (h1 : -4095 ≤ w.toInt) (h2 : w.toInt ≤ 4095) : geluH w = BitVec.ofInt 8 (geluCode w.toInt) := by
  have h := geluH_ofInt w.toInt h1 h2
  rw [BitVec.ofInt_toInt] at h
  exact h

/-- A multiple of `18927 / 2^29` with a numerator below `2^24` is never half way between two integers: rounding half to
    even after the clip is rounding half up before it. -/
theorem round_clip (v : ℤ) (h1 : -16777216 < v) (h2 : v < 16777216) :
    Ideal.roundHalfEven (max (-127) (min 127 ((v : ℝ) * (18927 / 536870912)))) = max (-127) (min 127 ((v * 18927 + 268435456) / 536870912)) := by
  have hr : (v : ℝ) * (18927 / 536870912) = ((v * 18927 : ℤ) : ℝ) / 536870912 := by push_cast; ring
  rw [hr]
  generalize hN : v * 18927 = N
  have hcase : 127 * 536870912 ≤ N ∨ N ≤ -127 * 536870912 ∨ (-127 * 536870912 < N ∧ N < 127 * 536870912) := by omega
  have int_round : ∀ z : ℤ, Ideal.roundHalfEven (z : ℝ) = z := fun z => by
    unfold Ideal.roundHalfEven; simp
  rcases hcase with h | h | ⟨ha, hb⟩
  · have hb : (127 : ℝ) ≤ (N : ℝ) / 536870912 := by
      rw [le_div_iff₀ (by norm_num)]; exact_mod_cast h
    rw [min_eq_left hb, max_eq_right (by norm_num)]
    rw [show (127 : ℝ) = ((127 : ℤ) : ℝ) by norm_num, int_round]
    omega
  · have hb : (N : ℝ) / 536870912 ≤ -127 := by
      rw [div_le_iff₀ (by norm_num)]; exact_mod_cast h
    rw [min_eq_right (by linarith), max_eq_left hb]
    rw [show (-127 : ℝ) = ((-127 : ℤ) : ℝ) by norm_num, int_round]
    omega
  · have hlo : (-127 : ℝ) < (N : ℝ) / 536870912 := by
      rw [lt_div_iff₀ (by norm_num)]; exact_mod_cast ha
    have hhi : (N : ℝ) / 536870912 < 127 := by
      rw [div_lt_iff₀ (by norm_num)]; exact_mod_cast hb
    rw [min_eq_right hhi.le, max_eq_right hlo.le]
    have hfl : ⌊(N : ℝ) / 536870912⌋ = N / 536870912 := by
      have := Int.floor_div_natCast (k := ℝ) (N : ℝ) 536870912
      rw [Int.floor_eq_iff]
      have e := Int.mul_ediv_add_emod N 536870912
      have m0 := Int.emod_nonneg N (show (536870912 : ℤ) ≠ 0 by norm_num)
      have m1 := Int.emod_lt_of_pos N (show (0 : ℤ) < 536870912 by norm_num)
      constructor
      · rw [le_div_iff₀ (by norm_num)]; exact_mod_cast (by omega : N / 536870912 * 536870912 ≤ N)
      · rw [div_lt_iff₀ (by norm_num)]; exact_mod_cast (by omega : N < (N / 536870912 + 1) * 536870912)
    have hfr : (N : ℝ) / 536870912 - ((N / 536870912 : ℤ) : ℝ) = ((N % 536870912 : ℤ) : ℝ) / 536870912 := by
      have e := Int.mul_ediv_add_emod N 536870912
      rw [eq_div_iff (by norm_num), sub_mul, div_mul_cancel₀ _ (by norm_num)]
      have : (N : ℝ) = ((536870912 * (N / 536870912) + N % 536870912 : ℤ) : ℝ) := by rw [e]
      push_cast at this ⊢
      linarith
    have hcl : max (-127) (min 127 ((N + 268435456) / 536870912)) = (N + 268435456) / 536870912 := by omega
    unfold Ideal.roundHalfEven
    simp only [hfl, hfr]
    rw [hcl]
    have m0 := Int.emod_nonneg N (show (536870912 : ℤ) ≠ 0 by norm_num)
    have m1 := Int.emod_lt_of_pos N (show (0 : ℤ) < 536870912 by norm_num)
    have e := Int.mul_ediv_add_emod N 536870912
    rcases lt_trichotomy (N % 536870912) 268435456 with hlt | heq | hgt
    · have : ((N % 536870912 : ℤ) : ℝ) / 536870912 < 1 / 2 := by
        rw [div_lt_iff₀ (by norm_num)]
        have : ((N % 536870912 : ℤ) : ℝ) < 268435456 := by exact_mod_cast hlt
        linarith
      rw [if_pos this]; omega
    · exfalso; omega
    · have h' : 1 / 2 < ((N % 536870912 : ℤ) : ℝ) / 536870912 := by
        rw [lt_div_iff₀ (by norm_num)]
        have : (268435456 : ℝ) < ((N % 536870912 : ℤ) : ℝ) := by exact_mod_cast hgt
        linarith
      rw [if_neg (not_lt.2 h'.le), if_pos h']; omega

/-- The kernel's float GELU of a real `q`: the same polynomial, the sign by a comparison with zero, the quotient by 256
    a product and a floor, and the scaled product clipped and rounded half to even. -/
def geluF (x : EReal) : BitVec 8 :=
  let t : EReal := min (max x (-x)) ((640 : ℝ) : EReal) + ((-641 : ℝ) : EReal)
  let e : EReal := ((453850 : ℝ) : EReal) - t * t
  let s : EReal := Scalar.select (Ideal.cmp .olt x 0) (0 - e) e
  let g : EReal := Ideal.liftRound Int.floor (s * ((1 / 256 : ℝ) : EReal)) + ((1772 : ℝ) : EReal)
  BitVec.setWidth 8 (Ideal.fptosi 32 (Ideal.liftRound Ideal.roundHalfEven
    (min ((127 : ℝ) : EReal) (max ((-127 : ℝ) : EReal) (x * g * ((18927 / 536870912 : ℝ) : EReal))))))

/-- THE GELU: on a code the kernel's float GELU is the reference's integer one. -/
theorem geluF_eq (w : BitVec 32) (h1 : -4095 ≤ w.toInt) (h2 : w.toInt ≤ 4095) :
    geluF ((w.toInt : ℝ) : EReal) = geluH w := by
  rw [geluH_eq w h1 h2]
  generalize w.toInt = q at h1 h2
  have hb := geluProd_bound q h1 h2
  set t : ℤ := min |q| 640 - 641 with ht
  set e : ℤ := 453850 - t * t with he
  set s : ℤ := if q < 0 then -e else e with hs
  have e1 : min (max (((q : ℝ)) : EReal) (-((q : ℝ) : EReal))) ((640 : ℝ) : EReal) + ((-641 : ℝ) : EReal) = ((t : ℝ) : EReal) := by
    rw [← EReal.coe_neg, ← EReal.coe_strictMono.monotone.map_max, ← EReal.coe_strictMono.monotone.map_min, ← EReal.coe_add, ht]
    congr 1
    push_cast
    rw [abs_eq_max_neg]; ring
  have e2 : ((453850 : ℝ) : EReal) - ((t : ℝ) : EReal) * ((t : ℝ) : EReal) = ((e : ℝ) : EReal) := by
    rw [← EReal.coe_mul, ← EReal.coe_sub, he]; push_cast; rfl
  have e3 : (Scalar.select (Ideal.cmp .olt ((q : ℝ) : EReal) 0) ((0 : EReal) - ((e : ℝ) : EReal)) ((e : ℝ) : EReal) : EReal) = ((s : ℝ) : EReal) := by
    rw [hs]
    by_cases hq : q < 0
    · have hc : Ideal.cmp .olt ((q : ℝ) : EReal) 0 = 1#1 := by
        have : ((q : ℝ) : EReal) < 0 := by
          rw [← EReal.coe_zero, EReal.coe_lt_coe_iff]; exact_mod_cast hq
        show BitVec.ofBool (decide (((q : ℝ) : EReal) < 0)) = 1#1
        rw [decide_eq_true this]; rfl
      rw [hc, if_pos hq]
      show (0 : EReal) - ((e : ℝ) : EReal) = _
      rw [zero_sub, ← EReal.coe_neg]; push_cast; rfl
    · have hc : Ideal.cmp .olt ((q : ℝ) : EReal) 0 = 0#1 := by
        have : ¬((q : ℝ) : EReal) < 0 := by
          rw [← EReal.coe_zero, EReal.coe_lt_coe_iff]; exact_mod_cast hq
        show BitVec.ofBool (decide (((q : ℝ) : EReal) < 0)) = 0#1
        rw [decide_eq_false this]; rfl
      rw [hc, if_neg hq]
      rfl
  have e4 : Ideal.liftRound Int.floor (((s : ℝ) : EReal) * ((1 / 256 : ℝ) : EReal)) + ((1772 : ℝ) : EReal) = (((s / 256 + 1772 : ℤ) : ℝ) : EReal) := by
    rw [← EReal.coe_mul]
    show (((⌊(s : ℝ) * (1 / 256)⌋ : ℤ) : ℝ) : EReal) + _ = _
    have : ⌊(s : ℝ) * (1 / 256)⌋ = s / 256 := by
      rw [Int.floor_eq_iff]
      constructor
      · rw [mul_one_div, le_div_iff₀ (by norm_num)]; exact_mod_cast (by omega : s / 256 * 256 ≤ s)
      · rw [mul_one_div, div_lt_iff₀ (by norm_num)]; exact_mod_cast (by omega : s < (s / 256 + 1) * 256)
    rw [this, ← EReal.coe_add]; push_cast; rfl
  have e5 : q * (s / 256 + 1772) = geluProd q := rfl
  show BitVec.setWidth 8 (Ideal.fptosi 32 (Ideal.liftRound Ideal.roundHalfEven
    (min ((127 : ℝ) : EReal) (max ((-127 : ℝ) : EReal) (((q : ℝ) : EReal)
      * (Ideal.liftRound Int.floor ((Scalar.select (Ideal.cmp .olt ((q : ℝ) : EReal) 0)
          ((0 : EReal) - (((453850 : ℝ) : EReal) - (min (max (((q : ℝ)) : EReal) (-((q : ℝ) : EReal))) ((640 : ℝ) : EReal) + ((-641 : ℝ) : EReal)) * (min (max (((q : ℝ)) : EReal) (-((q : ℝ) : EReal))) ((640 : ℝ) : EReal) + ((-641 : ℝ) : EReal))))
          (((453850 : ℝ) : EReal) - (min (max (((q : ℝ)) : EReal) (-((q : ℝ) : EReal))) ((640 : ℝ) : EReal) + ((-641 : ℝ) : EReal)) * (min (max (((q : ℝ)) : EReal) (-((q : ℝ) : EReal))) ((640 : ℝ) : EReal) + ((-641 : ℝ) : EReal))) : EReal) * ((1 / 256 : ℝ) : EReal)) + ((1772 : ℝ) : EReal))
      * ((18927 / 536870912 : ℝ) : EReal)))))) = _
  rw [e1, e2, e3, e4]
  rw [← EReal.coe_mul, ← EReal.coe_mul, ← EReal.coe_strictMono.monotone.map_max, ← EReal.coe_strictMono.monotone.map_min]
  have e6 : min (127 : ℝ) (max (-127) ((q : ℝ) * ((s / 256 + 1772 : ℤ) : ℝ) * (18927 / 536870912)))
      = max (-127) (min 127 ((geluProd q : ℝ) * (18927 / 536870912))) := by
    rw [← e5]; push_cast
    rw [max_min_distrib_left, max_eq_right (by norm_num : (-127 : ℝ) ≤ 127)]
  rw [e6]
  show BitVec.setWidth 8 (Ideal.fptosi 32 (((Ideal.roundHalfEven (max (-127) (min 127 ((geluProd q : ℝ) * (18927 / 536870912)))) : ℤ) : ℝ) : EReal)) = _
  rw [round_clip _ hb.1 hb.2]
  have hc : -127 ≤ geluCode q ∧ geluCode q ≤ 127 := by unfold geluCode; omega
  show BitVec.setWidth 8 (Ideal.fptosi 32 (((geluCode q : ℤ) : ℝ) : EReal)) = _
  rw [fptosi_int _ (by omega) (by omega)]
  generalize geluCode q = z at hc
  apply BitVec.eq_of_toNat_eq
  simp only [BitVec.toNat_setWidth, BitVec.toNat_ofInt]
  omega

end Cert.Proof.Words

end
-- ==== Proof.Ffn1Block.lean ====
/-
  Hand-written, untrusted. WHAT ONE BLOCK OF ROWS OF THE FIRST KERNEL COMPUTES, at the idealized floats: the body's five row
  blocks are one chain of vector operations over four pieces of the contraction, and an element of that chain is the
  integer dot product plus the bias, requantised and clipped to a code (`code`), with the integer GELU of the code beside it.
-/
module

public import proofs.«01_k».proof.Proof.Gen.KernelIdeal
public import Idealize.ShloMosaic.Lib.Pipeline.ValueKit
public import proofs.«01_k».proof.Proof.Words

@[expose] public section

noncomputable section

open scoped BigOperators

namespace Cert.Proof.Ffn1

open Cert.KernelIdeal Cert.KernelIdeal.Gen Idealize.ShloMosaic Cert.Proof.Words

/-- The code of one element: the dot product's word plus the bias, requantised by the words `m`, `l`, `rnd`, `rest` and
    clipped to `[-4095, 4095]`. -/
def code {n : ℕ} (x w : Fin n → BitVec 8) (b m l rnd rest : BitVec 32) : BitVec 32 :=
  clip4095 (rq (BitVec.ofInt 32 (∑ k, (x k).toInt * (w k).toInt) + b) m l rnd rest)

/-- The chain of one block of rows up to the clipped code, a float. -/
def qf (A0 A1 A2 A3 : FVec Ideal S256x1024 .bf16) (B0 B1 B2 B3 : FVec Ideal S1024x512 .bf16) (b m l rnd rest : IVec S1x512 32) :
    FVec Ideal S256x512 .f32 :=
  have z : FVec Ideal S256x512 .f32 := constant S256x512 .f32 0x00000000#32
  have d0 : IVec S256x512 32 := fptosi 32 (matmul dot_S256x1024_S1024x512_S256x512_1_0_0_1_n_n none A0 B0 z)
  have d1 : IVec S256x512 32 := fptosi 32 (matmul dot_S256x1024_S1024x512_S256x512_1_0_0_1_n_n none A1 B1 z)
  have d2 : IVec S256x512 32 := fptosi 32 (matmul dot_S256x1024_S1024x512_S256x512_1_0_0_1_n_n none A2 B2 z)
  have d3 : IVec S256x512 32 := fptosi 32 (matmul dot_S256x1024_S1024x512_S256x512_1_0_0_1_n_n none A3 B3 z)
  have v : IVec S256x512 32 := addi (addi (addi (addi d0 d1) d2) d3) (broadcastTo S256x512 b broadcasts_S1x512_S256x512)
  have one : IVec S1x512 32 := broadcast S1x512 1#32
  have mask : IVec S1x512 32 := subi (shli one l) one
  have lo : IVec S256x512 32 := andi v (broadcastTo S256x512 mask broadcasts_S1x512_S256x512)
  have hi : IVec S256x512 32 := shrsi v (broadcastTo S256x512 l broadcasts_S1x512_S256x512)
  have him : IVec S256x512 32 := muli hi (broadcastTo S256x512 m broadcasts_S1x512_S256x512)
  have lom : IVec S256x512 32 := muli lo (broadcastTo S256x512 m broadcasts_S1x512_S256x512)
  have lor : IVec S256x512 32 := addi lom (broadcastTo S256x512 rnd broadcasts_S1x512_S256x512)
  have los : IVec S256x512 32 := shrsi lor (broadcastTo S256x512 l broadcasts_S1x512_S256x512)
  have s : IVec S256x512 32 := shrsi (addi him los) (broadcastTo S256x512 rest broadcasts_S1x512_S256x512)
  minimumf (broadcast S256x512 (Scalar.ofBits (F := Ideal) .f32 0x457FF000#32))
    (maximumf (broadcast S256x512 (Scalar.ofBits (F := Ideal) .f32 0xC57FF000#32)) (sitofp .f32 s))

/-- The chain from the clipped code to the stored 16-bit code. -/
def q16 (v : FVec Ideal S256x512 .f32) : IVec S256x512 16 := trunci 16 (fptosi 32 v) natLt_16_32

/-- The chain from the clipped code to the GELU's 8-bit code. -/
def h8 (v : FVec Ideal S256x512 .f32) : IVec S256x512 8 :=
  have t : FVec Ideal S256x512 .f32 := addf (minimumf (absf v) (broadcast S256x512 (Scalar.ofBits (F := Ideal) .f32 0x44200000#32)))
    (broadcast S256x512 (Scalar.ofBits (F := Ideal) .f32 0xC4204000#32))
  have e : FVec Ideal S256x512 .f32 := subf (broadcast S256x512 (Scalar.ofBits (F := Ideal) .f32 0x48DD9B40#32)) (mulf t t)
  have neg : IVec S256x512 1 := cmpf .olt v (broadcast S256x512 (Scalar.ofBits (F := Ideal) .f32 0x00000000#32))
  have s : FVec Ideal S256x512 .f32 := select neg (subf (broadcast S256x512 (Scalar.ofBits (F := Ideal) .f32 0x00000000#32)) e) e
  have g : FVec Ideal S256x512 .f32 := addf (floor (mulf s (broadcast S256x512 (Scalar.ofBits (F := Ideal) .f32 0x3B800000#32))))
    (broadcast S256x512 (Scalar.ofBits (F := Ideal) .f32 0x44DD8000#32))
  have p : FVec Ideal S256x512 .f32 := mulf (mulf v g) (broadcast S256x512 (Scalar.ofBits (F := Ideal) .f32 0x3813DE00#32))
  have r : FVec Ideal S256x512 .f32 := roundeven (minimumf (broadcast S256x512 (Scalar.ofBits (F := Ideal) .f32 0x42FE0000#32))
    (maximumf (broadcast S256x512 (Scalar.ofBits (F := Ideal) .f32 0xC2FE0000#32)) p))
  trunci 8 (fptosi 32 r) natLt_8_32

/-- The float constants of the body. -/
theorem c4095 : Ideal.ofBits .f32 0x457FF000#32 = ((4095 : ℝ) : EReal) := by
  simp [Ideal.ofBits, Ideal.ieee, -EReal.coe_mul]; norm_num
theorem cm4095 : Ideal.ofBits .f32 0xC57FF000#32 = ((-4095 : ℝ) : EReal) := by
  simp [Ideal.ofBits, Ideal.ieee, -EReal.coe_mul, -EReal.coe_neg]; norm_num
theorem c640 : Ideal.ofBits .f32 0x44200000#32 = ((640 : ℝ) : EReal) := by
  simp [Ideal.ofBits, Ideal.ieee, -EReal.coe_mul]; norm_num
theorem cm641 : Ideal.ofBits .f32 0xC4204000#32 = ((-641 : ℝ) : EReal) := by
  simp [Ideal.ofBits, Ideal.ieee, -EReal.coe_mul, -EReal.coe_neg]; norm_num
theorem c453850 : Ideal.ofBits .f32 0x48DD9B40#32 = ((453850 : ℝ) : EReal) := by
  simp [Ideal.ofBits, Ideal.ieee, -EReal.coe_mul]; norm_num
theorem c256 : Ideal.ofBits .f32 0x3B800000#32 = ((1 / 256 : ℝ) : EReal) := by
  simp [Ideal.ofBits, Ideal.ieee, -EReal.coe_mul]; norm_num
theorem c1772 : Ideal.ofBits .f32 0x44DD8000#32 = ((1772 : ℝ) : EReal) := by
  simp [Ideal.ofBits, Ideal.ieee, -EReal.coe_mul]; norm_num
theorem c18927 : Ideal.ofBits .f32 0x3813DE00#32 = ((18927 / 536870912 : ℝ) : EReal) := by
  simp [Ideal.ofBits, Ideal.ieee, -EReal.coe_mul]; norm_num
theorem c127 : Ideal.ofBits .f32 0x42FE0000#32 = ((127 : ℝ) : EReal) := by
  simp [Ideal.ofBits, Ideal.ieee, -EReal.coe_mul]; norm_num
theorem cm127 : Ideal.ofBits .f32 0xC2FE0000#32 = ((-127 : ℝ) : EReal) := by
  simp [Ideal.ofBits, Ideal.ieee, -EReal.coe_mul, -EReal.coe_neg]; norm_num

/-- An element of the GELU's chain is the float GELU of the element. -/
theorem h8_apply (v : FVec Ideal S256x512 .f32) (j : S256x512.Idx) : h8 v j = geluF (v j) := by
  unfold geluF
  rw [← c640, ← cm641, ← c453850, ← c256, ← c1772, ← c18927, ← c127, ← cm127, ← Ideal.ofBits_zero_f32]
  rfl

/-- A product of one piece of the contraction, converted, is the word of the integer dot product over the piece. -/
theorem dot_apply (A : FVec Ideal S256x1024 .bf16) (B : FVec Ideal S1024x512 .bf16) (r : Fin 256) (col : Fin 512) (x w : Fin 1024 → BitVec 8)
    (hA : ∀ k, A (ix2 r k) = (((x k).toInt : ℝ) : EReal)) (hB : ∀ k, B (ix2 k col) = (((w k).toInt : ℝ) : EReal)) :
    (fptosi 32 (matmul dot_S256x1024_S1024x512_S256x512_1_0_0_1_n_n none A B (constant S256x512 .f32 0x00000000#32)) : IVec S256x512 32) (ix2 r col)
      = BitVec.ofInt 32 (∑ k, (x k).toInt * (w k).toInt) := by
  rw [← dot_fptosi (by norm_num) x w]
  pointwise
  simp only [hA, hB]
  rfl

/-- A sum over the contraction is the sum of its four pieces. -/
theorem sum4 (f : Fin 4096 → ℤ) : (∑ k : Fin 1024, f ⟨k.val, by omega⟩) + (∑ k : Fin 1024, f ⟨1024 + k.val, by omega⟩)
    + (∑ k : Fin 1024, f ⟨2048 + k.val, by omega⟩) + (∑ k : Fin 1024, f ⟨3072 + k.val, by omega⟩) = ∑ k, f k := by
  have h := fun (a b : ℕ) (g : Fin (a + b) → ℤ) => Fin.sum_univ_add g
  rw [h 3072 1024 f, h 2048 1024 _, h 1024 1024 _]
  rfl

/-- THE CODE: an element of the chain is the code of the element's row and column, read as a real. -/
theorem qf_apply (A0 A1 A2 A3 : FVec Ideal S256x1024 .bf16) (B0 B1 B2 B3 : FVec Ideal S1024x512 .bf16) (b m l rnd rest : IVec S1x512 32)
    (r : Fin 256) (col : Fin 512) (x w : Fin 4096 → BitVec 8)
    (hA0 : ∀ k : Fin 1024, A0 (ix2 r k) = (((x ⟨k.val, by omega⟩).toInt : ℝ) : EReal))
    (hA1 : ∀ k : Fin 1024, A1 (ix2 r k) = (((x ⟨1024 + k.val, by omega⟩).toInt : ℝ) : EReal))
    (hA2 : ∀ k : Fin 1024, A2 (ix2 r k) = (((x ⟨2048 + k.val, by omega⟩).toInt : ℝ) : EReal))
    (hA3 : ∀ k : Fin 1024, A3 (ix2 r k) = (((x ⟨3072 + k.val, by omega⟩).toInt : ℝ) : EReal))
    (hB0 : ∀ k : Fin 1024, B0 (ix2 k col) = (((w ⟨k.val, by omega⟩).toInt : ℝ) : EReal))
    (hB1 : ∀ k : Fin 1024, B1 (ix2 k col) = (((w ⟨1024 + k.val, by omega⟩).toInt : ℝ) : EReal))
    (hB2 : ∀ k : Fin 1024, B2 (ix2 k col) = (((w ⟨2048 + k.val, by omega⟩).toInt : ℝ) : EReal))
    (hB3 : ∀ k : Fin 1024, B3 (ix2 k col) = (((w ⟨3072 + k.val, by omega⟩).toInt : ℝ) : EReal)) :
    qf A0 A1 A2 A3 B0 B1 B2 B3 b m l rnd rest (ix2 r col)
      = (((code x w (b (ix2 0 col)) (m (ix2 0 col)) (l (ix2 0 col)) (rnd (ix2 0 col)) (rest (ix2 0 col))).toInt : ℝ) : EReal) := by
  have hb : ∀ (v : IVec S1x512 32), broadcastTo S256x512 v broadcasts_S1x512_S256x512 (ix2 r col) = v (ix2 0 col) := fun v => by pointwise
  unfold code
  rw [← clip_float, ← c4095, ← cm4095, ← sum4]
  simp only [BitVec.ofInt_add]
  rw [← dot_apply A0 B0 r col _ _ hA0 hB0, ← dot_apply A1 B1 r col _ _ hA1 hB1, ← dot_apply A2 B2 r col _ _ hA2 hB2,
    ← dot_apply A3 B3 r col _ _ hA3 hB3, ← hb b, ← hb m, ← hb l, ← hb rnd, ← hb rest]
  rfl

end Cert.Proof.Ffn1

end
-- ==== Proof.Ffn1Grid.lean ====
/-
  Hand-written, untrusted. WHAT ONE GRID POINT OF THE FIRST KERNEL LEAVES in its two output blocks and in the carried copy of
  `x`: element by element, the code of the row of `x` and the column of `w`, and its GELU.
-/
module

public import proofs.«01_k».proof.Proof.Gen.KernelIdeal.Value
public import Idealize.ShloMosaic.Lib.Pipeline.ValueKit
public import Idealize.ShloMosaic.Lib.Pipeline.ReadBack
public import proofs.«01_k».proof.Proof.Ffn1Block

@[expose] public section

noncomputable section

open scoped BigOperators

namespace Cert.Proof.Ffn1

open Cert.KernelIdeal Cert.KernelIdeal.Gen Idealize.ShloMosaic Cert.Proof.Words
open Idealize.ShloMosaic.Pipeline (Dat)

/-- A stored code is the low 16 bits of the code's word. -/
theorem q16_apply (v : FVec Ideal S256x512 .f32) (x : S256x512.Idx) (q : BitVec 32) (h : v x = ((q.toInt : ℝ) : EReal)) :
    q16 v x = q.setWidth 16 := by
  show BitVec.setWidth 16 (Ideal.fptosi 32 (v x)) = _
  rw [h, fptosi_int _ (by have := BitVec.le_toInt q; omega) (by have := BitVec.toInt_lt (x := q); omega), BitVec.ofInt_toInt]

/-- A block of 256 rows and 1024 columns of the carried copy of `x`. -/
abbrev ldx (xs : FVec Ideal S1280x4096 .bf16) (o d : ℕ) (a : ∀ a, (![o, d] : Fin 2 → ℕ) a + (![256, 1024] : Fin 2 → ℕ) a ≤ S1280x4096.size a) :
    FVec Ideal S256x1024 .bf16 := View.ld (Val := Elt Ideal) (e' := .bf16) xs (Rect.unit (s := S1280x4096) ![o, d] ![256, 1024] a)

/-- A block of 1024 rows of the converted block of `w`. -/
abbrev ldw (wb : FVec Ideal S4096x512 .bf16) (d : ℕ) (a : ∀ a, (![d, 0] : Fin 2 → ℕ) a + (![1024, 512] : Fin 2 → ℕ) a ≤ S4096x512.size a) :
    FVec Ideal S1024x512 .bf16 := View.ld (Val := Elt Ideal) (e' := .bf16) wb (Rect.unit (s := S4096x512) ![d, 0] ![1024, 512] a)

/-- A block of 256 rows, from row `o` on: its chain at `x` is the code of row `o + x 0` and column `x 1`. -/
theorem row_apply (xs : FVec Ideal S1280x4096 .bf16) (wb : FVec Ideal S4096x512 .bf16) (b m l rnd rest : IVec S1x512 32)
    (X : Fin 1280 → Fin 4096 → BitVec 8) (W : Fin 4096 → Fin 512 → BitVec 8)
    (hX : ∀ r k, xs (ix2 r k) = (((X r k).toInt : ℝ) : EReal)) (hW : ∀ k c, wb (ix2 k c) = (((W k c).toInt : ℝ) : EReal))
    (o : ℕ) (a0 : ∀ a, (![o, 0] : Fin 2 → ℕ) a + (![256, 1024] : Fin 2 → ℕ) a ≤ S1280x4096.size a)
    (a1 : ∀ a, (![o, 1024] : Fin 2 → ℕ) a + (![256, 1024] : Fin 2 → ℕ) a ≤ S1280x4096.size a)
    (a2 : ∀ a, (![o, 2048] : Fin 2 → ℕ) a + (![256, 1024] : Fin 2 → ℕ) a ≤ S1280x4096.size a)
    (a3 : ∀ a, (![o, 3072] : Fin 2 → ℕ) a + (![256, 1024] : Fin 2 → ℕ) a ≤ S1280x4096.size a)
    (w0 : ∀ a, (![0, 0] : Fin 2 → ℕ) a + (![1024, 512] : Fin 2 → ℕ) a ≤ S4096x512.size a)
    (w1 : ∀ a, (![1024, 0] : Fin 2 → ℕ) a + (![1024, 512] : Fin 2 → ℕ) a ≤ S4096x512.size a)
    (w2 : ∀ a, (![2048, 0] : Fin 2 → ℕ) a + (![1024, 512] : Fin 2 → ℕ) a ≤ S4096x512.size a)
    (w3 : ∀ a, (![3072, 0] : Fin 2 → ℕ) a + (![1024, 512] : Fin 2 → ℕ) a ≤ S4096x512.size a)
    (R : Fin 1280) (r : Fin 256) (col : Fin 512) (h0 : R.val = o + r.val) :
    qf (ldx xs o 0 a0) (ldx xs o 1024 a1) (ldx xs o 2048 a2) (ldx xs o 3072 a3)
      (ldw wb 0 w0) (ldw wb 1024 w1) (ldw wb 2048 w2) (ldw wb 3072 w3) b m l rnd rest (ix2 r col)
      = (((code (X R) (fun k => W k col) (b (ix2 0 col)) (m (ix2 0 col)) (l (ix2 0 col)) (rnd (ix2 0 col)) (rest (ix2 0 col))).toInt : ℝ) : EReal) := by
  have hA : ∀ (d : ℕ) (hd : d + 1024 ≤ 4096) (a : ∀ a, (![o, d] : Fin 2 → ℕ) a + (![256, 1024] : Fin 2 → ℕ) a ≤ S1280x4096.size a) (k : Fin 1024),
      ldx xs o d a (ix2 r k) = (((X R ⟨d + k.val, by omega⟩).toInt : ℝ) : EReal) := by
    intro d hd a k
    refine Eq.trans ?_ (hX _ _)
    refine congrArg xs (funext fun i => Fin.ext ?_)
    rw [Rect.idx_unit_val]
    fin_cases i
    · exact h0.symm
    · rfl
  have hB : ∀ (d : ℕ) (hd : d + 1024 ≤ 4096) (a : ∀ a, (![d, 0] : Fin 2 → ℕ) a + (![1024, 512] : Fin 2 → ℕ) a ≤ S4096x512.size a) (k : Fin 1024),
      ldw wb d a (ix2 k col) = (((W ⟨d + k.val, by omega⟩ col).toInt : ℝ) : EReal) := by
    intro d hd a k
    refine Eq.trans ?_ (hW _ _)
    refine congrArg wb (funext fun i => Fin.ext ?_)
    rw [Rect.idx_unit_val]
    fin_cases i
    · rfl
    · exact Nat.zero_add _
  exact qf_apply _ _ _ _ _ _ _ _ b m l rnd rest r col (X R) (fun k => W k col)
      (fun k => by rw [hA 0 (by omega)]; simp only [Nat.zero_add]) (hA 1024 (by omega) a1) (hA 2048 (by omega) a2) (hA 3072 (by omega) a3)
      (fun k => by rw [hB 0 (by omega)]; simp only [Nat.zero_add]) (hB 1024 (by omega) w1) (hB 2048 (by omega) w2) (hB 3072 (by omega) w3)

/-- The same, of eight pieces that are those blocks of rows. -/
theorem row_of {A0 A1 A2 A3 : FVec Ideal S256x1024 .bf16} {B0 B1 B2 B3 : FVec Ideal S1024x512 .bf16}
    (xs : FVec Ideal S1280x4096 .bf16) (wb : FVec Ideal S4096x512 .bf16) (b m l rnd rest : IVec S1x512 32)
    (X : Fin 1280 → Fin 4096 → BitVec 8) (W : Fin 4096 → Fin 512 → BitVec 8)
    (hX : ∀ r k, xs (ix2 r k) = (((X r k).toInt : ℝ) : EReal)) (hW : ∀ k c, wb (ix2 k c) = (((W k c).toInt : ℝ) : EReal))
    (o : ℕ) {a0 a1 a2 a3 w0 w1 w2 w3} (e0 : A0 = ldx xs o 0 a0) (e1 : A1 = ldx xs o 1024 a1) (e2 : A2 = ldx xs o 2048 a2) (e3 : A3 = ldx xs o 3072 a3)
    (f0 : B0 = ldw wb 0 w0) (f1 : B1 = ldw wb 1024 w1) (f2 : B2 = ldw wb 2048 w2) (f3 : B3 = ldw wb 3072 w3)
    (R : Fin 1280) (r : Fin 256) (col : Fin 512) (h0 : R.val = o + r.val) {b' m' l' rnd' rest' : BitVec 32} (gb : b (ix2 0 col) = b') (gm : m (ix2 0 col) = m')
    (gl : l (ix2 0 col) = l') (gr : rnd (ix2 0 col) = rnd') (ge : rest (ix2 0 col) = rest') :
    qf A0 A1 A2 A3 B0 B1 B2 B3 b m l rnd rest (ix2 r col)
      = (((code (X R) (fun k => W k col) b' m' l' rnd' rest').toInt : ℝ) : EReal) := by
  subst gb gm gl gr ge e0 e1 e2 e3 f0 f1 f2 f3
  exact row_apply xs wb b m l rnd rest X W hX hW o a0 a1 a2 a3 w0 w1 w2 w3 R r col h0

/-- A load from scratch that one whole-buffer store filled reads that store's value. -/
theorem fill0 (inb : ∀ a, (![0, 0] : Fin 2 → ℕ) a + (![1280, 4096] : Fin 2 → ℕ) a ≤ S1280x4096.size a) (Z : Vec Ideal S1280x4096 .bf16) (o d : ℕ)
    (a : ∀ a, (![o, d] : Fin 2 → ℕ) a + (![256, 1024] : Fin 2 → ℕ) a ≤ S1280x4096.size a) :
    (View.whole cc0_scratch0).readCov (Val := Elt Ideal) [⟨Rect.unit ![0, 0] ![1280, 4096] inb, Z⟩] (Rect.unit (s := S1280x4096) ![o, d] ![256, 1024] a).toLoadRect
      = ldx Z o d a :=
  View.readCov_fill _ inb Z _ _ (by decide)
theorem fill1 (inb : ∀ a, (![0, 0] : Fin 2 → ℕ) a + (![4096, 512] : Fin 2 → ℕ) a ≤ S4096x512.size a) (Z : Vec Ideal S4096x512 .bf16) (d : ℕ)
    (a : ∀ a, (![d, 0] : Fin 2 → ℕ) a + (![1024, 512] : Fin 2 → ℕ) a ≤ S4096x512.size a) :
    (View.whole cc0_scratch1).readCov (Val := Elt Ideal) [⟨Rect.unit ![0, 0] ![4096, 512] inb, Z⟩] (Rect.unit (s := S4096x512) ![d, 0] ![1024, 512] a).toLoadRect
      = ldw Z d a :=
  View.readCov_fill _ inb Z _ _ (by decide)

/-- A load from the carried scratch reads what it was left holding. -/
theorem kept0 (h : (Memref.whole cc0_scratch0).IsWhole) (Z : Vec Ideal S1280x4096 .bf16) (o d : ℕ)
    (a : ∀ a, (![o, d] : Fin 2 → ℕ) a + (![256, 1024] : Fin 2 → ℕ) a ≤ S1280x4096.size a) :
    View.ld (Val := Elt Ideal) (e' := .bf16) (View.read (Elt Ideal) (View.whole cc0_scratch0) (h.unread Z)) (Rect.unit (s := S1280x4096) ![o, d] ![256, 1024] a)
      = ldx Z o d a :=
  congrArg (fun Z => View.ld (Val := Elt Ideal) (e' := .bf16) Z (Rect.unit (s := S1280x4096) ![o, d] ![256, 1024] a)) (read_unread_whole cc0_scratch0 h Z)

section Payloads

/-! The stores of the five blocks of rows, one chain each: the code (`q…`) and its GELU (`h…`) of the rows from 0, 256, 512, 768, 1024 on. -/

variable (A0 A1 A2 A3 : FVec Ideal S256x1024 .bf16) (B0 B1 B2 B3 : FVec Ideal S1024x512 .bf16) (b m l rnd rest : IVec S1x512 32)

theorem q0_eq : k0_pay11 (F := Ideal) b m l rnd rest (k0_pay9 (F := Ideal) A0 B0 A1 B1) A2 B2 A3 B3 = q16 (qf A0 A1 A2 A3 B0 B1 B2 B3 b m l rnd rest) := rfl
theorem h0_eq : k0_pay13 (F := Ideal) (k0_pay10 (F := Ideal) b m l rnd rest (k0_pay9 (F := Ideal) A0 B0 A1 B1) A2 B2 A3 B3) (k0_pay12 (F := Ideal) b m l rnd rest (k0_pay9 (F := Ideal) A0 B0 A1 B1) A2 B2 A3 B3) = h8 (qf A0 A1 A2 A3 B0 B1 B2 B3 b m l rnd rest) := rfl
theorem q256_eq : k0_pay16 (F := Ideal) b m l rnd rest (k0_pay14 (F := Ideal) A0 B0 A1 B1) A2 B2 (constant S256x512 .f32 0x00000000#32) A3 B3 = q16 (qf A0 A1 A2 A3 B0 B1 B2 B3 b m l rnd rest) := rfl
theorem h256_eq : k0_pay18 (F := Ideal) (k0_pay15 (F := Ideal) b m l rnd rest (k0_pay14 (F := Ideal) A0 B0 A1 B1) A2 B2 (constant S256x512 .f32 0x00000000#32) A3 B3) (k0_pay17 (F := Ideal) b m l rnd rest (k0_pay14 (F := Ideal) A0 B0 A1 B1) A2 B2 (constant S256x512 .f32 0x00000000#32) A3 B3) = h8 (qf A0 A1 A2 A3 B0 B1 B2 B3 b m l rnd rest) := rfl
theorem q512_eq : k0_pay21 (F := Ideal) b m l rnd rest (k0_pay19 (F := Ideal) A0 B0 A1 B1 A2 B2) A3 B3 = q16 (qf A0 A1 A2 A3 B0 B1 B2 B3 b m l rnd rest) := rfl
theorem h512_eq : k0_pay24 (F := Ideal) (k0_pay20 (F := Ideal) b m l rnd rest (k0_pay19 (F := Ideal) A0 B0 A1 B1 A2 B2) A3 B3) (k0_pay22 (F := Ideal) b m l rnd rest (k0_pay19 (F := Ideal) A0 B0 A1 B1 A2 B2) A3 B3) (k0_pay23 (F := Ideal) b m l rnd rest (k0_pay19 (F := Ideal) A0 B0 A1 B1 A2 B2) A3 B3) = h8 (qf A0 A1 A2 A3 B0 B1 B2 B3 b m l rnd rest) := rfl
theorem q768_eq : k0_pay27 (F := Ideal) b m l rnd rest (k0_pay25 (F := Ideal) A0 B0 A1 B1 A2 B2) A3 B3 = q16 (qf A0 A1 A2 A3 B0 B1 B2 B3 b m l rnd rest) := rfl
theorem h768_eq : k0_pay31 (F := Ideal) (k0_pay26 (F := Ideal) b m l rnd rest (k0_pay25 (F := Ideal) A0 B0 A1 B1 A2 B2) A3 B3) (k0_pay28 (F := Ideal) b m l rnd rest (k0_pay25 (F := Ideal) A0 B0 A1 B1 A2 B2) A3 B3) (k0_pay29 (F := Ideal) b m l rnd rest (k0_pay25 (F := Ideal) A0 B0 A1 B1 A2 B2) A3 B3) (k0_pay30 (F := Ideal) b m l rnd rest (k0_pay25 (F := Ideal) A0 B0 A1 B1 A2 B2) A3 B3) = h8 (qf A0 A1 A2 A3 B0 B1 B2 B3 b m l rnd rest) := rfl
theorem q1024_eq : k0_pay34 (F := Ideal) b m l rnd rest (k0_pay32 (F := Ideal) A0 B0 A1 B1 A2 B2) A3 B3 = q16 (qf A0 A1 A2 A3 B0 B1 B2 B3 b m l rnd rest) := rfl
theorem h1024_eq : k0_pay1 (F := Ideal) (k0_pay33 (F := Ideal) b m l rnd rest (k0_pay32 (F := Ideal) A0 B0 A1 B1 A2 B2) A3 B3) (k0_pay35 (F := Ideal) b m l rnd rest (k0_pay32 (F := Ideal) A0 B0 A1 B1 A2 B2) A3 B3) k0_pay36 = h8 (qf A0 A1 A2 A3 B0 B1 B2 B3 b m l rnd rest) := rfl

end Payloads

variable (m : (ℓ : Loc nD τ sig) → Buf (Elt Ideal) ℓ)

/-- A code lies between -4095 and 4095. -/
theorem code_bound {n : ℕ} (x w : Fin n → BitVec 8) (b m l rnd rest : BitVec 32) :
    -4095 ≤ (code x w b m l rnd rest).toInt ∧ (code x w b m l rnd rest).toInt ≤ 4095 := by
  unfold code
  rw [clip4095_toInt]
  omega

/-- The stored GELU of a code. -/
theorem h8_code (v : FVec Ideal S256x512 .f32) (j : S256x512.Idx) {n : ℕ} {x w : Fin n → BitVec 8} {b m l rnd rest : BitVec 32}
    (h : v j = (((code x w b m l rnd rest).toInt : ℝ) : EReal)) : h8 v j = geluH (code x w b m l rnd rest) := by
  rw [h8_apply, h, geluF_eq _ (code_bound x w b m l rnd rest).1 (code_bound x w b m l rnd rest).2]

/-- The code point `t` computes at element `y` of its blocks, from the blocks it reads. -/
def codeAt (X : Vec Ideal S1280x4096 .i8) (W : Vec Ideal S4096x512 .i8) (b m l rnd rest : Vec Ideal S1x512 .i32) (y : S1280x512.Idx) : BitVec 32 :=
  code (fun k => X (ix2 (y 0) k)) (fun k => W (ix2 k (y 1))) (b (ix2 0 (y 1))) (m (ix2 0 (y 1))) (l (ix2 0 (y 1))) (rnd (ix2 0 (y 1))) (rest (ix2 0 (y 1)))

theorem pay2_apply (X : Vec Ideal S1280x4096 .i8) (r : Fin 1280) (k : Fin 4096) :
    k0_pay2 (F := Ideal) X (ix2 r k) = (((X (ix2 r k) : BitVec 8).toInt : ℝ) : EReal) := by
  unfold k0_pay2
  pointwise
  rfl

theorem pay3_apply (X : Vec Ideal S4096x512 .i8) (r : Fin 4096) (k : Fin 512) :
    k0_pay3 (F := Ideal) X (ix2 r k) = (((X (ix2 r k) : BitVec 8).toInt : ℝ) : EReal) := by
  unfold k0_pay3
  pointwise
  rfl

theorem row4 (b : Vec Ideal S1x512 .i32) (r : Fin 512) : k0_pay4 (F := Ideal) b (ix2 0 r) = b (ix2 0 r) := by
  unfold k0_pay4
  pointwise

theorem row5 (b : Vec Ideal S1x512 .i32) (r : Fin 512) : k0_pay5 (F := Ideal) b (ix2 0 r) = b (ix2 0 r) := by
  unfold k0_pay5
  pointwise

theorem row6 (b : Vec Ideal S1x512 .i32) (r : Fin 512) : k0_pay6 (F := Ideal) b (ix2 0 r) = b (ix2 0 r) := by
  unfold k0_pay6
  pointwise

theorem row7 (b : Vec Ideal S1x512 .i32) (r : Fin 512) : k0_pay7 (F := Ideal) b (ix2 0 r) = b (ix2 0 r) := by
  unfold k0_pay7
  pointwise

theorem row8 (b : Vec Ideal S1x512 .i32) (r : Fin 512) : k0_pay8 (F := Ideal) b (ix2 0 r) = b (ix2 0 r) := by
  unfold k0_pay8
  pointwise

theorem scrA (c : Dev nD) (t : Fin cfg0.N) (h : t.val % 32 = 0) :
    (outsAt0 m c t.val t.isLt).2.2 = k0_pay2 (iblk m c 0 t) := by
  rw [outsAt0_A m c t h]
  funext y
  frame_out

theorem scrB (c : Dev nD) (t : Fin cfg0.N) (h : ¬ t.val % 32 = 0) :
    (outsAt0 m c t.val t.isLt).2.2 = (outsAt0 m c (t.val - 1) (Nat.lt_of_le_of_lt (Nat.sub_le _ _) t.isLt)).2.2 := by
  rw [outsAt0_B m c t h]
  rfl

/-- What the first point leaves in its block of `q`. -/
theorem qA (c : Dev nD) (t : Fin cfg0.N) (h : t.val % 32 = 0) (y : S1280x512.Idx) :
    (outsAt0 m c t.val t.isLt).1 y = (codeAt (iblk m c 0 t) (iblk m c 1 t) (iblk m c 2 t) (iblk m c 3 t) (iblk m c 4 t) (iblk m c 5 t) (iblk m c 6 t) y).setWidth 16 := by
  rw [outsAt0_A m c t h]
  frame_out
  canon_tiles x hx
  all_goals (obtain ⟨r, col, rfl⟩ : ∃ (r : Fin 256) (col : Fin 512), x = ix2 r col := ⟨x 0, x 1, eq_ix2 x⟩)
  all_goals rw [show y = ix2 (y 0) col from (eq_ix2 y).trans (congrArg (ix2 (y 0)) (Fin.ext hx1))]
  case piece0 =>
    refine (congrFun (q1024_eq _ _ _ _ _ _ _ _ _ _ _ _ _) (ix2 r col)).trans ?_
    exact (q16_apply _ (ix2 r col) _ (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 1024
      (fill0 _ _ _ _ _) (fill0 _ _ _ _ _) (fill0 _ _ _ _ _) (fill0 _ _ _ _ _) (fill1 _ _ _ _) (fill1 _ _ _ _) (fill1 _ _ _ _) (fill1 _ _ _ _) (y 0) r col hx0 (row4 _ _) (row5 _ _) (row6 _ _) (row7 _ _) (row8 _ _)))
  case piece1 =>
    refine (congrFun (q768_eq _ _ _ _ _ _ _ _ _ _ _ _ _) (ix2 r col)).trans ?_
    exact (q16_apply _ (ix2 r col) _ (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 768
      (fill0 _ _ _ _ _) (fill0 _ _ _ _ _) (fill0 _ _ _ _ _) (fill0 _ _ _ _ _) (fill1 _ _ _ _) (fill1 _ _ _ _) (fill1 _ _ _ _) (fill1 _ _ _ _) (y 0) r col hx0 (row4 _ _) (row5 _ _) (row6 _ _) (row7 _ _) (row8 _ _)))
  case piece2 =>
    refine (congrFun (q512_eq _ _ _ _ _ _ _ _ _ _ _ _ _) (ix2 r col)).trans ?_
    exact (q16_apply _ (ix2 r col) _ (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 512
      (fill0 _ _ _ _ _) (fill0 _ _ _ _ _) (fill0 _ _ _ _ _) (fill0 _ _ _ _ _) (fill1 _ _ _ _) (fill1 _ _ _ _) (fill1 _ _ _ _) (fill1 _ _ _ _) (y 0) r col hx0 (row4 _ _) (row5 _ _) (row6 _ _) (row7 _ _) (row8 _ _)))
  case piece3 =>
    refine (congrFun (q256_eq _ _ _ _ _ _ _ _ _ _ _ _ _) (ix2 r col)).trans ?_
    exact (q16_apply _ (ix2 r col) _ (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 256
      (fill0 _ _ _ _ _) (fill0 _ _ _ _ _) (fill0 _ _ _ _ _) (fill0 _ _ _ _ _) (fill1 _ _ _ _) (fill1 _ _ _ _) (fill1 _ _ _ _) (fill1 _ _ _ _) (y 0) r col hx0 (row4 _ _) (row5 _ _) (row6 _ _) (row7 _ _) (row8 _ _)))
  case piece4 =>
    refine (congrFun (q0_eq _ _ _ _ _ _ _ _ _ _ _ _ _) (ix2 r col)).trans ?_
    exact (q16_apply _ (ix2 r col) _ (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 0
      (fill0 _ _ _ _ _) (fill0 _ _ _ _ _) (fill0 _ _ _ _ _) (fill0 _ _ _ _ _) (fill1 _ _ _ _) (fill1 _ _ _ _) (fill1 _ _ _ _) (fill1 _ _ _ _) (y 0) r col (hx0.trans (Nat.zero_add _).symm) (row4 _ _) (row5 _ _) (row6 _ _) (row7 _ _) (row8 _ _)))

/-- What a later point leaves in its block of `q`, when the point before left the copy of `X`. -/
theorem qB (c : Dev nD) (t : Fin cfg0.N) (h : ¬ t.val % 32 = 0) (X : Vec Ideal S1280x4096 .i8)
    (hxs : ∀ r k, (outsAt0 m c (t.val - 1) (Nat.lt_of_le_of_lt (Nat.sub_le _ _) t.isLt)).2.2 (ix2 r k) = (((X (ix2 r k) : BitVec 8).toInt : ℝ) : EReal))
    (y : S1280x512.Idx) :
    (outsAt0 m c t.val t.isLt).1 y = (codeAt X (iblk m c 1 t) (iblk m c 2 t) (iblk m c 3 t) (iblk m c 4 t) (iblk m c 5 t) (iblk m c 6 t) y).setWidth 16 := by
  rw [outsAt0_B m c t h]
  frame_out
  canon_tiles x hx
  all_goals (obtain ⟨r, col, rfl⟩ : ∃ (r : Fin 256) (col : Fin 512), x = ix2 r col := ⟨x 0, x 1, eq_ix2 x⟩)
  all_goals rw [show y = ix2 (y 0) col from (eq_ix2 y).trans (congrArg (ix2 (y 0)) (Fin.ext hx1))]
  case piece0 =>
    refine (congrFun (q1024_eq _ _ _ _ _ _ _ _ _ _ _ _ _) (ix2 r col)).trans ?_
    exact (q16_apply _ (ix2 r col) _ (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 1024
      (kept0 _ _ _ _ _) (kept0 _ _ _ _ _) (kept0 _ _ _ _ _) (kept0 _ _ _ _ _) (fill1 _ _ _ _) (fill1 _ _ _ _) (fill1 _ _ _ _) (fill1 _ _ _ _) (y 0) r col hx0 (row4 _ _) (row5 _ _) (row6 _ _) (row7 _ _) (row8 _ _)))
  case piece1 =>
    refine (congrFun (q768_eq _ _ _ _ _ _ _ _ _ _ _ _ _) (ix2 r col)).trans ?_
    exact (q16_apply _ (ix2 r col) _ (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 768
      (kept0 _ _ _ _ _) (kept0 _ _ _ _ _) (kept0 _ _ _ _ _) (kept0 _ _ _ _ _) (fill1 _ _ _ _) (fill1 _ _ _ _) (fill1 _ _ _ _) (fill1 _ _ _ _) (y 0) r col hx0 (row4 _ _) (row5 _ _) (row6 _ _) (row7 _ _) (row8 _ _)))
  case piece2 =>
    refine (congrFun (q512_eq _ _ _ _ _ _ _ _ _ _ _ _ _) (ix2 r col)).trans ?_
    exact (q16_apply _ (ix2 r col) _ (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 512
      (kept0 _ _ _ _ _) (kept0 _ _ _ _ _) (kept0 _ _ _ _ _) (kept0 _ _ _ _ _) (fill1 _ _ _ _) (fill1 _ _ _ _) (fill1 _ _ _ _) (fill1 _ _ _ _) (y 0) r col hx0 (row4 _ _) (row5 _ _) (row6 _ _) (row7 _ _) (row8 _ _)))
  case piece3 =>
    refine (congrFun (q256_eq _ _ _ _ _ _ _ _ _ _ _ _ _) (ix2 r col)).trans ?_
    exact (q16_apply _ (ix2 r col) _ (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 256
      (kept0 _ _ _ _ _) (kept0 _ _ _ _ _) (kept0 _ _ _ _ _) (kept0 _ _ _ _ _) (fill1 _ _ _ _) (fill1 _ _ _ _) (fill1 _ _ _ _) (fill1 _ _ _ _) (y 0) r col hx0 (row4 _ _) (row5 _ _) (row6 _ _) (row7 _ _) (row8 _ _)))
  case piece4 =>
    refine (congrFun (q0_eq _ _ _ _ _ _ _ _ _ _ _ _ _) (ix2 r col)).trans ?_
    exact (q16_apply _ (ix2 r col) _ (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 0
      (kept0 _ _ _ _ _) (kept0 _ _ _ _ _) (kept0 _ _ _ _ _) (kept0 _ _ _ _ _) (fill1 _ _ _ _) (fill1 _ _ _ _) (fill1 _ _ _ _) (fill1 _ _ _ _) (y 0) r col (hx0.trans (Nat.zero_add _).symm) (row4 _ _) (row5 _ _) (row6 _ _) (row7 _ _) (row8 _ _)))

/-- What the first point leaves in its block of `h`. -/
theorem hA (c : Dev nD) (t : Fin cfg0.N) (h : t.val % 32 = 0) (y : S1280x512.Idx) :
    (outsAt0 m c t.val t.isLt).2.1 y = geluH (codeAt (iblk m c 0 t) (iblk m c 1 t) (iblk m c 2 t) (iblk m c 3 t) (iblk m c 4 t) (iblk m c 5 t) (iblk m c 6 t) y) := by
  rw [outsAt0_A m c t h]
  frame_out
  canon_tiles x hx
  all_goals (obtain ⟨r, col, rfl⟩ : ∃ (r : Fin 256) (col : Fin 512), x = ix2 r col := ⟨x 0, x 1, eq_ix2 x⟩)
  all_goals rw [show y = ix2 (y 0) col from (eq_ix2 y).trans (congrArg (ix2 (y 0)) (Fin.ext hx1))]
  case piece0 =>
    refine (congrFun (h1024_eq _ _ _ _ _ _ _ _ _ _ _ _ _) (ix2 r col)).trans ?_
    exact h8_code _ (ix2 r col) (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 1024
      (fill0 _ _ _ _ _) (fill0 _ _ _ _ _) (fill0 _ _ _ _ _) (fill0 _ _ _ _ _) (fill1 _ _ _ _) (fill1 _ _ _ _) (fill1 _ _ _ _) (fill1 _ _ _ _) (y 0) r col hx0 (row4 _ _) (row5 _ _) (row6 _ _) (row7 _ _) (row8 _ _))
  case piece1 =>
    refine (congrFun (h768_eq _ _ _ _ _ _ _ _ _ _ _ _ _) (ix2 r col)).trans ?_
    exact h8_code _ (ix2 r col) (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 768
      (fill0 _ _ _ _ _) (fill0 _ _ _ _ _) (fill0 _ _ _ _ _) (fill0 _ _ _ _ _) (fill1 _ _ _ _) (fill1 _ _ _ _) (fill1 _ _ _ _) (fill1 _ _ _ _) (y 0) r col hx0 (row4 _ _) (row5 _ _) (row6 _ _) (row7 _ _) (row8 _ _))
  case piece2 =>
    refine (congrFun (h512_eq _ _ _ _ _ _ _ _ _ _ _ _ _) (ix2 r col)).trans ?_
    exact h8_code _ (ix2 r col) (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 512
      (fill0 _ _ _ _ _) (fill0 _ _ _ _ _) (fill0 _ _ _ _ _) (fill0 _ _ _ _ _) (fill1 _ _ _ _) (fill1 _ _ _ _) (fill1 _ _ _ _) (fill1 _ _ _ _) (y 0) r col hx0 (row4 _ _) (row5 _ _) (row6 _ _) (row7 _ _) (row8 _ _))
  case piece3 =>
    refine (congrFun (h256_eq _ _ _ _ _ _ _ _ _ _ _ _ _) (ix2 r col)).trans ?_
    exact h8_code _ (ix2 r col) (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 256
      (fill0 _ _ _ _ _) (fill0 _ _ _ _ _) (fill0 _ _ _ _ _) (fill0 _ _ _ _ _) (fill1 _ _ _ _) (fill1 _ _ _ _) (fill1 _ _ _ _) (fill1 _ _ _ _) (y 0) r col hx0 (row4 _ _) (row5 _ _) (row6 _ _) (row7 _ _) (row8 _ _))
  case piece4 =>
    refine (congrFun (h0_eq _ _ _ _ _ _ _ _ _ _ _ _ _) (ix2 r col)).trans ?_
    exact h8_code _ (ix2 r col) (row_of (k0_pay2 (iblk m c 0 t)) (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (pay2_apply _) (pay3_apply _) 0
      (fill0 _ _ _ _ _) (fill0 _ _ _ _ _) (fill0 _ _ _ _ _) (fill0 _ _ _ _ _) (fill1 _ _ _ _) (fill1 _ _ _ _) (fill1 _ _ _ _) (fill1 _ _ _ _) (y 0) r col (hx0.trans (Nat.zero_add _).symm) (row4 _ _) (row5 _ _) (row6 _ _) (row7 _ _) (row8 _ _))

/-- What a later point leaves in its block of `h`, when the point before left the copy of `X`. -/
theorem hB (c : Dev nD) (t : Fin cfg0.N) (h : ¬ t.val % 32 = 0) (X : Vec Ideal S1280x4096 .i8)
    (hxs : ∀ r k, (outsAt0 m c (t.val - 1) (Nat.lt_of_le_of_lt (Nat.sub_le _ _) t.isLt)).2.2 (ix2 r k) = (((X (ix2 r k) : BitVec 8).toInt : ℝ) : EReal))
    (y : S1280x512.Idx) :
    (outsAt0 m c t.val t.isLt).2.1 y = geluH (codeAt X (iblk m c 1 t) (iblk m c 2 t) (iblk m c 3 t) (iblk m c 4 t) (iblk m c 5 t) (iblk m c 6 t) y) := by
  rw [outsAt0_B m c t h]
  frame_out
  canon_tiles x hx
  all_goals (obtain ⟨r, col, rfl⟩ : ∃ (r : Fin 256) (col : Fin 512), x = ix2 r col := ⟨x 0, x 1, eq_ix2 x⟩)
  all_goals rw [show y = ix2 (y 0) col from (eq_ix2 y).trans (congrArg (ix2 (y 0)) (Fin.ext hx1))]
  case piece0 =>
    refine (congrFun (h1024_eq _ _ _ _ _ _ _ _ _ _ _ _ _) (ix2 r col)).trans ?_
    exact h8_code _ (ix2 r col) (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 1024
      (kept0 _ _ _ _ _) (kept0 _ _ _ _ _) (kept0 _ _ _ _ _) (kept0 _ _ _ _ _) (fill1 _ _ _ _) (fill1 _ _ _ _) (fill1 _ _ _ _) (fill1 _ _ _ _) (y 0) r col hx0 (row4 _ _) (row5 _ _) (row6 _ _) (row7 _ _) (row8 _ _))
  case piece1 =>
    refine (congrFun (h768_eq _ _ _ _ _ _ _ _ _ _ _ _ _) (ix2 r col)).trans ?_
    exact h8_code _ (ix2 r col) (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 768
      (kept0 _ _ _ _ _) (kept0 _ _ _ _ _) (kept0 _ _ _ _ _) (kept0 _ _ _ _ _) (fill1 _ _ _ _) (fill1 _ _ _ _) (fill1 _ _ _ _) (fill1 _ _ _ _) (y 0) r col hx0 (row4 _ _) (row5 _ _) (row6 _ _) (row7 _ _) (row8 _ _))
  case piece2 =>
    refine (congrFun (h512_eq _ _ _ _ _ _ _ _ _ _ _ _ _) (ix2 r col)).trans ?_
    exact h8_code _ (ix2 r col) (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 512
      (kept0 _ _ _ _ _) (kept0 _ _ _ _ _) (kept0 _ _ _ _ _) (kept0 _ _ _ _ _) (fill1 _ _ _ _) (fill1 _ _ _ _) (fill1 _ _ _ _) (fill1 _ _ _ _) (y 0) r col hx0 (row4 _ _) (row5 _ _) (row6 _ _) (row7 _ _) (row8 _ _))
  case piece3 =>
    refine (congrFun (h256_eq _ _ _ _ _ _ _ _ _ _ _ _ _) (ix2 r col)).trans ?_
    exact h8_code _ (ix2 r col) (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 256
      (kept0 _ _ _ _ _) (kept0 _ _ _ _ _) (kept0 _ _ _ _ _) (kept0 _ _ _ _ _) (fill1 _ _ _ _) (fill1 _ _ _ _) (fill1 _ _ _ _) (fill1 _ _ _ _) (y 0) r col hx0 (row4 _ _) (row5 _ _) (row6 _ _) (row7 _ _) (row8 _ _))
  case piece4 =>
    refine (congrFun (h0_eq _ _ _ _ _ _ _ _ _ _ _ _ _) (ix2 r col)).trans ?_
    exact h8_code _ (ix2 r col) (row_of _ (k0_pay3 (iblk m c 1 t)) (k0_pay4 (iblk m c 2 t)) (k0_pay5 (iblk m c 3 t))
      (k0_pay6 (iblk m c 4 t)) (k0_pay7 (iblk m c 5 t)) (k0_pay8 (iblk m c 6 t)) _ _ (hxs) (pay3_apply _) 0
      (kept0 _ _ _ _ _) (kept0 _ _ _ _ _) (kept0 _ _ _ _ _) (kept0 _ _ _ _ _) (fill1 _ _ _ _) (fill1 _ _ _ _) (fill1 _ _ _ _) (fill1 _ _ _ _) (y 0) r col (hx0.trans (Nat.zero_add _).symm) (row4 _ _) (row5 _ _) (row6 _ _) (row7 _ _) (row8 _ _))

end Cert.Proof.Ffn1

end
-- ==== Proof.Ffn1Array.lean ====
/-
  Hand-written, untrusted. WHAT THE RESULT ARRAYS OF THE FIRST KERNEL HOLD after the run: every grid point leaves the codes of
  its columns, the copy of `x` the first point wrote being carried through; so element `i` of `q` is the code of row
  `i 0` of `x` and column `i 1` of `w`, and element `i` of `h` its GELU.
-/
module

public import Idealize.ShloMosaic.Lib.KernelVsHost
public import proofs.«01_k».proof.Proof.Ffn1Grid

@[expose] public section

noncomputable section

open scoped BigOperators

namespace Cert.Proof.Ffn1

open Cert.KernelIdeal Cert.KernelIdeal.Gen Idealize.ShloMosaic Cert.Proof.Words Idealize.ShloMosaic.TcCoe
open Idealize.ShloMosaic.Pipeline (Dat)

/-- The code of row `i 0` and column `i 1`: dot product, bias, requantisation by `M / 2^K`, clip. -/
def codeOf (X : Vec Ideal ⟨2, ![1280, 4096]⟩ .i8) (W : Vec Ideal ⟨2, ![4096, 16384]⟩ .i8) (B M K : Vec Ideal ⟨1, ![16384]⟩ .i32)
    (i : Shape.Idx ⟨2, ![1280, 16384]⟩) : BitVec 32 :=
  clip4095 (rqk (BitVec.ofInt 32 (∑ k : Fin 4096, (X (ix2 (i 0) k) : BitVec 8).toInt * (W (ix2 k (i 1)) : BitVec 8).toInt) + B (ix1 (i 1))) (M (ix1 (i 1))) (K (ix1 (i 1))))

variable (m : (ℓ : Loc nD τ sig) → Buf (Elt Ideal) ℓ)

/-- Where each window's block sits: `x` whole, the others at column block `t`. -/
theorem idx : ∀ t : Fin cfg0.N, win0_0.index t = ![0, 0] ∧ win0_1.index t = ![0, t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] ∧ win0_8.index t = ![0, t.val] :=
  (by decide +kernel : ∀ t : Fin grid0.N, _)

/-- Every point reads `x` whole. -/
theorem blk0 (c : Dev nD) (t : Fin cfg0.N) : iblk m c 0 t = m ((c : Thread nD τ).loc main_arg0) := by
  blk_ext! [iblk, V, idx t]

/-- The copy of `x` is carried: every point leaves it as the first point wrote it. -/
theorem carried (c : Dev nD) : ∀ (n : ℕ) (hn : n < cfg0.N) (r : Fin 1280) (k : Fin 4096),
    (outsAt0 m c n hn).2.2 (ix2 r k) = (((m ((c : Thread nD τ).loc main_arg0) (ix2 r k) : BitVec 8).toInt : ℝ) : EReal)
  | 0, hn, r, k => by
    rw [scrA m c ⟨0, hn⟩ rfl, pay2_apply, blk0]
  | n + 1, hn, r, k => by
    rw [scrB m c ⟨n + 1, hn⟩ (by have : n + 1 < 32 := hn; show ¬ (n + 1) % 32 = 0; omega)]
    exact carried c n _ r k

/-- The code point `t` computes at `y`, of the blocks it reads, is the code of the element of the array its block holds at `y`. -/
theorem code_eq (c : Dev nD) (t : Fin cfg0.N) (y : S1280x512.Idx) (i : S1280x16384.Idx) (h0 : (i 0).val = (y 0).val) (h1 : (i 1).val = t.val * 512 + (y 1).val) :
    codeAt (m ((c : Thread nD τ).loc main_arg0)) (iblk m c 1 t) (iblk m c 2 t) (iblk m c 3 t) (iblk m c 4 t) (iblk m c 5 t) (iblk m c 6 t) y
      = codeOf (m ((c : Thread nD τ).loc main_arg0)) (m ((c : Thread nD τ).loc main_arg1)) (m ((c : Thread nD τ).loc main_arg2)) (m ((c : Thread nD τ).loc main_arg3)) (m ((c : Thread nD τ).loc main_arg4)) i := by
  have e0 : (y 0 : Fin 1280) = i 0 := Fin.ext h0.symm
  have e1 (k : Fin 4096) : iblk m c 1 t (ix2 k (y 1)) = m ((c : Thread nD τ).loc main_arg1) (ix2 k (i 1)) := by
    blk_ext! [iblk, V, idx t]
  have e2 : iblk m c 2 t (ix2 0 (y 1)) = m ((c : Thread nD τ).loc main_arg2) (ix1 (i 1)) := by
    blk_ext! [iblk, V, idx t]
  have e3 : iblk m c 3 t (ix2 0 (y 1)) = m ((c : Thread nD τ).loc main_arg3) (ix1 (i 1)) := by
    blk_ext! [iblk, V, idx t]
  have e4 : iblk m c 4 t (ix2 0 (y 1)) = IntOp.minsi (m ((c : Thread nD τ).loc main_arg4) (ix1 (i 1))) 15#32 := by
    blk_simp [iblk]
    entry_read
    pointwise
    congr 1
    blk_ext [idx t]
  have e5 : iblk m c 5 t (ix2 0 (y 1)) = IntOp.shli .vector 1#32 (IntOp.subi (m ((c : Thread nD τ).loc main_arg4) (ix1 (i 1))) 1#32) := by
    blk_simp [iblk]
    entry_read
    pointwise
    show IntOp.shli .vector _ (IntOp.subi _ _) = _
    congr 2
    blk_ext [idx t]
  have e6 : iblk m c 6 t (ix2 0 (y 1)) = IntOp.subi (m ((c : Thread nD τ).loc main_arg4) (ix1 (i 1))) (IntOp.minsi (m ((c : Thread nD τ).loc main_arg4) (ix1 (i 1))) 15#32) := by
    blk_simp [iblk]
    entry_read
    pointwise
    have e : ∀ a b : BitVec 32, a = b → IntOp.subi a (IntOp.minsi a 15#32) = IntOp.subi b (IntOp.minsi b 15#32) := fun a b h => by rw [h]
    refine e _ _ ?_
    blk_ext [idx t]
  unfold codeAt codeOf code rqk
  rw [e2, e3, e4, e5, e6]
  simp only [e1, e0]

/-- The codes: element `i` of the first result. -/
theorem arr7 (c : Dev nD) : (dats m 0 c).arrAt 7 cfg0.N = fun i =>
    (codeOf (m ((c : Thread nD τ).loc main_arg0)) (m ((c : Thread nD τ).loc main_arg1)) (m ((c : Thread nD τ).loc main_arg2)) (m ((c : Thread nD τ).loc main_arg3)) (m ((c : Thread nD τ).loc main_arg4)) i).setWidth 16 := by
  refine (dats m 0 c).arrAt_eq_of_covers 7 _ (by decide +kernel) fun t hf y => ?_
  have hq : (outsAt0 m c t.val t.isLt).1 y = (codeAt (m ((c : Thread nD τ).loc main_arg0)) (iblk m c 1 t) (iblk m c 2 t) (iblk m c 3 t) (iblk m c 4 t) (iblk m c 5 t) (iblk m c 6 t) y).setWidth 16 := by
    by_cases h : t.val % 32 = 0
    · rw [qA m c t h y, blk0]
    · exact qB m c t h _ (carried m c _ _) y
  blk_simp
  rw [after0_7, hq]
  refine congrArg _ (code_eq m c t y _ ?_ ?_)
  · blk_ext [idx t]
  · blk_ext [idx t]

/-- The GELU's codes: element `i` of the second result. -/
theorem arr8 (c : Dev nD) : (dats m 0 c).arrAt 8 cfg0.N = fun i =>
    geluH (codeOf (m ((c : Thread nD τ).loc main_arg0)) (m ((c : Thread nD τ).loc main_arg1)) (m ((c : Thread nD τ).loc main_arg2)) (m ((c : Thread nD τ).loc main_arg3)) (m ((c : Thread nD τ).loc main_arg4)) i) := by
  refine (dats m 0 c).arrAt_eq_of_covers 8 _ (by decide +kernel) fun t hf y => ?_
  have hq : (outsAt0 m c t.val t.isLt).2.1 y = geluH (codeAt (m ((c : Thread nD τ).loc main_arg0)) (iblk m c 1 t) (iblk m c 2 t) (iblk m c 3 t) (iblk m c 4 t) (iblk m c 5 t) (iblk m c 6 t) y) := by
    by_cases h : t.val % 32 = 0
    · rw [hA m c t h y, blk0]
    · exact hB m c t h _ (carried m c _ _) y
  blk_simp
  rw [after0_8, hq]
  refine congrArg _ (code_eq m c t y _ ?_ ?_)
  · blk_ext [idx t]
  · blk_ext [idx t]

end Cert.Proof.Ffn1

end
-- ==== Proof.Ref1.lean ====
/-
  Hand-written, untrusted. WHAT THE FIRST REFERENCE COMPUTES: its two result arrays, element by element, are the code of the
  element's row of `x` and column of `w` (`Ffn1.codeOf`) and the integer GELU of the code (`Words.geluH`).
-/
module

public import proofs.«01_k».proof.Proof.Gen.ReferenceIdeal.Value
public import Idealize.ShloMosaic.Lib.Pipeline.ValueKit
public import proofs.«01_k».proof.Proof.Ffn1Array

@[expose] public section

noncomputable section

open scoped BigOperators

namespace Cert.Proof.Ref1

open Cert.ReferenceIdeal Cert.ReferenceIdeal.Gen Idealize.ShloMosaic Cert.Proof.Words Idealize.ShloMosaic.TcCoe
open Idealize.ShloMosaic.Pipeline (Dat)

variable (m : (ℓ : Loc nD τ sig) → Buf (Elt Ideal) ℓ)

/-- The requantised element before the upper clip. -/
theorem pay3_apply (b mm k : Vec Ideal S1x16384 .i32) (X : Vec Ideal S1280x4096 .i8) (W : Vec Ideal S4096x16384 .i8) (r : Fin 1280) (col : Fin 16384) :
    k0_pay3 (F := Ideal) b X W mm k (ix2 r col)
      = IntOp.maxsi 4294963201#32 (rqk (BitVec.ofInt 32 (∑ k : Fin 4096, (X (ix2 r k) : BitVec 8).toInt * (W (ix2 k col) : BitVec 8).toInt) + b (ix2 0 col))
        (mm (ix2 0 col)) (k (ix2 0 col))) := by
  rw [← dot_fptosi (by norm_num), BitVec.add_comm]
  pointwise [k0_pay3]
  rfl

/-- The GELU's code of an array of codes. -/
theorem gelu_apply (v : IVec S1280x16384 32) (i : S1280x16384.Idx) :
    k0_pay1 (k0_pay5 4095#32 v) k0_pay6 i = geluH (k0_pay4 4095#32 v i) := rfl

/-- Every window's one block is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

theorem blk0 (c : Dev nD) : iblk m c 0 t0_0 = m ((c : Thread nD τ).loc main_arg0) := by blk_ext! [iblk, V, idx t0_0]
theorem blk1 (c : Dev nD) : iblk m c 1 t0_0 = m ((c : Thread nD τ).loc main_arg1) := by blk_ext! [iblk, V, idx t0_0]
theorem blk2 (c : Dev nD) (j : Fin 16384) : iblk m c 2 t0_0 (ix2 0 j) = m ((c : Thread nD τ).loc main_arg2) (ix1 j) := by blk_ext! [iblk, V, idx t0_0]
theorem blk3 (c : Dev nD) (j : Fin 16384) : iblk m c 3 t0_0 (ix2 0 j) = m ((c : Thread nD τ).loc main_arg3) (ix1 j) := by blk_ext! [iblk, V, idx t0_0]
theorem blk4 (c : Dev nD) (j : Fin 16384) : iblk m c 4 t0_0 (ix2 0 j) = m ((c : Thread nD τ).loc main_arg4) (ix1 j) := by blk_ext! [iblk, V, idx t0_0]

/-- The body's array of codes. -/
theorem code_eq (c : Dev nD) (i : S1280x16384.Idx) :
    k0_pay4 4095#32 (k0_pay7 (F := Ideal) (iblk m c 0 t0_0) (iblk m c 1 t0_0) (iblk m c 2 t0_0) (iblk m c 3 t0_0) (iblk m c 4 t0_0)) i
      = Ffn1.codeOf (m ((c : Thread nD τ).loc main_arg0)) (m ((c : Thread nD τ).loc main_arg1)) (m ((c : Thread nD τ).loc main_arg2)) (m ((c : Thread nD τ).loc main_arg3)) (m ((c : Thread nD τ).loc main_arg4)) i := by
  obtain ⟨r, col, rfl⟩ : ∃ (r : Fin 1280) (col : Fin 16384), i = ix2 r col := ⟨i 0, i 1, eq_ix2 i⟩
  unfold k0_pay7 k0_pay4
  rw [blk0, blk1]
  have hz : (![0, 0] : Fin 2 → ℕ) = fun _ => 0 := funext fun a => by fin_cases a <;> rfl
  have e (x : Vec Ideal S1x16384 .i32) : View.ld x r0_0 = x := View.ld_unit_zero hz _ x
  have e0 (x : Vec Ideal S1280x4096 .i8) : View.ld x r0_1 = x := View.ld_unit_zero hz _ x
  have e1 (x : Vec Ideal S4096x16384 .i8) : View.ld x r0_2 = x := View.ld_unit_zero hz _ x
  rw [e, e, e, e0, e1]
  refine (congrArg (IntOp.minsi 4095#32) (pay3_apply _ _ _ _ _ r col)).trans ?_
  rw [blk2, blk3, blk4]
  rfl

/-- The first result: the codes. -/
theorem arr5 (c : Dev nD) : (dats m 0 c).arrAt 5 cfg0.N = fun i =>
    (Ffn1.codeOf (m ((c : Thread nD τ).loc main_arg0)) (m ((c : Thread nD τ).loc main_arg1)) (m ((c : Thread nD τ).loc main_arg2)) (m ((c : Thread nD τ).loc main_arg3)) (m ((c : Thread nD τ).loc main_arg4)) i).setWidth 16 := by
  refine (dats m 0 c).arrAt_eq_of_after_last 5 t0_0 (by decide +kernel) _ fun j => ?_
  blk_simp
  rw [after0_5]
  frame_out
  exact congrArg (BitVec.setWidth 16) (code_eq m c j)

/-- The second result: the GELU's codes. -/
theorem arr6 (c : Dev nD) : (dats m 0 c).arrAt 6 cfg0.N = fun i =>
    geluH (Ffn1.codeOf (m ((c : Thread nD τ).loc main_arg0)) (m ((c : Thread nD τ).loc main_arg1)) (m ((c : Thread nD τ).loc main_arg2)) (m ((c : Thread nD τ).loc main_arg3)) (m ((c : Thread nD τ).loc main_arg4)) i) := by
  refine (dats m 0 c).arrAt_eq_of_after_last 6 t0_0 (by decide +kernel) _ fun j => ?_
  blk_simp
  rw [after0_6]
  frame_out
  exact (gelu_apply _ j).trans (congrArg geluH (code_eq m c j))

end Cert.Proof.Ref1

end
-- ==== Proof.Ffn1Eq.lean ====
/-
  Hand-written, untrusted. THE EQUATION of the first kernel and its reference: on equal arguments both leave the same two
  arrays, the codes (`Ffn1.codeOf`) and the GELU's codes of them.
-/
module

public import proofs.«01_k».proof.Defs
public import proofs.«01_k».proof.Proof.Ffn1Array
public import proofs.«01_k».proof.Proof.Ref1

@[expose] public section

noncomputable section

namespace Cert.Proof.Ffn1Eq

open Idealize.ShloMosaic Idealize.SL.Sem Cert.Proof.Words Idealize.ShloMosaic.TcCoe

/-- Equal arguments have equal codes. -/
theorem codeOf_congr {X X' : Vec Ideal ⟨2, ![1280, 4096]⟩ .i8} {W W' : Vec Ideal ⟨2, ![4096, 16384]⟩ .i8} {B B' M M' K K' : Vec Ideal ⟨1, ![16384]⟩ .i32}
    (hX : X' = X) (hW : W' = W) (hB : B' = B) (hM : M' = M) (hK : K' = K) :
    (fun i => Ffn1.codeOf X' W' B' M' K' i) = fun i => Ffn1.codeOf X W B M K i := by
  subst hX hW hB hM hK
  rfl

/-- Equal arguments give equal results, at the idealized floats. -/
theorem algebraic : Cert.algebraic_KernelIdeal_ReferenceIdeal (hKernelIdeal := Cert.KernelIdeal.Gen.facts) (hReferenceIdeal := Cert.ReferenceIdeal.Gen.facts) := by
  intro m g m' g' _ hagree
  refine ⟨fun c => (fun i => (Ffn1.codeOf (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) i).setWidth 16),
    fun c => (fun i => geluH (Ffn1.codeOf (m (c.tc.loc Cert.KernelIdeal.main_arg0)) (m (c.tc.loc Cert.KernelIdeal.main_arg1)) (m (c.tc.loc Cert.KernelIdeal.main_arg2)) (m (c.tc.loc Cert.KernelIdeal.main_arg3)) (m (c.tc.loc Cert.KernelIdeal.main_arg4)) i)), ?_, ?_⟩
  · refine (θ_run _ _ _).mono (fun r h c => ?_) (Cert.KernelIdeal.Value.run_blocks (F := Ideal) m g)
    obtain ⟨h7, h8, h⟩ := h c
    exact ⟨h7.trans (Ffn1.arr7 m c), h8.trans (Ffn1.arr8 m c), h⟩
  · refine (θ_run _ _ _).mono (fun r h c => ?_) (Cert.ReferenceIdeal.Value.run_blocks (F := Ideal) m' g')
    obtain ⟨h5, h6, h⟩ := h c
    obtain ⟨a0, a1, a2, a3, a4⟩ := hagree c
    have hcode := codeOf_congr a0 a1 a2 a3 a4
    exact ⟨h5.trans ((Ref1.arr5 m' c).trans (funext fun i => congrArg (fun b : BitVec 32 => b.setWidth 16) (congrFun hcode i))),
      h6.trans ((Ref1.arr6 m' c).trans (funext fun i => congrArg geluH (congrFun hcode i))), h⟩

end Cert.Proof.Ffn1Eq

end
-- ==== Proof.BIdealValue.lean ====
/-
  Untrusted. What the run leaves of `KernelBIdeal`: the generated module's text, over `BIdealRunC` instead of the generated last case.
-/
module

public import proofs.«01_k».proof.Proof.BIdealFrame
public import Idealize.ShloMosaic.Lib.Pipeline.Value

@[expose] public section

noncomputable section

namespace Cert.KernelBIdeal.Value

open Cert.KernelBIdeal Cert.KernelBIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 13's array: the run's contents for that window after the body (`Gen.outsAt0`: its component 0), read through the window's block. -/
theorem flushed13 (c : Dev nD) (t : Fin cfg0.N) :
    (dats m 0 c).flushed 13 t = (cfg0.win 13).cut (grid0.coords t) ((outsAt0 m c t.val t.isLt).1) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — by the frame's rewriting lemma for the case. -/
theorem flushed13_A (c : Dev nD) (t : Fin cfg0.N) (h0 : t.val % 16 = 0) (h1 : ¬t.val % 16 = 15) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) := by
  simp only [flushed13, outsAt0_A m c t h0 h1]

/-- … so at a point where case B runs, what its write-back would write is that case's NAMED TERM for the window (`Gen.out0_B_13`: the pieces
    its run found, read back) at the point's memrefs and input blocks, and for an output the case reads back what the point before left (`Gen.outsAt0` at `t - 1`) — by the frame's rewriting lemma for the case. -/
theorem flushed13_B (c : Dev nD) (t : Fin cfg0.N) (h0 : ¬t.val % 16 = 0) (h1 : ¬t.val % 16 = 15) :
    (dats m 0 c).flushed 13 t = (cfg0.win 13).cut (grid0.coords t) (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  simp only [flushed13, outsAt0_B m c t h0 h1]

/-- … so at a point where case C runs, what its write-back would write is that case's NAMED TERM for the window (`Gen.out0_C_13`: the pieces
    its run found, read back) at the point's memrefs and input blocks, and for an output the case reads back what the point before left (`Gen.outsAt0` at `t - 1`) — by the frame's rewriting lemma for the case. -/
theorem flushed13_C (c : Dev nD) (t : Fin cfg0.N) (h0 : ¬t.val % 16 = 0) (h1 : t.val % 16 = 15) :
    (dats m 0 c).flushed 13 t = (cfg0.win 13).cut (grid0.coords t) (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2) := by
  simp only [flushed13, outsAt0_C m c t h0 h1]

-- no `blocks13`: window 13's index map revisits a block index, or its points could not be enumerated here;
-- the final array is still the frame's `arrAt`, to read with Lib/Pipeline/Value.lean's lemmas by hand

/-- An index that no flushing point's block covers keeps output window 13's array contents at region entry. -/
theorem entry13 (c : Dev nD) (i : S1280x4096.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v24) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v24) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨post13 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

/-! ## Carried scratch 0: what each point leaves in it, and its fold -/

/-- What point `n` leaves in carried scratch 0, over what the point before left in it (`acc`): the case the conditions'
    closed forms select at `n`, the frame's own term for it (`Gen.sout0_κ_0`; anything else the case takes of the point
    before, another carried scratch or an output it reads back, stays `Gen.outsAt0`'s at `n - 1`); a case at the first point
    stores the scratch whole without reading what it held, and `acc` does not enter there (nor where no point meets the
    conditions: `acc`, never read). -/
def scAt0_0 (c : Dev nD) (n : ℕ) (hb : n < cfg0.N) (acc : Vec F S1280x4096 .i32) : Vec F S1280x4096 .i32 :=
  if h0 : n % 16 = 0 then
    if h1 : n % 16 = 15 then
      acc
    else
      sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N))
  else
    if h1 : n % 16 = 15 then
      sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc
    else
      sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc

/-- WHAT CARRIED SCRATCH 0 HOLDS after point `t`: the fold of its run up to `t`, from the reset at the run's first point
    `16·(t / 16)` (Lib/Pipeline/Value.lean `Pipeline.eq_accAt_of_mod`, by the frame's `outsAt0_κ`; without enumerating the points). -/
theorem soutsAt0_0_eq (c : Dev nD) (t : Fin cfg0.N) :
    (outsAt0 m c t.val t.isLt).2 = Pipeline.accAt (fun n h => scAt0_0 m c n h (VS0_0.read (Elt F) VS0_0.junk)) (scAt0_0 m c) (16 * (t.val / 16)) (t.val % 16)
      (by have h1 := t.isLt; have h2 := Nat.div_add_mod t.val 16; omega) :=
  Pipeline.eq_accAt_of_mod (fun n h => (outsAt0 m c n h).2) 16 (fun n h => scAt0_0 m c n h (VS0_0.read (Elt F) VS0_0.junk)) (scAt0_0 m c)
    (fun n h hn => by
      have hN := lt_of_lt_of_eq h (show cfg0.N = 16 from N_0)
      by_cases h0 : n % 16 = 0 <;> by_cases h1 : n % 16 = 15
      all_goals first | (exfalso; omega) | (rw [outsAt0_A m c ⟨n, h⟩ h0 h1]; dsimp only; unfold scAt0_0; rw [dif_pos h0, dif_neg h1] <;> try rfl) | (rw [outsAt0_B m c ⟨n, h⟩ h0 h1]; dsimp only; unfold scAt0_0; rw [dif_neg h0, dif_neg h1] <;> try rfl) | (rw [outsAt0_C m c ⟨n, h⟩ h0 h1]; dsimp only; unfold scAt0_0; rw [dif_neg h0, dif_pos h1] <;> try rfl))
    (fun n h hn => by
      have hN := lt_of_lt_of_eq h (show cfg0.N = 16 from N_0)
      by_cases h0 : (n + 1) % 16 = 0 <;> by_cases h1 : (n + 1) % 16 = 15
      all_goals first | (exfalso; omega) | (rw [outsAt0_A m c ⟨n + 1, h⟩ h0 h1]; dsimp only; unfold scAt0_0; rw [dif_pos h0, dif_neg h1] <;> try rfl) | (rw [outsAt0_B m c ⟨n + 1, h⟩ h0 h1]; dsimp only; unfold scAt0_0; rw [dif_neg h0, dif_neg h1] <;> try rfl) | (rw [outsAt0_C m c ⟨n + 1, h⟩ h0 h1]; dsimp only; unfold scAt0_0; rw [dif_neg h0, dif_pos h1] <;> try rfl))
    (by decide) t.val t.isLt _

/-- One run spans the grid (the only reset is at point 0): after point `n` the scratch is the fold from 0 to `n`. -/
theorem soutsAt0_0_sweep (c : Dev nD) (n : ℕ) (hn : n < cfg0.N) :
    (outsAt0 m c n hn).2 = Pipeline.accAt (fun n h => scAt0_0 m c n h (VS0_0.read (Elt F) VS0_0.junk)) (scAt0_0 m c) 0 n (by omega) := by
  have e := soutsAt0_0_eq m c ⟨n, hn⟩
  have hN := lt_of_lt_of_eq hn (show cfg0.N = 16 from N_0)
  have hd : n / 16 = 0 := Nat.div_eq_of_lt hN
  have hm : n % 16 = n := Nat.mod_eq_of_lt hN
  simpa only [hd, hm, Nat.mul_zero] using e

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1280x4096 .i8 × Vec F S1280x4096 .i32 :=
  ((VO0_13.read (Elt F) VO0_13.junk, VS0_0.read (Elt F) VS0_0.junk) : Vec F S1280x4096 .i8 × Vec F S1280x4096 .i32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1280x4096 .i8 × Vec F S1280x4096 .i32) : Vec F S1280x4096 .i8 × Vec F S1280x4096 .i32 :=
  if h0 : n % 16 = 0 then
    if h1 : n % 16 = 15 then
      False.elim (by have hN : n < 16 := lt_of_lt_of_eq hb (show cfg0.N = 16 from N_0); omega)
    else
      (out0_A_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)))
  else
    if h1 : n % 16 = 15 then
      (out0_C_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2)
    else
      (out0_B_13 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (iblk m c 11 (⟨n, hb⟩ : Fin cfg0.N)) (iblk m c 12 (⟨n, hb⟩ : Fin cfg0.N)) acc.2)

/-- `stAt0` at a point of case A: that case's contents. -/
theorem stAt0_A (c : Dev nD) (t : Fin cfg0.N) (acc : Vec F S1280x4096 .i8 × Vec F S1280x4096 .i32) (h0 : t.val % 16 = 0) (h1 : ¬t.val % 16 = 15) :
    stAt0 m c t.val t.isLt acc = (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) :=
  (dif_pos h0).trans ((dif_neg h1).trans rfl)

/-- `stAt0` at a point of case B: that case's contents, over `acc`. -/
theorem stAt0_B (c : Dev nD) (t : Fin cfg0.N) (acc : Vec F S1280x4096 .i8 × Vec F S1280x4096 .i32) (h0 : ¬t.val % 16 = 0) (h1 : ¬t.val % 16 = 15) :
    stAt0 m c t.val t.isLt acc = (out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2) :=
  (dif_neg h0).trans ((dif_neg h1).trans rfl)

/-- `stAt0` at a point of case C: that case's contents, over `acc`. -/
theorem stAt0_C (c : Dev nD) (t : Fin cfg0.N) (acc : Vec F S1280x4096 .i8 × Vec F S1280x4096 .i32) (h0 : ¬t.val % 16 = 0) (h1 : t.val % 16 = 15) :
    stAt0 m c t.val t.isLt acc = (out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc.2) :=
  (dif_neg h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 16 from N_0)
  have e := Pipeline.eq_accAt_of_mod (fun n h => outsAt0 m c n h) 16 (fun n h => stAt0 m c n h junk0) (stAt0 m c)
    (fun n h _ => by
      have hN := lt_of_lt_of_eq h (show cfg0.N = 16 from N_0)
      obtain rfl : n = 0 := by omega
      exact outsAt0_zero m c h)
    (fun n h _ => outsAt0_succ m c n h)
    (by decide) n hn (by have := Nat.div_add_mod n 16; omega)
  have hd : n / 16 = 0 := Nat.div_eq_of_lt hN
  have hm : n % 16 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 13 -/

/-- The block of the array that holds index `i`, numbered in the order the points write the blocks back (one every 16 points),
    `i`'s place in it, and the point that writes it back (the last of its 16). -/
abbrev run13Of (i : S1280x4096.Idx) : ℕ := 1 * ((i 0).val / 1280 - 0) + 1 * ((i 1).val / 4096 - 0)
set_option backward.proofsInPublic true in
abbrev loc13Of (i : S1280x4096.Idx) : S1280x4096.Idx := fun a => match a with
  | ⟨0, _⟩ => ⟨(i 0).val % 1280, Nat.mod_lt _ (by decide)⟩
  | ⟨1, _⟩ => ⟨(i 1).val % 4096, Nat.mod_lt _ (by decide)⟩
abbrev pt13Of (i : S1280x4096.Idx) : ℕ := 16 * run13Of i + 15

/-- WHAT THE ARRAY ENDS HOLDING at index `i` inside the box the flushing blocks fill: output 13's component of the carried
    state's fold at the point that writes `i`'s block back, at `i`'s place in the block. `G13` states the array's contents
    only inside the box. -/
def G13 (c : Dev nD) : Buf (Elt F) ((c : Thread nD τ).loc main_v24) := fun i =>
  if h : pt13Of i < cfg0.N then
    (Pipeline.accAt (fun n h => stAt0 m c n h junk0) (stAt0 m c) 0 (pt13Of i) (by omega)).1 (loc13Of i)
  else V m c (Pipeline.arrRef spec0 13) i

/-- The printed index map, decided over the grid: output window 13's block indices stay in the box, and the block number
    read off them is the point's (`t / 16`). -/
theorem idx_facts13 : ∀ t : Fin cfg0.N, 0 ≤ win0_13.index t (0 : Fin 2) ∧ win0_13.index t (0 : Fin 2) ≤ 0
    ∧ 0 ≤ win0_13.index t (1 : Fin 2) ∧ win0_13.index t (1 : Fin 2) ≤ 0
    ∧ 1 * (win0_13.index t (0 : Fin 2) - 0) + 1 * (win0_13.index t (1 : Fin 2) - 0) = t.val / 16 :=
  (by decide +kernel : ∀ t : Fin grid0.N, _)

/-- Every block of the box is SOME flushing point's: `onto13Pt`, the point that writes back the block at place `q` of the box (the last point of its run). -/
abbrev onto13Pt (q0 : Fin 1) (q1 : Fin 1) : Fin grid0.N :=
  ⟨16 * (1 * q0.val + 1 * q1.val) + 15, lt_of_lt_of_eq (by omega) N_0.symm⟩
theorem idx_onto13 : ∀ (q0 : Fin 1) (q1 : Fin 1), ∃ t : Fin cfg0.N, (cfg0.win 13).flush t = true ∧ win0_13.index t = ![q0.val + 0, q1.val + 0] :=
  fun q0 q1 => ⟨onto13Pt q0 q1, (by decide +kernel : ∀ (q0 : Fin 1) (q1 : Fin 1), win0_13.flush (onto13Pt q0 q1) = true ∧ win0_13.index (onto13Pt q0 q1) = ![q0.val + 0, q1.val + 0]) q0 q1⟩

/-- WHAT A FLUSHING POINT `t` WRITES BACK is block `t` of `G13`: output 13's component of the fold up to `t`. -/
theorem flushed13_eq (c : Dev nD) (t : Fin cfg0.N) (hf : (cfg0.win 13).flush t = true) :
    (dats m 0 c).flushed 13 t = ((cfg0.win 13).blk t).view.read (Elt F) (G13 m c) := by
  show (cfg0.win 13).cut (grid0.coords t) ((dats m 0 c).after 13 t) = _
  rw [after0_13, outsAt0_sweep]
  have hm : t.val % 16 = 15 := (flush0_13 t).mp hf
  obtain ⟨e0, e1, e2⟩ := idx_facts13 t
  funext y
  have hy0 : (y 0).val < 1280 := (y 0).isLt
  have hy1 : (y 1).val < 4096 := (y 1).isLt
  have hb0 : (((cfg0.win 13).blk t).view.emb y 0).val = win0_13.index t (0 : Fin 2) * 1280 + 1 * (y 0).val := rfl
  have hb1 : (((cfg0.win 13).blk t).view.emb y 1).val = win0_13.index t (1 : Fin 2) * 4096 + 1 * (y 1).val := rfl
  have hr : run13Of (((cfg0.win 13).blk t).view.emb y) = t.val / 16 := by
    show 1 * ((((cfg0.win 13).blk t).view.emb y 0).val / 1280 - 0) + 1 * ((((cfg0.win 13).blk t).view.emb y 1).val / 4096 - 0) = _
    rw [hb0, hb1]
    rw [show (win0_13.index t (0 : Fin 2) * 1280 + 1 * (y 0).val) / 1280 = win0_13.index t (0 : Fin 2) from by omega]; rw [show (win0_13.index t (1 : Fin 2) * 4096 + 1 * (y 1).val) / 4096 = win0_13.index t (1 : Fin 2) from by omega]
    omega
  have hl : loc13Of (((cfg0.win 13).blk t).view.emb y) = (cfg0.win 13).xinj (grid0.coords t) y := by
    funext a; apply Fin.ext
    match a with
    | ⟨0, _⟩ => show (((cfg0.win 13).blk t).view.emb y 0).val % 1280 = (y 0).val; rw [hb0]; omega
    | ⟨1, _⟩ => show (((cfg0.win 13).blk t).view.emb y 1).val % 4096 = (y 1).val; rw [hb1]; omega
  have hp : pt13Of (((cfg0.win 13).blk t).view.emb y) = t.val := by
    show 16 * run13Of (((cfg0.win 13).blk t).view.emb y) + 15 = _
    rw [hr]; have := Nat.div_add_mod t.val 16; omega
  show (Pipeline.accAt (fun n h => stAt0 m c n h junk0) (stAt0 m c) 0 t.val _).1 ((cfg0.win 13).xinj (grid0.coords t) y) = G13 m c (((cfg0.win 13).blk t).view.emb y)
  unfold G13
  rw [dif_pos (by rw [hp]; exact t.isLt), hl, fold0_congr m c _ _ _ _ hp.symm]

/-- An index of the array is in point `t`'s block iff each coordinate is in the block's range on its axis. -/
theorem mem_blk13 (t : Fin cfg0.N) (i : S1280x4096.Idx) :
    i ∈ ((cfg0.win 13).blk t).view.set ↔ ∀ a : Fin 2, win0_13.index t a * S1280x4096.size a ≤ (i a).val ∧ (i a).val < win0_13.index t a * S1280x4096.size a + S1280x4096.size a := by
  show i ∈ ((View.whole main_v24).slice (win0_13.rect t)).set ↔ _
  rw [View.set_slice_whole, Rect.mem_set_unit]
  exact Iff.rfl

/-- THE COVERED INDICES: in some flushing point's block iff inside the box those blocks fill. -/
theorem covered_iff13 (i : S1280x4096.Idx) :
    (∃ t : Fin cfg0.N, (cfg0.win 13).flush t = true ∧ i ∈ ((cfg0.win 13).blk t).view.set) ↔ 0 ≤ (i 0).val ∧ (i 0).val < 1280 ∧ 0 ≤ (i 1).val ∧ (i 1).val < 4096 := by
  constructor
  · rintro ⟨t, -, hi⟩
    rw [mem_blk13] at hi
    have b0 : win0_13.index t (0 : Fin 2) * 1280 ≤ (i 0).val ∧ (i 0).val < win0_13.index t (0 : Fin 2) * 1280 + 1280 := hi 0
    have b1 : win0_13.index t (1 : Fin 2) * 4096 ≤ (i 1).val ∧ (i 1).val < win0_13.index t (1 : Fin 2) * 4096 + 4096 := hi 1
    obtain ⟨e0, e1, e2⟩ := idx_facts13 t
    omega
  · intro h
    have hi0 : (i 0).val < 1280 := (i 0).isLt
    have hi1 : (i 1).val < 4096 := (i 1).isLt
    obtain ⟨t, hft, ht⟩ := idx_onto13 ⟨(i 0).val / 1280 - 0, by omega⟩ ⟨(i 1).val / 4096 - 0, by omega⟩
    have q0 : win0_13.index t (0 : Fin 2) = (i 0).val / 1280 - 0 + 0 := congrFun ht 0
    have q1 : win0_13.index t (1 : Fin 2) = (i 1).val / 4096 - 0 + 0 := congrFun ht 1
    refine ⟨t, hft, ?_⟩
    rw [mem_blk13]
    intro a
    match a with
    | ⟨0, _⟩ => show win0_13.index t (0 : Fin 2) * 1280 ≤ (i 0).val ∧ (i 0).val < win0_13.index t (0 : Fin 2) * 1280 + 1280; omega
    | ⟨1, _⟩ => show win0_13.index t (1 : Fin 2) * 4096 ≤ (i 1).val ∧ (i 1).val < win0_13.index t (1 : Fin 2) * 4096 + 4096; omega

/-- THE ARRAY after the run: `G13` (the flushing blocks tile it). -/
theorem final13 (c : Dev nD) : (dats m 0 c).arrAt 13 cfg0.N = G13 m c :=
  (dats m 0 c).arrAt_eq_of_cover 13 _ (fun t hf => flushed13_eq m c t hf) (fun i => (covered_iff13 i).2 (by
    have h0 : (i 0).val < 1280 := (i 0).isLt; have h1 : (i 1).val < 4096 := (i 1).isLt; omega))

/-- Output 13 is written back ONCE, at the last point, and its block is its array: the array after the run is output 13's
    component of the fold over the whole grid — where a hand proof over this window starts. -/
theorem G13_last (c : Dev nD) :
    G13 m c = (Pipeline.accAt (fun n h => stAt0 m c n h junk0) (stAt0 m c) 0 15 (lt_of_lt_of_eq (by decide) N_0.symm)).1 := by
  funext i
  have hi0 : (i 0).val < 1280 := (i 0).isLt
  have hi1 : (i 1).val < 4096 := (i 1).isLt
  have hp : pt13Of i = 15 := by
    show 16 * (1 * ((i 0).val / 1280 - 0) + 1 * ((i 1).val / 4096 - 0)) + 15 = _
    omega
  have hl : loc13Of i = i := by
    funext a; apply Fin.ext
    match a with
    | ⟨0, _⟩ => show (i 0).val % 1280 = (i 0).val; omega
    | ⟨1, _⟩ => show (i 1).val % 4096 = (i 1).val; omega
  unfold G13
  rw [dif_pos (by rw [hp]; exact lt_of_lt_of_eq (by decide) N_0.symm), hl, fold0_congr m c _ _ _ _ hp]

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v24) = G13 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c⟩)
    (run_main m ρ)

end Cert.KernelBIdeal.Value

end
-- ==== Proof.BIdealTrip.lean ====
/-
  Hand-written, untrusted. What one trip of the LayerNorm loop of `KernelBIdeal` writes, in closed form. The trip works on 64 rows,
  in 32 chunks of 128 columns; the printed body repeats each phase 32 times. Here each phase is a recursion over the chunks.
-/
module

public import proofs.«01_k».proof.Proof.BIdealLn

@[expose] public section

set_option maxRecDepth 65536

noncomputable section

namespace Cert.KernelBIdeal.Gen

open Idealize.ShloMosaic Idealize.ShloMosaic.TcCoe Idealize.SL Idealize.SL.Sem

variable {F : FTy → Type} [FloatOps F]

/-- Where chunk `j` of trip `k` lies: 64 rows from `64 * k`, 128 columns from `128 * j`. -/
def offC : ℕ → Fin k0_t2_loop.trips → Fin 2 → ℕ
  | 0 => k0_off10
  | 1 => k0_off11
  | 2 => k0_off12
  | 3 => k0_off13
  | 4 => k0_off14
  | 5 => k0_off15
  | 6 => k0_off16
  | 7 => k0_off17
  | 8 => k0_off18
  | 9 => k0_off19
  | 10 => k0_off20
  | 11 => k0_off21
  | 12 => k0_off22
  | 13 => k0_off23
  | 14 => k0_off24
  | 15 => k0_off25
  | 16 => k0_off26
  | 17 => k0_off27
  | 18 => k0_off28
  | 19 => k0_off29
  | 20 => k0_off30
  | 21 => k0_off31
  | 22 => k0_off32
  | 23 => k0_off33
  | 24 => k0_off34
  | 25 => k0_off35
  | 26 => k0_off36
  | 27 => k0_off37
  | 28 => k0_off38
  | 29 => k0_off39
  | 30 => k0_off40
  | _ => k0_off41

theorem offC_eq' : ∀ j : Fin 32, ∀ k : Fin k0_t2_loop.trips, offC j.val k = ![64 * k.val, 128 * j.val] := by decide +kernel

theorem offC_eq (j : ℕ) (hj : j < 32) (k : Fin k0_t2_loop.trips) : offC j k = ![64 * k.val, 128 * j] := offC_eq' ⟨j, hj⟩ k

theorem offC_inb' : ∀ j : Fin 32, ∀ k : Fin k0_t2_loop.trips, ∀ a, offC j.val k a + S64x128.size a ≤ S1280x4096.size a := by decide +kernel

theorem offC_inb (j : ℕ) (k : Fin k0_t2_loop.trips) : ∀ a, offC j k a + S64x128.size a ≤ S1280x4096.size a := by
  by_cases hj : j < 32
  · exact offC_inb' ⟨j, hj⟩ k
  · obtain ⟨n, rfl⟩ : ∃ n, j = n + 32 := ⟨j - 32, by omega⟩
    exact offC_inb' ⟨31, by omega⟩ k

/-- The rectangle of chunk `j` of trip `k`. -/
abbrev rectC (j : ℕ) (k : Fin k0_t2_loop.trips) : Rect S1280x4096 := Rect.unit (s := S1280x4096) (offC j k) S64x128.size (offC_inb j k)

theorem colC_inb (j : ℕ) : ∀ a, (![0, 128 * (j % 32)] : Fin 2 → ℕ) a + S1x128.size a ≤ S1x4096.size a := by
  refine Fin.forall_fin_two.2 ⟨?_, ?_⟩
  · show 0 + 1 ≤ 1; omega
  · show 128 * (j % 32) + 128 ≤ 4096; omega

/-- The columns of chunk `j` in a row of parameters. -/
abbrev colC (j : ℕ) : Rect S1x4096 := Rect.unit (s := S1x4096) ![0, 128 * (j % 32)] S1x128.size (colC_inb j)

/-- The sum along the lanes, as the body forms it: the low halves and the high halves apart, in floats. -/
def lanesC (s : IVec S64x128 32) : IVec S64x1 32 :=
  addi (shli (fptosi 32 (shapeCast S64x1 (multiReduction (F := F) .add [1] S64 (sitofp .f32 (shrsi s (broadcast S64x128 16#32))) 0x00000000#32 reduces_S64x128_S64 (.inl rfl) rfl) shapeCasts_S64_S64x1)) (broadcast S64x1 16#32))
    (fptosi 32 (shapeCast S64x1 (multiReduction (F := F) .add [1] S64 (sitofp .f32 (andi s (broadcast S64x128 65535#32))) 0x00000000#32 reduces_S64x128_S64 (.inl rfl) rfl) shapeCasts_S64_S64x1))

/-- The rows' means. -/
def muC (s : IVec S64x128 32) : IVec S64x1 32 :=
  shrsi (addi (lanesC (F := F) s) (broadcast S64x1 2048#32)) (broadcast S64x1 12#32)

/-- The shift of the rows' deviations, from the greatest in each lane. -/
def shC (t : IVec S64x128 32) : IVec S64x1 32 :=
  maxsi (subi (fptosi 32 (shapeCast S64x1 (multiReduction (F := F) .maximumf [1] S64 (sitofp .f32 (subi (broadcast S64x128 32#32) (ctlz t))) 0xFF800000#32 reduces_S64x128_S64 (.inl rfl) rfl) shapeCasts_S64_S64x1)) (broadcast S64x1 9#32))
    (broadcast S64x1 0#32)

/-- The rows' variances. -/
def varC (v : IVec S64x128 32) : IVec S64x1 32 :=
  maxsi (lanesC (F := F) v) (broadcast S64x1 1#32)

/-- The sign of a vector's entries. -/
def sgnC (a : IVec S64x1 32) : IVec S64x1 32 :=
  subi (extui 32 (cmpi .sgt a (broadcast S64x1 0#32)) natLt_1_32) (extui 32 (cmpi .slt a (broadcast S64x1 0#32)) natLt_1_32)

/-- Division rounding down, from the division rounding to zero. -/
def fdivC (a b sa : IVec S64x1 32) : IVec S64x1 32 :=
  select (andi (cmpi .ne sa (sgnC b)) (cmpi .ne (remsi a b) (broadcast S64x1 0#32))) (subi (divsi a b) (broadcast S64x1 1#32)) (divsi a b)

/-- Newton's iterates for the square root. -/
def newtC (v : IVec S64x1 32) : ℕ → IVec S64x1 32
  | 0 => broadcast S64x1 65536#32
  | n + 1 => shrsi (addi (newtC v n) (fdivC v (newtC v n) (sgnC v))) (broadcast S64x1 1#32)

/-- The rows' factors. -/
def facC (v sh : IVec S64x1 32) : IVec S64x1 32 :=
  fdivC (broadcast S64x1 2147483647#32) (shli (addi (newtC v 20) (broadcast S64x1 1#32)) sh) (broadcast S64x1 1#32)

/-- A requantisation. -/
def rqC (v : IVec S64x128 32) (m l r q : IVec S1x128 32) : IVec S64x128 32 :=
  shrsi (addi (muli (shrsi v (broadcastTo S64x128 (shapeCast S1x128 l shapeCasts_S1x128_S1x128) broadcasts_S1x128_S64x128)) (broadcastTo S64x128 (shapeCast S1x128 m shapeCasts_S1x128_S1x128) broadcasts_S1x128_S64x128))
    (shrsi (addi (muli (andi v (broadcastTo S64x128 (subi (shli (broadcast S1x128 1#32) (shapeCast S1x128 l shapeCasts_S1x128_S1x128)) (broadcast S1x128 1#32)) broadcasts_S1x128_S64x128)) (broadcastTo S64x128 (shapeCast S1x128 m shapeCasts_S1x128_S1x128) broadcasts_S1x128_S64x128)) (broadcastTo S64x128 (shapeCast S1x128 r shapeCasts_S1x128_S1x128) broadcasts_S1x128_S64x128)) (broadcastTo S64x128 (shapeCast S1x128 l shapeCasts_S1x128_S1x128) broadcasts_S1x128_S64x128)))
    (broadcastTo S64x128 (shapeCast S1x128 q shapeCasts_S1x128_S1x128) broadcasts_S1x128_S64x128)

/-- The requantised sum with the residual. -/
def zC (v : IVec S64x128 32) (m l r q : IVec S1x128 32) (x : IVec S64x128 8) : IVec S64x128 32 :=
  addi (rqC v m l r q) (shli (extsi 32 x natLt_8_32) (broadcast S64x128 4#32))

/-- The deviation from the mean. -/
def yC (z : IVec S64x128 32) (mu : IVec S64x1 32) : IVec S64x128 32 := subi z (broadcastTo S64x128 mu broadcasts_S64x1_S64x128)

/-- The result's codes. -/
def oC (y : IVec S64x128 32) (f : IVec S64x1 32) (m l r q b : IVec S1x128 32) : IVec S64x128 8 :=
  trunci 8 (minsi (broadcast S64x128 127#32) (maxsi (broadcast S64x128 4294967169#32)
    (addi (rqC (shrsi (muli y (broadcastTo S64x128 f broadcasts_S64x1_S64x128)) (broadcast S64x128 16#32)) m l r q) (broadcastTo S64x128 (shapeCast S1x128 b shapeCasts_S1x128_S1x128) broadcasts_S1x128_S64x128)))) natLt_8_32

section Trip

/-- The deviation's shifted square. -/
def sqC (y : IVec S64x128 32) (sh : IVec S64x1 32) : IVec S64x128 32 :=
  muli (shrsi y (broadcastTo S64x128 sh broadcasts_S64x1_S64x128)) (shrsi y (broadcastTo S64x128 sh broadcasts_S64x1_S64x128))

variable (v15 : View sig .tc .vmem S1280x4096 .i32) (k : Fin k0_t2_loop.trips) (z : ℕ → IVec S64x128 32) (g : ℕ → IVec S64x128 32 → IVec S64x1 32 → IVec S64x128 8)

/-- The sum over the first chunks. -/
def sumC : ℕ → IVec S64x128 32
  | 0 => broadcast S64x128 0#32
  | n + 1 => addi (sumC n) (z n)

/-- The accumulator's pieces of the first phase. -/
def pzC : ℕ → List (View.Piece (Elt F) S1280x4096 .i32)
  | 0 => []
  | n + 1 => ⟨rectC n k, shapeCast S64x128 (z n) shapeCasts_S64x128_S64x128⟩ :: pzC n

/-- The accumulator's pieces of the first two phases. -/
def pyC (mu : IVec S64x1 32) : ℕ → List (View.Piece (Elt F) S1280x4096 .i32)
  | 0 => pzC k z 32
  | n + 1 => ⟨rectC n k, shapeCast S64x128 (yC (v15.readCov (pyC mu n) (rectC n k).toLoadRect) mu) shapeCasts_S64x128_S64x128⟩ :: pyC mu n

/-- The greatest deviation of each lane. -/
def topC (mu : IVec S64x1 32) : ℕ → IVec S64x128 32
  | 0 => broadcast S64x128 0#32
  | n + 1 => maxsi (topC mu n) (absi (yC (v15.readCov (pyC (F := F) v15 k z mu n) (rectC n k).toLoadRect) mu))

/-- The sum of the squares over the first chunks, loaded back from the pieces `L`. -/
def vsC (L : List (View.Piece (Elt F) S1280x4096 .i32)) (sh : IVec S64x1 32) : ℕ → IVec S64x128 32
  | 0 => broadcast S64x128 0#32
  | n + 1 => addi (vsC L sh n) (sqC (v15.readCov L (rectC n k).toLoadRect) sh)

/-- The result's pieces. -/
def poC (L : List (View.Piece (Elt F) S1280x4096 .i32)) (f : IVec S64x1 32) : ℕ → List (View.Piece (Elt F) S1280x4096 .i8)
  | 0 => []
  | n + 1 => ⟨rectC n k, g n (v15.readCov L (rectC n k).toLoadRect) f⟩ :: poC L f n

/-- The greatest deviation of each lane, loaded back from the pieces there are at each chunk. -/
def tpC (H : ℕ → List (View.Piece (Elt F) S1280x4096 .i32)) (mu : IVec S64x1 32) : ℕ → IVec S64x128 32
  | 0 => broadcast S64x128 0#32
  | n + 1 => maxsi (tpC H mu n) (absi (yC (v15.readCov (H n) (rectC n k).toLoadRect) mu))

theorem tpC_eq (H : ℕ → List (View.Piece (Elt F) S1280x4096 .i32)) (mu : IVec S64x1 32) (n : ℕ) (h : ∀ j, j < n → H j = pyC v15 k z mu j) :
    tpC v15 k H mu n = topC (F := F) v15 k z mu n := by
  induction n with
  | zero => rfl
  | succ n ih => unfold tpC topC; rw [ih fun j hj => h j (by omega), h n (by omega)]

theorem pyC_eq (H : ℕ → List (View.Piece (Elt F) S1280x4096 .i32)) (mu : IVec S64x1 32) (h0 : H 0 = pzC k z 32)
    (hs : ∀ n, n < 32 → H (n + 1) = ⟨rectC n k, shapeCast S64x128 (yC (v15.readCov (H n) (rectC n k).toLoadRect) mu) shapeCasts_S64x128_S64x128⟩ :: H n)
    (n : ℕ) (hn : n ≤ 32) : H n = pyC v15 k z mu n := by
  induction n with
  | zero => exact h0
  | succ n ih => rw [hs n (by omega), ih (by omega)]; rfl

/-- A trip's mean, shift and factor. -/
def tripMu : IVec S64x1 32 := muC (F := F) (sumC z 32)
def tripSh : IVec S64x1 32 := shC (F := F) (topC (F := F) v15 k z (tripMu (F := F) z) 32)
def tripVar : IVec S64x1 32 := varC (F := F) (vsC (F := F) v15 k (pyC v15 k z (tripMu (F := F) z) 32) (tripSh (F := F) v15 k z) 32)
def tripFac : IVec S64x1 32 := facC (tripVar (F := F) v15 k z) (tripSh (F := F) v15 k z)

end Trip

section Stages

variable (k : Fin k0_t2_loop.trips) (i : grid0.Coords) (arg3 : Memref sig .tc .vmem S1280x4096 .i8) (arg5 : Memref sig .tc .vmem S1x4096 .i32) (arg6 : Memref sig .tc .vmem S1x4096 .i32) (arg7 : Memref sig .tc .vmem S1x4096 .i32) (arg8 : Memref sig .tc .vmem S1x4096 .i32) (arg15 : Memref sig .tc .vmem S1280x4096 .i32) (k0_h2 : k0_cond2 i = 1#1) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (f15 : BufTy.Contents (Elt F) arg15.view.ty)

/-- The sums with the residual, chunk by chunk. -/
def zT : ℕ → IVec S64x128 32 :=
  fun j => zC (arg15.view.readAt (Elt F) (rectC j k).toLoadRect f15) (arg5.view.readAt (Elt F) (colC j).toLoadRect X_arg5) (arg6.view.readAt (Elt F) (colC j).toLoadRect X_arg6) (arg7.view.readAt (Elt F) (colC j).toLoadRect X_arg7) (arg8.view.readAt (Elt F) (colC j).toLoadRect X_arg8) (arg3.view.readAt (Elt F) (rectC j k).toLoadRect X_arg3)

/-- The accumulator's pieces when chunk `j` of the second phase is loaded. -/
def HWm : ℕ → List (View.Piece (Elt F) S1280x4096 .i32)
  | 0 => (@trip_k0_t2.sl.HW_arg15_32 F i arg3 arg5 arg6 arg7 arg8 arg15 k0_h2 X_arg3 X_arg5 X_arg6 X_arg7 X_arg8 k f15)
  | 1 => (@trip_k0_t2.sl.HW_arg15_33 F _ i arg3 arg5 arg6 arg7 arg8 arg15 k0_h2 X_arg3 X_arg5 X_arg6 X_arg7 X_arg8 k f15)
  | 2 => (@trip_k0_t2.sl.HW_arg15_34 F _ i arg3 arg5 arg6 arg7 arg8 arg15 k0_h2 X_arg3 X_arg5 X_arg6 X_arg7 X_arg8 k f15)
  | 3 => (@trip_k0_t2.sl.HW_arg15_35 F _ i arg3 arg5 arg6 arg7 arg8 arg15 k0_h2 X_arg3 X_arg5 X_arg6 X_arg7 X_arg8 k f15)
  | 4 => (@trip_k0_t2.sl.HW_arg15_36 F _ i arg3 arg5 arg6 arg7 arg8 arg15 k0_h2 X_arg3 X_arg5 X_arg6 X_arg7 X_arg8 k f15)
  | 5 => (@trip_k0_t2.sl.HW_arg15_37 F _ i arg3 arg5 arg6 arg7 arg8 arg15 k0_h2 X_arg3 X_arg5 X_arg6 X_arg7 X_arg8 k f15)
  | 6 => (@trip_k0_t2.sl.HW_arg15_38 F _ i arg3 arg5 arg6 arg7 arg8 arg15 k0_h2 X_arg3 X_arg5 X_arg6 X_arg7 X_arg8 k f15)
  | 7 => (@trip_k0_t2.sl.HW_arg15_39 F _ i arg3 arg5 arg6 arg7 arg8 arg15 k0_h2 X_arg3 X_arg5 X_arg6 X_arg7 X_arg8 k f15)
  | 8 => (@trip_k0_t2.sl.HW_arg15_40 F _ i arg3 arg5 arg6 arg7 arg8 arg15 k0_h2 X_arg3 X_arg5 X_arg6 X_arg7 X_arg8 k f15)
  | 9 => (@trip_k0_t2.sl.HW_arg15_41 F _ i arg3 arg5 arg6 arg7 arg8 arg15 k0_h2 X_arg3 X_arg5 X_arg6 X_arg7 X_arg8 k f15)
  | 10 => (@trip_k0_t2.sl.HW_arg15_42 F _ i arg3 arg5 arg6 arg7 arg8 arg15 k0_h2 X_arg3 X_arg5 X_arg6 X_arg7 X_arg8 k f15)
  | 11 => (@trip_k0_t2.sl.HW_arg15_43 F _ i arg3 arg5 arg6 arg7 arg8 arg15 k0_h2 X_arg3 X_arg5 X_arg6 X_arg7 X_arg8 k f15)
  | 12 => (@trip_k0_t2.sl.HW_arg15_44 F _ i arg3 arg5 arg6 arg7 arg8 arg15 k0_h2 X_arg3 X_arg5 X_arg6 X_arg7 X_arg8 k f15)
  | 13 => (@trip_k0_t2.sl.HW_arg15_45 F _ i arg3 arg5 arg6 arg7 arg8 arg15 k0_h2 X_arg3 X_arg5 X_arg6 X_arg7 X_arg8 k f15)
  | 14 => (@trip_k0_t2.sl.HW_arg15_46 F _ i arg3 arg5 arg6 arg7 arg8 arg15 k0_h2 X_arg3 X_arg5 X_arg6 X_arg7 X_arg8 k f15)
  | 15 => (@trip_k0_t2.sl.HW_arg15_47 F _ i arg3 arg5 arg6 arg7 arg8 arg15 k0_h2 X_arg3 X_arg5 X_arg6 X_arg7 X_arg8 k f15)
  | 16 => (@trip_k0_t2.sl.HW_arg15_48 F _ i arg3 arg5 arg6 arg7 arg8 arg15 k0_h2 X_arg3 X_arg5 X_arg6 X_arg7 X_arg8 k f15)
  | 17 => (@trip_k0_t2.sl.HW_arg15_49 F _ i arg3 arg5 arg6 arg7 arg8 arg15 k0_h2 X_arg3 X_arg5 X_arg6 X_arg7 X_arg8 k f15)
  | 18 => (@trip_k0_t2.sl.HW_arg15_50 F _ i arg3 arg5 arg6 arg7 arg8 arg15 k0_h2 X_arg3 X_arg5 X_arg6 X_arg7 X_arg8 k f15)
  | 19 => (@trip_k0_t2.sl.HW_arg15_51 F _ i arg3 arg5 arg6 arg7 arg8 arg15 k0_h2 X_arg3 X_arg5 X_arg6 X_arg7 X_arg8 k f15)
  | 20 => (@trip_k0_t2.sl.HW_arg15_52 F _ i arg3 arg5 arg6 arg7 arg8 arg15 k0_h2 X_arg3 X_arg5 X_arg6 X_arg7 X_arg8 k f15)
  | 21 => (@trip_k0_t2.sl.HW_arg15_53 F _ i arg3 arg5 arg6 arg7 arg8 arg15 k0_h2 X_arg3 X_arg5 X_arg6 X_arg7 X_arg8 k f15)
  | 22 => (@trip_k0_t2.sl.HW_arg15_54 F _ i arg3 arg5 arg6 arg7 arg8 arg15 k0_h2 X_arg3 X_arg5 X_arg6 X_arg7 X_arg8 k f15)
  | 23 => (@trip_k0_t2.sl.HW_arg15_55 F _ i arg3 arg5 arg6 arg7 arg8 arg15 k0_h2 X_arg3 X_arg5 X_arg6 X_arg7 X_arg8 k f15)
  | 24 => (@trip_k0_t2.sl.HW_arg15_56 F _ i arg3 arg5 arg6 arg7 arg8 arg15 k0_h2 X_arg3 X_arg5 X_arg6 X_arg7 X_arg8 k f15)
  | 25 => (@trip_k0_t2.sl.HW_arg15_57 F _ i arg3 arg5 arg6 arg7 arg8 arg15 k0_h2 X_arg3 X_arg5 X_arg6 X_arg7 X_arg8 k f15)
  | 26 => (@trip_k0_t2.sl.HW_arg15_58 F _ i arg3 arg5 arg6 arg7 arg8 arg15 k0_h2 X_arg3 X_arg5 X_arg6 X_arg7 X_arg8 k f15)
  | 27 => (@trip_k0_t2.sl.HW_arg15_59 F _ i arg3 arg5 arg6 arg7 arg8 arg15 k0_h2 X_arg3 X_arg5 X_arg6 X_arg7 X_arg8 k f15)
  | 28 => (@trip_k0_t2.sl.HW_arg15_60 F _ i arg3 arg5 arg6 arg7 arg8 arg15 k0_h2 X_arg3 X_arg5 X_arg6 X_arg7 X_arg8 k f15)
  | 29 => (@trip_k0_t2.sl.HW_arg15_61 F _ i arg3 arg5 arg6 arg7 arg8 arg15 k0_h2 X_arg3 X_arg5 X_arg6 X_arg7 X_arg8 k f15)
  | 30 => (@trip_k0_t2.sl.HW_arg15_62 F _ i arg3 arg5 arg6 arg7 arg8 arg15 k0_h2 X_arg3 X_arg5 X_arg6 X_arg7 X_arg8 k f15)
  | 31 => (@trip_k0_t2.sl.HW_arg15_63 F _ i arg3 arg5 arg6 arg7 arg8 arg15 k0_h2 X_arg3 X_arg5 X_arg6 X_arg7 X_arg8 k f15)
  | _ => (@trip_k0_t2.sl.HW_arg15_64 F _ i arg3 arg5 arg6 arg7 arg8 arg15 k0_h2 X_arg3 X_arg5 X_arg6 X_arg7 X_arg8 k f15)

set_option maxHeartbeats 0 in
theorem stage_z : (@trip_k0_t2.sl.HW_arg15_32 F i arg3 arg5 arg6 arg7 arg8 arg15 k0_h2 X_arg3 X_arg5 X_arg6 X_arg7 X_arg8 k f15) = pzC k (zT k arg3 arg5 arg6 arg7 arg8 arg15 X_arg3 X_arg5 X_arg6 X_arg7 X_arg8 f15) 32 := rfl

set_option maxHeartbeats 0 in
theorem stage_mu : (@trip_k0_t2.sl.r_3 F _ i arg3 arg5 arg6 arg7 arg8 arg15 k0_h2 X_arg3 X_arg5 X_arg6 X_arg7 X_arg8 k f15) = tripMu (F := F) (zT k arg3 arg5 arg6 arg7 arg8 arg15 X_arg3 X_arg5 X_arg6 X_arg7 X_arg8 f15) := rfl

theorem stage_y0 : (@trip_k0_t2.sl.HW_arg15_33 F _ i arg3 arg5 arg6 arg7 arg8 arg15 k0_h2 X_arg3 X_arg5 X_arg6 X_arg7 X_arg8 k f15) = ⟨rectC 0 k, shapeCast S64x128 (yC (arg15.view.readCov (@trip_k0_t2.sl.HW_arg15_32 F i arg3 arg5 arg6 arg7 arg8 arg15 k0_h2 X_arg3 X_arg5 X_arg6 X_arg7 X_arg8 k f15) (rectC 0 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_32 F i arg3 arg5 arg6 arg7 arg8 arg15 k0_h2 X_arg3 X_arg5 X_arg6 X_arg7 X_arg8 k f15) := rfl
theorem stage_y1 : (@trip_k0_t2.sl.HW_arg15_34 F _ i arg3 arg5 arg6 arg7 arg8 arg15 k0_h2 X_arg3 X_arg5 X_arg6 X_arg7 X_arg8 k f15) = ⟨rectC 1 k, shapeCast S64x128 (yC (arg15.view.readCov (@trip_k0_t2.sl.HW_arg15_33 F _ i arg3 arg5 arg6 arg7 arg8 arg15 k0_h2 X_arg3 X_arg5 X_arg6 X_arg7 X_arg8 k f15) (rectC 1 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_33 F _ i arg3 arg5 arg6 arg7 arg8 arg15 k0_h2 X_arg3 X_arg5 X_arg6 X_arg7 X_arg8 k f15) := rfl
theorem stage_y2 : (@trip_k0_t2.sl.HW_arg15_35 F _ i arg3 arg5 arg6 arg7 arg8 arg15 k0_h2 X_arg3 X_arg5 X_arg6 X_arg7 X_arg8 k f15) = ⟨rectC 2 k, shapeCast S64x128 (yC (arg15.view.readCov (@trip_k0_t2.sl.HW_arg15_34 F _ i arg3 arg5 arg6 arg7 arg8 arg15 k0_h2 X_arg3 X_arg5 X_arg6 X_arg7 X_arg8 k f15) (rectC 2 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_34 F _ i arg3 arg5 arg6 arg7 arg8 arg15 k0_h2 X_arg3 X_arg5 X_arg6 X_arg7 X_arg8 k f15) := rfl
theorem stage_y3 : (@trip_k0_t2.sl.HW_arg15_36 F _ i arg3 arg5 arg6 arg7 arg8 arg15 k0_h2 X_arg3 X_arg5 X_arg6 X_arg7 X_arg8 k f15) = ⟨rectC 3 k, shapeCast S64x128 (yC (arg15.view.readCov (@trip_k0_t2.sl.HW_arg15_35 F _ i arg3 arg5 arg6 arg7 arg8 arg15 k0_h2 X_arg3 X_arg5 X_arg6 X_arg7 X_arg8 k f15) (rectC 3 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_35 F _ i arg3 arg5 arg6 arg7 arg8 arg15 k0_h2 X_arg3 X_arg5 X_arg6 X_arg7 X_arg8 k f15) := rfl
theorem stage_y4 : (@trip_k0_t2.sl.HW_arg15_37 F _ i arg3 arg5 arg6 arg7 arg8 arg15 k0_h2 X_arg3 X_arg5 X_arg6 X_arg7 X_arg8 k f15) = ⟨rectC 4 k, shapeCast S64x128 (yC (arg15.view.readCov (@trip_k0_t2.sl.HW_arg15_36 F _ i arg3 arg5 arg6 arg7 arg8 arg15 k0_h2 X_arg3 X_arg5 X_arg6 X_arg7 X_arg8 k f15) (rectC 4 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_36 F _ i arg3 arg5 arg6 arg7 arg8 arg15 k0_h2 X_arg3 X_arg5 X_arg6 X_arg7 X_arg8 k f15) := rfl
theorem stage_y5 : (@trip_k0_t2.sl.HW_arg15_38 F _ i arg3 arg5 arg6 arg7 arg8 arg15 k0_h2 X_arg3 X_arg5 X_arg6 X_arg7 X_arg8 k f15) = ⟨rectC 5 k, shapeCast S64x128 (yC (arg15.view.readCov (@trip_k0_t2.sl.HW_arg15_37 F _ i arg3 arg5 arg6 arg7 arg8 arg15 k0_h2 X_arg3 X_arg5 X_arg6 X_arg7 X_arg8 k f15) (rectC 5 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_37 F _ i arg3 arg5 arg6 arg7 arg8 arg15 k0_h2 X_arg3 X_arg5 X_arg6 X_arg7 X_arg8 k f15) := rfl
theorem stage_y6 : (@trip_k0_t2.sl.HW_arg15_39 F _ i arg3 arg5 arg6 arg7 arg8 arg15 k0_h2 X_arg3 X_arg5 X_arg6 X_arg7 X_arg8 k f15) = ⟨rectC 6 k, shapeCast S64x128 (yC (arg15.view.readCov (@trip_k0_t2.sl.HW_arg15_38 F _ i arg3 arg5 arg6 arg7 arg8 arg15 k0_h2 X_arg3 X_arg5 X_arg6 X_arg7 X_arg8 k f15) (rectC 6 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_38 F _ i arg3 arg5 arg6 arg7 arg8 arg15 k0_h2 X_arg3 X_arg5 X_arg6 X_arg7 X_arg8 k f15) := rfl
theorem stage_y7 : (@trip_k0_t2.sl.HW_arg15_40 F _ i arg3 arg5 arg6 arg7 arg8 arg15 k0_h2 X_arg3 X_arg5 X_arg6 X_arg7 X_arg8 k f15) = ⟨rectC 7 k, shapeCast S64x128 (yC (arg15.view.readCov (@trip_k0_t2.sl.HW_arg15_39 F _ i arg3 arg5 arg6 arg7 arg8 arg15 k0_h2 X_arg3 X_arg5 X_arg6 X_arg7 X_arg8 k f15) (rectC 7 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_39 F _ i arg3 arg5 arg6 arg7 arg8 arg15 k0_h2 X_arg3 X_arg5 X_arg6 X_arg7 X_arg8 k f15) := rfl
theorem stage_y8 : (@trip_k0_t2.sl.HW_arg15_41 F _ i arg3 arg5 arg6 arg7 arg8 arg15 k0_h2 X_arg3 X_arg5 X_arg6 X_arg7 X_arg8 k f15) = ⟨rectC 8 k, shapeCast S64x128 (yC (arg15.view.readCov (@trip_k0_t2.sl.HW_arg15_40 F _ i arg3 arg5 arg6 arg7 arg8 arg15 k0_h2 X_arg3 X_arg5 X_arg6 X_arg7 X_arg8 k f15) (rectC 8 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_40 F _ i arg3 arg5 arg6 arg7 arg8 arg15 k0_h2 X_arg3 X_arg5 X_arg6 X_arg7 X_arg8 k f15) := rfl
theorem stage_y9 : (@trip_k0_t2.sl.HW_arg15_42 F _ i arg3 arg5 arg6 arg7 arg8 arg15 k0_h2 X_arg3 X_arg5 X_arg6 X_arg7 X_arg8 k f15) = ⟨rectC 9 k, shapeCast S64x128 (yC (arg15.view.readCov (@trip_k0_t2.sl.HW_arg15_41 F _ i arg3 arg5 arg6 arg7 arg8 arg15 k0_h2 X_arg3 X_arg5 X_arg6 X_arg7 X_arg8 k f15) (rectC 9 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_41 F _ i arg3 arg5 arg6 arg7 arg8 arg15 k0_h2 X_arg3 X_arg5 X_arg6 X_arg7 X_arg8 k f15) := rfl
theorem stage_y10 : (@trip_k0_t2.sl.HW_arg15_43 F _ i arg3 arg5 arg6 arg7 arg8 arg15 k0_h2 X_arg3 X_arg5 X_arg6 X_arg7 X_arg8 k f15) = ⟨rectC 10 k, shapeCast S64x128 (yC (arg15.view.readCov (@trip_k0_t2.sl.HW_arg15_42 F _ i arg3 arg5 arg6 arg7 arg8 arg15 k0_h2 X_arg3 X_arg5 X_arg6 X_arg7 X_arg8 k f15) (rectC 10 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_42 F _ i arg3 arg5 arg6 arg7 arg8 arg15 k0_h2 X_arg3 X_arg5 X_arg6 X_arg7 X_arg8 k f15) := rfl
theorem stage_y11 : (@trip_k0_t2.sl.HW_arg15_44 F _ i arg3 arg5 arg6 arg7 arg8 arg15 k0_h2 X_arg3 X_arg5 X_arg6 X_arg7 X_arg8 k f15) = ⟨rectC 11 k, shapeCast S64x128 (yC (arg15.view.readCov (@trip_k0_t2.sl.HW_arg15_43 F _ i arg3 arg5 arg6 arg7 arg8 arg15 k0_h2 X_arg3 X_arg5 X_arg6 X_arg7 X_arg8 k f15) (rectC 11 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_43 F _ i arg3 arg5 arg6 arg7 arg8 arg15 k0_h2 X_arg3 X_arg5 X_arg6 X_arg7 X_arg8 k f15) := rfl
theorem stage_y12 : (@trip_k0_t2.sl.HW_arg15_45 F _ i arg3 arg5 arg6 arg7 arg8 arg15 k0_h2 X_arg3 X_arg5 X_arg6 X_arg7 X_arg8 k f15) = ⟨rectC 12 k, shapeCast S64x128 (yC (arg15.view.readCov (@trip_k0_t2.sl.HW_arg15_44 F _ i arg3 arg5 arg6 arg7 arg8 arg15 k0_h2 X_arg3 X_arg5 X_arg6 X_arg7 X_arg8 k f15) (rectC 12 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_44 F _ i arg3 arg5 arg6 arg7 arg8 arg15 k0_h2 X_arg3 X_arg5 X_arg6 X_arg7 X_arg8 k f15) := rfl
theorem stage_y13 : (@trip_k0_t2.sl.HW_arg15_46 F _ i arg3 arg5 arg6 arg7 arg8 arg15 k0_h2 X_arg3 X_arg5 X_arg6 X_arg7 X_arg8 k f15) = ⟨rectC 13 k, shapeCast S64x128 (yC (arg15.view.readCov (@trip_k0_t2.sl.HW_arg15_45 F _ i arg3 arg5 arg6 arg7 arg8 arg15 k0_h2 X_arg3 X_arg5 X_arg6 X_arg7 X_arg8 k f15) (rectC 13 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_45 F _ i arg3 arg5 arg6 arg7 arg8 arg15 k0_h2 X_arg3 X_arg5 X_arg6 X_arg7 X_arg8 k f15) := rfl
theorem stage_y14 : (@trip_k0_t2.sl.HW_arg15_47 F _ i arg3 arg5 arg6 arg7 arg8 arg15 k0_h2 X_arg3 X_arg5 X_arg6 X_arg7 X_arg8 k f15) = ⟨rectC 14 k, shapeCast S64x128 (yC (arg15.view.readCov (@trip_k0_t2.sl.HW_arg15_46 F _ i arg3 arg5 arg6 arg7 arg8 arg15 k0_h2 X_arg3 X_arg5 X_arg6 X_arg7 X_arg8 k f15) (rectC 14 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_46 F _ i arg3 arg5 arg6 arg7 arg8 arg15 k0_h2 X_arg3 X_arg5 X_arg6 X_arg7 X_arg8 k f15) := rfl
theorem stage_y15 : (@trip_k0_t2.sl.HW_arg15_48 F _ i arg3 arg5 arg6 arg7 arg8 arg15 k0_h2 X_arg3 X_arg5 X_arg6 X_arg7 X_arg8 k f15) = ⟨rectC 15 k, shapeCast S64x128 (yC (arg15.view.readCov (@trip_k0_t2.sl.HW_arg15_47 F _ i arg3 arg5 arg6 arg7 arg8 arg15 k0_h2 X_arg3 X_arg5 X_arg6 X_arg7 X_arg8 k f15) (rectC 15 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_47 F _ i arg3 arg5 arg6 arg7 arg8 arg15 k0_h2 X_arg3 X_arg5 X_arg6 X_arg7 X_arg8 k f15) := rfl
theorem stage_y16 : (@trip_k0_t2.sl.HW_arg15_49 F _ i arg3 arg5 arg6 arg7 arg8 arg15 k0_h2 X_arg3 X_arg5 X_arg6 X_arg7 X_arg8 k f15) = ⟨rectC 16 k, shapeCast S64x128 (yC (arg15.view.readCov (@trip_k0_t2.sl.HW_arg15_48 F _ i arg3 arg5 arg6 arg7 arg8 arg15 k0_h2 X_arg3 X_arg5 X_arg6 X_arg7 X_arg8 k f15) (rectC 16 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_48 F _ i arg3 arg5 arg6 arg7 arg8 arg15 k0_h2 X_arg3 X_arg5 X_arg6 X_arg7 X_arg8 k f15) := rfl
theorem stage_y17 : (@trip_k0_t2.sl.HW_arg15_50 F _ i arg3 arg5 arg6 arg7 arg8 arg15 k0_h2 X_arg3 X_arg5 X_arg6 X_arg7 X_arg8 k f15) = ⟨rectC 17 k, shapeCast S64x128 (yC (arg15.view.readCov (@trip_k0_t2.sl.HW_arg15_49 F _ i arg3 arg5 arg6 arg7 arg8 arg15 k0_h2 X_arg3 X_arg5 X_arg6 X_arg7 X_arg8 k f15) (rectC 17 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_49 F _ i arg3 arg5 arg6 arg7 arg8 arg15 k0_h2 X_arg3 X_arg5 X_arg6 X_arg7 X_arg8 k f15) := rfl
theorem stage_y18 : (@trip_k0_t2.sl.HW_arg15_51 F _ i arg3 arg5 arg6 arg7 arg8 arg15 k0_h2 X_arg3 X_arg5 X_arg6 X_arg7 X_arg8 k f15) = ⟨rectC 18 k, shapeCast S64x128 (yC (arg15.view.readCov (@trip_k0_t2.sl.HW_arg15_50 F _ i arg3 arg5 arg6 arg7 arg8 arg15 k0_h2 X_arg3 X_arg5 X_arg6 X_arg7 X_arg8 k f15) (rectC 18 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_50 F _ i arg3 arg5 arg6 arg7 arg8 arg15 k0_h2 X_arg3 X_arg5 X_arg6 X_arg7 X_arg8 k f15) := rfl
theorem stage_y19 : (@trip_k0_t2.sl.HW_arg15_52 F _ i arg3 arg5 arg6 arg7 arg8 arg15 k0_h2 X_arg3 X_arg5 X_arg6 X_arg7 X_arg8 k f15) = ⟨rectC 19 k, shapeCast S64x128 (yC (arg15.view.readCov (@trip_k0_t2.sl.HW_arg15_51 F _ i arg3 arg5 arg6 arg7 arg8 arg15 k0_h2 X_arg3 X_arg5 X_arg6 X_arg7 X_arg8 k f15) (rectC 19 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_51 F _ i arg3 arg5 arg6 arg7 arg8 arg15 k0_h2 X_arg3 X_arg5 X_arg6 X_arg7 X_arg8 k f15) := rfl
theorem stage_y20 : (@trip_k0_t2.sl.HW_arg15_53 F _ i arg3 arg5 arg6 arg7 arg8 arg15 k0_h2 X_arg3 X_arg5 X_arg6 X_arg7 X_arg8 k f15) = ⟨rectC 20 k, shapeCast S64x128 (yC (arg15.view.readCov (@trip_k0_t2.sl.HW_arg15_52 F _ i arg3 arg5 arg6 arg7 arg8 arg15 k0_h2 X_arg3 X_arg5 X_arg6 X_arg7 X_arg8 k f15) (rectC 20 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_52 F _ i arg3 arg5 arg6 arg7 arg8 arg15 k0_h2 X_arg3 X_arg5 X_arg6 X_arg7 X_arg8 k f15) := rfl
theorem stage_y21 : (@trip_k0_t2.sl.HW_arg15_54 F _ i arg3 arg5 arg6 arg7 arg8 arg15 k0_h2 X_arg3 X_arg5 X_arg6 X_arg7 X_arg8 k f15) = ⟨rectC 21 k, shapeCast S64x128 (yC (arg15.view.readCov (@trip_k0_t2.sl.HW_arg15_53 F _ i arg3 arg5 arg6 arg7 arg8 arg15 k0_h2 X_arg3 X_arg5 X_arg6 X_arg7 X_arg8 k f15) (rectC 21 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_53 F _ i arg3 arg5 arg6 arg7 arg8 arg15 k0_h2 X_arg3 X_arg5 X_arg6 X_arg7 X_arg8 k f15) := rfl
theorem stage_y22 : (@trip_k0_t2.sl.HW_arg15_55 F _ i arg3 arg5 arg6 arg7 arg8 arg15 k0_h2 X_arg3 X_arg5 X_arg6 X_arg7 X_arg8 k f15) = ⟨rectC 22 k, shapeCast S64x128 (yC (arg15.view.readCov (@trip_k0_t2.sl.HW_arg15_54 F _ i arg3 arg5 arg6 arg7 arg8 arg15 k0_h2 X_arg3 X_arg5 X_arg6 X_arg7 X_arg8 k f15) (rectC 22 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_54 F _ i arg3 arg5 arg6 arg7 arg8 arg15 k0_h2 X_arg3 X_arg5 X_arg6 X_arg7 X_arg8 k f15) := rfl
theorem stage_y23 : (@trip_k0_t2.sl.HW_arg15_56 F _ i arg3 arg5 arg6 arg7 arg8 arg15 k0_h2 X_arg3 X_arg5 X_arg6 X_arg7 X_arg8 k f15) = ⟨rectC 23 k, shapeCast S64x128 (yC (arg15.view.readCov (@trip_k0_t2.sl.HW_arg15_55 F _ i arg3 arg5 arg6 arg7 arg8 arg15 k0_h2 X_arg3 X_arg5 X_arg6 X_arg7 X_arg8 k f15) (rectC 23 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_55 F _ i arg3 arg5 arg6 arg7 arg8 arg15 k0_h2 X_arg3 X_arg5 X_arg6 X_arg7 X_arg8 k f15) := rfl
theorem stage_y24 : (@trip_k0_t2.sl.HW_arg15_57 F _ i arg3 arg5 arg6 arg7 arg8 arg15 k0_h2 X_arg3 X_arg5 X_arg6 X_arg7 X_arg8 k f15) = ⟨rectC 24 k, shapeCast S64x128 (yC (arg15.view.readCov (@trip_k0_t2.sl.HW_arg15_56 F _ i arg3 arg5 arg6 arg7 arg8 arg15 k0_h2 X_arg3 X_arg5 X_arg6 X_arg7 X_arg8 k f15) (rectC 24 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_56 F _ i arg3 arg5 arg6 arg7 arg8 arg15 k0_h2 X_arg3 X_arg5 X_arg6 X_arg7 X_arg8 k f15) := rfl
theorem stage_y25 : (@trip_k0_t2.sl.HW_arg15_58 F _ i arg3 arg5 arg6 arg7 arg8 arg15 k0_h2 X_arg3 X_arg5 X_arg6 X_arg7 X_arg8 k f15) = ⟨rectC 25 k, shapeCast S64x128 (yC (arg15.view.readCov (@trip_k0_t2.sl.HW_arg15_57 F _ i arg3 arg5 arg6 arg7 arg8 arg15 k0_h2 X_arg3 X_arg5 X_arg6 X_arg7 X_arg8 k f15) (rectC 25 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_57 F _ i arg3 arg5 arg6 arg7 arg8 arg15 k0_h2 X_arg3 X_arg5 X_arg6 X_arg7 X_arg8 k f15) := rfl
theorem stage_y26 : (@trip_k0_t2.sl.HW_arg15_59 F _ i arg3 arg5 arg6 arg7 arg8 arg15 k0_h2 X_arg3 X_arg5 X_arg6 X_arg7 X_arg8 k f15) = ⟨rectC 26 k, shapeCast S64x128 (yC (arg15.view.readCov (@trip_k0_t2.sl.HW_arg15_58 F _ i arg3 arg5 arg6 arg7 arg8 arg15 k0_h2 X_arg3 X_arg5 X_arg6 X_arg7 X_arg8 k f15) (rectC 26 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_58 F _ i arg3 arg5 arg6 arg7 arg8 arg15 k0_h2 X_arg3 X_arg5 X_arg6 X_arg7 X_arg8 k f15) := rfl
theorem stage_y27 : (@trip_k0_t2.sl.HW_arg15_60 F _ i arg3 arg5 arg6 arg7 arg8 arg15 k0_h2 X_arg3 X_arg5 X_arg6 X_arg7 X_arg8 k f15) = ⟨rectC 27 k, shapeCast S64x128 (yC (arg15.view.readCov (@trip_k0_t2.sl.HW_arg15_59 F _ i arg3 arg5 arg6 arg7 arg8 arg15 k0_h2 X_arg3 X_arg5 X_arg6 X_arg7 X_arg8 k f15) (rectC 27 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_59 F _ i arg3 arg5 arg6 arg7 arg8 arg15 k0_h2 X_arg3 X_arg5 X_arg6 X_arg7 X_arg8 k f15) := rfl
theorem stage_y28 : (@trip_k0_t2.sl.HW_arg15_61 F _ i arg3 arg5 arg6 arg7 arg8 arg15 k0_h2 X_arg3 X_arg5 X_arg6 X_arg7 X_arg8 k f15) = ⟨rectC 28 k, shapeCast S64x128 (yC (arg15.view.readCov (@trip_k0_t2.sl.HW_arg15_60 F _ i arg3 arg5 arg6 arg7 arg8 arg15 k0_h2 X_arg3 X_arg5 X_arg6 X_arg7 X_arg8 k f15) (rectC 28 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_60 F _ i arg3 arg5 arg6 arg7 arg8 arg15 k0_h2 X_arg3 X_arg5 X_arg6 X_arg7 X_arg8 k f15) := rfl
theorem stage_y29 : (@trip_k0_t2.sl.HW_arg15_62 F _ i arg3 arg5 arg6 arg7 arg8 arg15 k0_h2 X_arg3 X_arg5 X_arg6 X_arg7 X_arg8 k f15) = ⟨rectC 29 k, shapeCast S64x128 (yC (arg15.view.readCov (@trip_k0_t2.sl.HW_arg15_61 F _ i arg3 arg5 arg6 arg7 arg8 arg15 k0_h2 X_arg3 X_arg5 X_arg6 X_arg7 X_arg8 k f15) (rectC 29 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_61 F _ i arg3 arg5 arg6 arg7 arg8 arg15 k0_h2 X_arg3 X_arg5 X_arg6 X_arg7 X_arg8 k f15) := rfl
theorem stage_y30 : (@trip_k0_t2.sl.HW_arg15_63 F _ i arg3 arg5 arg6 arg7 arg8 arg15 k0_h2 X_arg3 X_arg5 X_arg6 X_arg7 X_arg8 k f15) = ⟨rectC 30 k, shapeCast S64x128 (yC (arg15.view.readCov (@trip_k0_t2.sl.HW_arg15_62 F _ i arg3 arg5 arg6 arg7 arg8 arg15 k0_h2 X_arg3 X_arg5 X_arg6 X_arg7 X_arg8 k f15) (rectC 30 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_62 F _ i arg3 arg5 arg6 arg7 arg8 arg15 k0_h2 X_arg3 X_arg5 X_arg6 X_arg7 X_arg8 k f15) := rfl
theorem stage_y31 : (@trip_k0_t2.sl.HW_arg15_64 F _ i arg3 arg5 arg6 arg7 arg8 arg15 k0_h2 X_arg3 X_arg5 X_arg6 X_arg7 X_arg8 k f15) = ⟨rectC 31 k, shapeCast S64x128 (yC (arg15.view.readCov (@trip_k0_t2.sl.HW_arg15_63 F _ i arg3 arg5 arg6 arg7 arg8 arg15 k0_h2 X_arg3 X_arg5 X_arg6 X_arg7 X_arg8 k f15) (rectC 31 k).toLoadRect) (@trip_k0_t2.sl.r_3 F _ i arg3 arg5 arg6 arg7 arg8 arg15 k0_h2 X_arg3 X_arg5 X_arg6 X_arg7 X_arg8 k f15)) shapeCasts_S64x128_S64x128⟩ :: (@trip_k0_t2.sl.HW_arg15_63 F _ i arg3 arg5 arg6 arg7 arg8 arg15 k0_h2 X_arg3 X_arg5 X_arg6 X_arg7 X_arg8 k f15) := rfl

theorem stage_ys : ∀ (n : ℕ) (hn : n < 32), (HWm k i arg3 arg5 arg6 arg7 arg8 arg15 k0_h2 X_arg3 X_arg5 X_arg6 X_arg7 X_arg8 f15) (n + 1) = ⟨rectC n k, shapeCast S64x128 (yC (arg15.view.readCov ((HWm k i arg3 arg5 arg6 arg7 arg8 arg15 k0_h2 X_arg3 X_arg5 X_arg6 X_arg7 X_arg8 f15) n) (rectC n k).toLoadRect) (@trip_k0_t2.sl.r_3 F _ i arg3 arg5 arg6 arg7 arg8 arg15 k0_h2 X_arg3 X_arg5 X_arg6 X_arg7 X_arg8 k f15)) shapeCasts_S64x128_S64x128⟩ :: (HWm k i arg3 arg5 arg6 arg7 arg8 arg15 k0_h2 X_arg3 X_arg5 X_arg6 X_arg7 X_arg8 f15) n
  | 0, _ => stage_y0 k i arg3 arg5 arg6 arg7 arg8 arg15 k0_h2 X_arg3 X_arg5 X_arg6 X_arg7 X_arg8 f15
  | 1, _ => stage_y1 k i arg3 arg5 arg6 arg7 arg8 arg15 k0_h2 X_arg3 X_arg5 X_arg6 X_arg7 X_arg8 f15
  | 2, _ => stage_y2 k i arg3 arg5 arg6 arg7 arg8 arg15 k0_h2 X_arg3 X_arg5 X_arg6 X_arg7 X_arg8 f15
  | 3, _ => stage_y3 k i arg3 arg5 arg6 arg7 arg8 arg15 k0_h2 X_arg3 X_arg5 X_arg6 X_arg7 X_arg8 f15
  | 4, _ => stage_y4 k i arg3 arg5 arg6 arg7 arg8 arg15 k0_h2 X_arg3 X_arg5 X_arg6 X_arg7 X_arg8 f15
  | 5, _ => stage_y5 k i arg3 arg5 arg6 arg7 arg8 arg15 k0_h2 X_arg3 X_arg5 X_arg6 X_arg7 X_arg8 f15
  | 6, _ => stage_y6 k i arg3 arg5 arg6 arg7 arg8 arg15 k0_h2 X_arg3 X_arg5 X_arg6 X_arg7 X_arg8 f15
  | 7, _ => stage_y7 k i arg3 arg5 arg6 arg7 arg8 arg15 k0_h2 X_arg3 X_arg5 X_arg6 X_arg7 X_arg8 f15
  | 8, _ => stage_y8 k i arg3 arg5 arg6 arg7 arg8 arg15 k0_h2 X_arg3 X_arg5 X_arg6 X_arg7 X_arg8 f15
  | 9, _ => stage_y9 k i arg3 arg5 arg6 arg7 arg8 arg15 k0_h2 X_arg3 X_arg5 X_arg6 X_arg7 X_arg8 f15
  | 10, _ => stage_y10 k i arg3 arg5 arg6 arg7 arg8 arg15 k0_h2 X_arg3 X_arg5 X_arg6 X_arg7 X_arg8 f15
  | 11, _ => stage_y11 k i arg3 arg5 arg6 arg7 arg8 arg15 k0_h2 X_arg3 X_arg5 X_arg6 X_arg7 X_arg8 f15
  | 12, _ => stage_y12 k i arg3 arg5 arg6 arg7 arg8 arg15 k0_h2 X_arg3 X_arg5 X_arg6 X_arg7 X_arg8 f15
  | 13, _ => stage_y13 k i arg3 arg5 arg6 arg7 arg8 arg15 k0_h2 X_arg3 X_arg5 X_arg6 X_arg7 X_arg8 f15
  | 14, _ => stage_y14 k i arg3 arg5 arg6 arg7 arg8 arg15 k0_h2 X_arg3 X_arg5 X_arg6 X_arg7 X_arg8 f15
  | 15, _ => stage_y15 k i arg3 arg5 arg6 arg7 arg8 arg15 k0_h2 X_arg3 X_arg5 X_arg6 X_arg7 X_arg8 f15
  | 16, _ => stage_y16 k i arg3 arg5 arg6 arg7 arg8 arg15 k0_h2 X_arg3 X_arg5 X_arg6 X_arg7 X_arg8 f15
  | 17, _ => stage_y17 k i arg3 arg5 arg6 arg7 arg8 arg15 k0_h2 X_arg3 X_arg5 X_arg6 X_arg7 X_arg8 f15
  | 18, _ => stage_y18 k i arg3 arg5 arg6 arg7 arg8 arg15 k0_h2 X_arg3 X_arg5 X_arg6 X_arg7 X_arg8 f15
  | 19, _ => stage_y19 k i arg3 arg5 arg6 arg7 arg8 arg15 k0_h2 X_arg3 X_arg5 X_arg6 X_arg7 X_arg8 f15
  | 20, _ => stage_y20 k i arg3 arg5 arg6 arg7 arg8 arg15 k0_h2 X_arg3 X_arg5 X_arg6 X_arg7 X_arg8 f15
  | 21, _ => stage_y21 k i arg3 arg5 arg6 arg7 arg8 arg15 k0_h2 X_arg3 X_arg5 X_arg6 X_arg7 X_arg8 f15
  | 22, _ => stage_y22 k i arg3 arg5 arg6 arg7 arg8 arg15 k0_h2 X_arg3 X_arg5 X_arg6 X_arg7 X_arg8 f15
  | 23, _ => stage_y23 k i arg3 arg5 arg6 arg7 arg8 arg15 k0_h2 X_arg3 X_arg5 X_arg6 X_arg7 X_arg8 f15
  | 24, _ => stage_y24 k i arg3 arg5 arg6 arg7 arg8 arg15 k0_h2 X_arg3 X_arg5 X_arg6 X_arg7 X_arg8 f15
  | 25, _ => stage_y25 k i arg3 arg5 arg6 arg7 arg8 arg15 k0_h2 X_arg3 X_arg5 X_arg6 X_arg7 X_arg8 f15
  | 26, _ => stage_y26 k i arg3 arg5 arg6 arg7 arg8 arg15 k0_h2 X_arg3 X_arg5 X_arg6 X_arg7 X_arg8 f15
  | 27, _ => stage_y27 k i arg3 arg5 arg6 arg7 arg8 arg15 k0_h2 X_arg3 X_arg5 X_arg6 X_arg7 X_arg8 f15
  | 28, _ => stage_y28 k i arg3 arg5 arg6 arg7 arg8 arg15 k0_h2 X_arg3 X_arg5 X_arg6 X_arg7 X_arg8 f15
  | 29, _ => stage_y29 k i arg3 arg5 arg6 arg7 arg8 arg15 k0_h2 X_arg3 X_arg5 X_arg6 X_arg7 X_arg8 f15
  | 30, _ => stage_y30 k i arg3 arg5 arg6 arg7 arg8 arg15 k0_h2 X_arg3 X_arg5 X_arg6 X_arg7 X_arg8 f15
  | 31, _ => stage_y31 k i arg3 arg5 arg6 arg7 arg8 arg15 k0_h2 X_arg3 X_arg5 X_arg6 X_arg7 X_arg8 f15
  | n + 32, h => absurd h (by omega)

theorem stage_y (n : ℕ) (hn : n ≤ 32) : (HWm k i arg3 arg5 arg6 arg7 arg8 arg15 k0_h2 X_arg3 X_arg5 X_arg6 X_arg7 X_arg8 f15) n = pyC arg15.view k (zT k arg3 arg5 arg6 arg7 arg8 arg15 X_arg3 X_arg5 X_arg6 X_arg7 X_arg8 f15) (tripMu (F := F) (zT k arg3 arg5 arg6 arg7 arg8 arg15 X_arg3 X_arg5 X_arg6 X_arg7 X_arg8 f15)) n := by
  rw [← stage_mu k i arg3 arg5 arg6 arg7 arg8 arg15 k0_h2 X_arg3 X_arg5 X_arg6 X_arg7 X_arg8 f15]
  exact pyC_eq arg15.view k _ (HWm k i arg3 arg5 arg6 arg7 arg8 arg15 k0_h2 X_arg3 X_arg5 X_arg6 X_arg7 X_arg8 f15) _ (stage_z k i arg3 arg5 arg6 arg7 arg8 arg15 k0_h2 X_arg3 X_arg5 X_arg6 X_arg7 X_arg8 f15) (stage_ys k i arg3 arg5 arg6 arg7 arg8 arg15 k0_h2 X_arg3 X_arg5 X_arg6 X_arg7 X_arg8 f15) n hn

set_option maxHeartbeats 0 in
theorem stage_sh' : (@trip_k0_t2.sl.v1646 F _ i arg3 arg5 arg6 arg7 arg8 arg15 k0_h2 X_arg3 X_arg5 X_arg6 X_arg7 X_arg8 k f15) = shC (F := F) (tpC arg15.view k (HWm k i arg3 arg5 arg6 arg7 arg8 arg15 k0_h2 X_arg3 X_arg5 X_arg6 X_arg7 X_arg8 f15) (@trip_k0_t2.sl.r_3 F _ i arg3 arg5 arg6 arg7 arg8 arg15 k0_h2 X_arg3 X_arg5 X_arg6 X_arg7 X_arg8 k f15) 32) := rfl

theorem stage_sh : (@trip_k0_t2.sl.v1646 F _ i arg3 arg5 arg6 arg7 arg8 arg15 k0_h2 X_arg3 X_arg5 X_arg6 X_arg7 X_arg8 k f15) = tripSh (F := F) arg15.view k (zT k arg3 arg5 arg6 arg7 arg8 arg15 X_arg3 X_arg5 X_arg6 X_arg7 X_arg8 f15) := by
  rw [stage_sh', stage_mu, tpC_eq arg15.view k (zT k arg3 arg5 arg6 arg7 arg8 arg15 X_arg3 X_arg5 X_arg6 X_arg7 X_arg8 f15) (HWm k i arg3 arg5 arg6 arg7 arg8 arg15 k0_h2 X_arg3 X_arg5 X_arg6 X_arg7 X_arg8 f15) _ 32 fun j hj => stage_y k i arg3 arg5 arg6 arg7 arg8 arg15 k0_h2 X_arg3 X_arg5 X_arg6 X_arg7 X_arg8 f15 j (by omega)]
  rfl

theorem stage_H : (@trip_k0_t2.sl.HW_arg15_64 F _ i arg3 arg5 arg6 arg7 arg8 arg15 k0_h2 X_arg3 X_arg5 X_arg6 X_arg7 X_arg8 k f15) = pyC arg15.view k (zT k arg3 arg5 arg6 arg7 arg8 arg15 X_arg3 X_arg5 X_arg6 X_arg7 X_arg8 f15) (tripMu (F := F) (zT k arg3 arg5 arg6 arg7 arg8 arg15 X_arg3 X_arg5 X_arg6 X_arg7 X_arg8 f15)) 32 := stage_y k i arg3 arg5 arg6 arg7 arg8 arg15 k0_h2 X_arg3 X_arg5 X_arg6 X_arg7 X_arg8 f15 32 le_rfl

set_option maxHeartbeats 0 in
theorem stage_var' : (@trip_k0_t2.sl.r_8 F _ i arg3 arg5 arg6 arg7 arg8 arg15 k0_h2 X_arg3 X_arg5 X_arg6 X_arg7 X_arg8 k f15) = varC (F := F) (vsC arg15.view k (@trip_k0_t2.sl.HW_arg15_64 F _ i arg3 arg5 arg6 arg7 arg8 arg15 k0_h2 X_arg3 X_arg5 X_arg6 X_arg7 X_arg8 k f15) (@trip_k0_t2.sl.v1646 F _ i arg3 arg5 arg6 arg7 arg8 arg15 k0_h2 X_arg3 X_arg5 X_arg6 X_arg7 X_arg8 k f15) 32) := rfl

theorem stage_var : (@trip_k0_t2.sl.r_8 F _ i arg3 arg5 arg6 arg7 arg8 arg15 k0_h2 X_arg3 X_arg5 X_arg6 X_arg7 X_arg8 k f15) = tripVar (F := F) arg15.view k (zT k arg3 arg5 arg6 arg7 arg8 arg15 X_arg3 X_arg5 X_arg6 X_arg7 X_arg8 f15) := by
  rw [stage_var', stage_sh, stage_H]; rfl

theorem stage_n1 : (@trip_k0_t2.sl.r_9 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 1 := rfl
theorem stage_n2 : (@trip_k0_t2.sl.v1909 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 2 := by
  have h : (@trip_k0_t2.sl.v1909 F _ i arg3 arg5 arg6 arg7 arg8 arg15 k0_h2 X_arg3 X_arg5 X_arg6 X_arg7 X_arg8 k f15) = shrsi (addi (@trip_k0_t2.sl.r_9 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.r_9 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n1]; rfl
theorem stage_n3 : (@trip_k0_t2.sl.v1935 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 3 := by
  have h : (@trip_k0_t2.sl.v1935 F _ i arg3 arg5 arg6 arg7 arg8 arg15 k0_h2 X_arg3 X_arg5 X_arg6 X_arg7 X_arg8 k f15) = shrsi (addi (@trip_k0_t2.sl.v1909 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v1909 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n2]; rfl
theorem stage_n4 : (@trip_k0_t2.sl.v1961 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 4 := by
  have h : (@trip_k0_t2.sl.v1961 F _ i arg3 arg5 arg6 arg7 arg8 arg15 k0_h2 X_arg3 X_arg5 X_arg6 X_arg7 X_arg8 k f15) = shrsi (addi (@trip_k0_t2.sl.v1935 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v1935 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n3]; rfl
theorem stage_n5 : (@trip_k0_t2.sl.v1987 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 5 := by
  have h : (@trip_k0_t2.sl.v1987 F _ i arg3 arg5 arg6 arg7 arg8 arg15 k0_h2 X_arg3 X_arg5 X_arg6 X_arg7 X_arg8 k f15) = shrsi (addi (@trip_k0_t2.sl.v1961 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v1961 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n4]; rfl
theorem stage_n6 : (@trip_k0_t2.sl.v2013 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 6 := by
  have h : (@trip_k0_t2.sl.v2013 F _ i arg3 arg5 arg6 arg7 arg8 arg15 k0_h2 X_arg3 X_arg5 X_arg6 X_arg7 X_arg8 k f15) = shrsi (addi (@trip_k0_t2.sl.v1987 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v1987 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n5]; rfl
theorem stage_n7 : (@trip_k0_t2.sl.v2039 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 7 := by
  have h : (@trip_k0_t2.sl.v2039 F _ i arg3 arg5 arg6 arg7 arg8 arg15 k0_h2 X_arg3 X_arg5 X_arg6 X_arg7 X_arg8 k f15) = shrsi (addi (@trip_k0_t2.sl.v2013 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2013 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n6]; rfl
theorem stage_n8 : (@trip_k0_t2.sl.v2065 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 8 := by
  have h : (@trip_k0_t2.sl.v2065 F _ i arg3 arg5 arg6 arg7 arg8 arg15 k0_h2 X_arg3 X_arg5 X_arg6 X_arg7 X_arg8 k f15) = shrsi (addi (@trip_k0_t2.sl.v2039 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2039 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n7]; rfl
theorem stage_n9 : (@trip_k0_t2.sl.v2091 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 9 := by
  have h : (@trip_k0_t2.sl.v2091 F _ i arg3 arg5 arg6 arg7 arg8 arg15 k0_h2 X_arg3 X_arg5 X_arg6 X_arg7 X_arg8 k f15) = shrsi (addi (@trip_k0_t2.sl.v2065 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2065 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n8]; rfl
theorem stage_n10 : (@trip_k0_t2.sl.v2117 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 10 := by
  have h : (@trip_k0_t2.sl.v2117 F _ i arg3 arg5 arg6 arg7 arg8 arg15 k0_h2 X_arg3 X_arg5 X_arg6 X_arg7 X_arg8 k f15) = shrsi (addi (@trip_k0_t2.sl.v2091 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2091 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n9]; rfl
theorem stage_n11 : (@trip_k0_t2.sl.v2143 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 11 := by
  have h : (@trip_k0_t2.sl.v2143 F _ i arg3 arg5 arg6 arg7 arg8 arg15 k0_h2 X_arg3 X_arg5 X_arg6 X_arg7 X_arg8 k f15) = shrsi (addi (@trip_k0_t2.sl.v2117 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2117 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n10]; rfl
theorem stage_n12 : (@trip_k0_t2.sl.v2169 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 12 := by
  have h : (@trip_k0_t2.sl.v2169 F _ i arg3 arg5 arg6 arg7 arg8 arg15 k0_h2 X_arg3 X_arg5 X_arg6 X_arg7 X_arg8 k f15) = shrsi (addi (@trip_k0_t2.sl.v2143 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2143 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n11]; rfl
theorem stage_n13 : (@trip_k0_t2.sl.v2195 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 13 := by
  have h : (@trip_k0_t2.sl.v2195 F _ i arg3 arg5 arg6 arg7 arg8 arg15 k0_h2 X_arg3 X_arg5 X_arg6 X_arg7 X_arg8 k f15) = shrsi (addi (@trip_k0_t2.sl.v2169 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2169 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n12]; rfl
theorem stage_n14 : (@trip_k0_t2.sl.v2221 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 14 := by
  have h : (@trip_k0_t2.sl.v2221 F _ i arg3 arg5 arg6 arg7 arg8 arg15 k0_h2 X_arg3 X_arg5 X_arg6 X_arg7 X_arg8 k f15) = shrsi (addi (@trip_k0_t2.sl.v2195 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2195 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n13]; rfl
theorem stage_n15 : (@trip_k0_t2.sl.v2247 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 15 := by
  have h : (@trip_k0_t2.sl.v2247 F _ i arg3 arg5 arg6 arg7 arg8 arg15 k0_h2 X_arg3 X_arg5 X_arg6 X_arg7 X_arg8 k f15) = shrsi (addi (@trip_k0_t2.sl.v2221 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2221 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n14]; rfl
theorem stage_n16 : (@trip_k0_t2.sl.v2273 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 16 := by
  have h : (@trip_k0_t2.sl.v2273 F _ i arg3 arg5 arg6 arg7 arg8 arg15 k0_h2 X_arg3 X_arg5 X_arg6 X_arg7 X_arg8 k f15) = shrsi (addi (@trip_k0_t2.sl.v2247 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2247 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n15]; rfl
theorem stage_n17 : (@trip_k0_t2.sl.v2299 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 17 := by
  have h : (@trip_k0_t2.sl.v2299 F _ i arg3 arg5 arg6 arg7 arg8 arg15 k0_h2 X_arg3 X_arg5 X_arg6 X_arg7 X_arg8 k f15) = shrsi (addi (@trip_k0_t2.sl.v2273 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2273 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n16]; rfl
theorem stage_n18 : (@trip_k0_t2.sl.v2325 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 18 := by
  have h : (@trip_k0_t2.sl.v2325 F _ i arg3 arg5 arg6 arg7 arg8 arg15 k0_h2 X_arg3 X_arg5 X_arg6 X_arg7 X_arg8 k f15) = shrsi (addi (@trip_k0_t2.sl.v2299 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2299 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n17]; rfl
theorem stage_n19 : (@trip_k0_t2.sl.v2351 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 19 := by
  have h : (@trip_k0_t2.sl.v2351 F _ i arg3 arg5 arg6 arg7 arg8 arg15 k0_h2 X_arg3 X_arg5 X_arg6 X_arg7 X_arg8 k f15) = shrsi (addi (@trip_k0_t2.sl.v2325 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2325 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n18]; rfl
theorem stage_n20 : (@trip_k0_t2.sl.v2377 F _ i arg3 arg5 arg6 arg7 arg8 arg15 k0_h2 X_arg3 X_arg5 X_arg6 X_arg7 X_arg8 k f15) = newtC (@trip_k0_t2.sl.r_8 F _ i arg3 arg5 arg6 arg7 arg8 arg15 k0_h2 X_arg3 X_arg5 X_arg6 X_arg7 X_arg8 k f15) 20 := by
  have h : (@trip_k0_t2.sl.v2377 F _ i arg3 arg5 arg6 arg7 arg8 arg15 k0_h2 X_arg3 X_arg5 X_arg6 X_arg7 X_arg8 k f15) = shrsi (addi (@trip_k0_t2.sl.v2351 F _ i arg3 arg5 arg6 arg7 arg8 arg15 k0_h2 X_arg3 X_arg5 X_arg6 X_arg7 X_arg8 k f15) (fdivC (@trip_k0_t2.sl.r_8 F _ i arg3 arg5 arg6 arg7 arg8 arg15 k0_h2 X_arg3 X_arg5 X_arg6 X_arg7 X_arg8 k f15) (@trip_k0_t2.sl.v2351 F _ i arg3 arg5 arg6 arg7 arg8 arg15 k0_h2 X_arg3 X_arg5 X_arg6 X_arg7 X_arg8 k f15) (sgnC (@trip_k0_t2.sl.r_8 F _ i arg3 arg5 arg6 arg7 arg8 arg15 k0_h2 X_arg3 X_arg5 X_arg6 X_arg7 X_arg8 k f15)))) (broadcast S64x1 1#32) := rfl
  rw [h, stage_n19]; rfl

theorem stage_fac : (@trip_k0_t2.sl.v2404 F _ i arg3 arg5 arg6 arg7 arg8 arg15 k0_h2 X_arg3 X_arg5 X_arg6 X_arg7 X_arg8 k f15) = tripFac (F := F) arg15.view k (zT k arg3 arg5 arg6 arg7 arg8 arg15 X_arg3 X_arg5 X_arg6 X_arg7 X_arg8 f15) := by
  have h : (@trip_k0_t2.sl.v2404 F _ i arg3 arg5 arg6 arg7 arg8 arg15 k0_h2 X_arg3 X_arg5 X_arg6 X_arg7 X_arg8 k f15) = fdivC (broadcast S64x1 2147483647#32) (shli (addi (@trip_k0_t2.sl.v2377 F _ i arg3 arg5 arg6 arg7 arg8 arg15 k0_h2 X_arg3 X_arg5 X_arg6 X_arg7 X_arg8 k f15) (broadcast S64x1 1#32)) (@trip_k0_t2.sl.v1646 F _ i arg3 arg5 arg6 arg7 arg8 arg15 k0_h2 X_arg3 X_arg5 X_arg6 X_arg7 X_arg8 k f15)) (broadcast S64x1 1#32) := rfl
  rw [h, stage_n20, stage_sh, stage_var]; rfl

end Stages

set_option maxHeartbeats 0 in
theorem tripL_eq' (𝒱 : Variants) (c : Dev nD) (bd : Option 𝒱.V) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (k0_h2 : k0_cond2 i = 1#1) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (k : Fin k0_t2_loop.trips) (f14 : BufTy.Contents (Elt F) arg14.view.ty) (f15 : BufTy.Contents (Elt F) arg15.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15
      = (poC arg15.view k (fun j y f => oC y f (arg9.view.readAt (Elt F) (colC j).toLoadRect X_arg9) (arg10.view.readAt (Elt F) (colC j).toLoadRect X_arg10) (arg11.view.readAt (Elt F) (colC j).toLoadRect X_arg11) (arg12.view.readAt (Elt F) (colC j).toLoadRect X_arg12) (arg13.view.readAt (Elt F) (colC j).toLoadRect X_arg13)) (@trip_k0_t2.sl.HW_arg15_64 F _ i arg3 arg5 arg6 arg7 arg8 arg15 k0_h2 X_arg3 X_arg5 X_arg6 X_arg7 X_arg8 k f15) (@trip_k0_t2.sl.v2404 F _ i arg3 arg5 arg6 arg7 arg8 arg15 k0_h2 X_arg3 X_arg5 X_arg6 X_arg7 X_arg8 k f15) 32, (@trip_k0_t2.sl.HW_arg15_64 F _ i arg3 arg5 arg6 arg7 arg8 arg15 k0_h2 X_arg3 X_arg5 X_arg6 X_arg7 X_arg8 k f15)) := by
  unfold tripL_k0_t2 trip_k0_t2
  rfl

/-- One trip's pieces, in closed form. -/
theorem tripL_eq (𝒱 : Variants) (c : Dev nD) (bd : Option 𝒱.V) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (k0_h2 : k0_cond2 i = 1#1) (X_arg3 : BufTy.Contents (Elt F) arg3.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (k : Fin k0_t2_loop.trips) (f14 : BufTy.Contents (Elt F) arg14.view.ty) (f15 : BufTy.Contents (Elt F) arg15.view.ty) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15
      = (poC arg15.view k (fun j y f => oC y f (arg9.view.readAt (Elt F) (colC j).toLoadRect X_arg9) (arg10.view.readAt (Elt F) (colC j).toLoadRect X_arg10) (arg11.view.readAt (Elt F) (colC j).toLoadRect X_arg11) (arg12.view.readAt (Elt F) (colC j).toLoadRect X_arg12) (arg13.view.readAt (Elt F) (colC j).toLoadRect X_arg13)) (pyC arg15.view k (zT k arg3 arg5 arg6 arg7 arg8 arg15 X_arg3 X_arg5 X_arg6 X_arg7 X_arg8 f15) (tripMu (F := F) (zT k arg3 arg5 arg6 arg7 arg8 arg15 X_arg3 X_arg5 X_arg6 X_arg7 X_arg8 f15)) 32) (tripFac (F := F) arg15.view k (zT k arg3 arg5 arg6 arg7 arg8 arg15 X_arg3 X_arg5 X_arg6 X_arg7 X_arg8 f15)) 32, pyC arg15.view k (zT k arg3 arg5 arg6 arg7 arg8 arg15 X_arg3 X_arg5 X_arg6 X_arg7 X_arg8 f15) (tripMu (F := F) (zT k arg3 arg5 arg6 arg7 arg8 arg15 X_arg3 X_arg5 X_arg6 X_arg7 X_arg8 f15)) 32) := by
  rw [tripL_eq', stage_H, stage_fac]

end Cert.KernelBIdeal.Gen

end
-- ==== Proof.LnWords.lean ====
/-
  Hand-written, untrusted. THE INTEGER LAYERNORM OF ONE ROW, on words, apart from any program: the mean, the shift, the variance,
  the Newton iterates and the factor; and the steps the kernel takes in another order (sums by halves of words in floats, the
  greatest bit length in floats).
-/
module

public import proofs.«01_k».proof.Proof.Words
public import Idealize.ShloMosaic.PureOps.Reduce
public import Mathlib.Data.BitVec

@[expose] public section

noncomputable section

open scoped BigOperators

namespace Cert.Proof.Words

open Idealize.ShloMosaic

/-! ## The row's functions -/

/-- The sign of a word. -/
def sgnW (a : BitVec 32) : BitVec 32 :=
  IntOp.subi ((IntOp.cmpi .sgt a 0#32).setWidth 32) ((IntOp.cmpi .slt a 0#32).setWidth 32)

/-- The division rounding down. -/
def fdivW (a b : BitVec 32) : BitVec 32 :=
  Scalar.select (IntOp.andi (IntOp.cmpi .ne (sgnW a) (sgnW b)) (IntOp.cmpi .ne (IntOp.remsi .vector a b) 0#32))
    (IntOp.subi (IntOp.divsi .vector a b) 1#32) (IntOp.divsi .vector a b)

/-- Newton's iterates for the square root of `v`. -/
def newtW (v : BitVec 32) : ℕ → BitVec 32
  | 0 => 65536#32
  | n + 1 => IntOp.shrsi .vector (IntOp.addi (newtW v n) (fdivW v (newtW v n))) 1#32

/-- The row's factor. -/
def facW (v sh : BitVec 32) : BitVec 32 :=
  fdivW 2147483647#32 (IntOp.shli .vector (IntOp.addi (newtW v 20) 1#32) sh)

/-- The shift for a greatest magnitude. -/
def shW (top : BitVec 32) : BitVec 32 := IntOp.maxsi (IntOp.subi (IntOp.subi 32#32 (IntOp.ctlz top)) 9#32) 0#32

variable (z : Fin 4096 → BitVec 32)

def rowMu : BitVec 32 := IntOp.shrsi .vector (IntOp.addi (∑ c, z c) 2048#32) 12#32
def rowY (c : Fin 4096) : BitVec 32 := IntOp.subi (z c) (rowMu z)
def rowTop : BitVec 32 := Finset.univ.fold IntOp.maxsi 2147483648#32 fun c => IntOp.absi (rowY z c)
def sqW (y sh : BitVec 32) : BitVec 32 := IntOp.muli (IntOp.shrsi .vector y sh) (IntOp.shrsi .vector y sh)
def rowSh : BitVec 32 := shW (rowTop z)
def rowVar : BitVec 32 := IntOp.maxsi (∑ c, sqW (rowY z c) (rowSh z)) 1#32
def rowFac : BitVec 32 := facW (rowVar z) (rowSh z)

/-- The code of one normalised element. -/
def outW (y f m l rnd rest b : BitVec 32) : BitVec 8 :=
  (IntOp.minsi 127#32 (IntOp.maxsi 4294967169#32 (IntOp.addi (rq (IntOp.shrsi .vector (IntOp.muli y f) 16#32) m l rnd rest) b))).setWidth 8

/-- The sum with the residual. -/
def zW (v m l rnd rest : BitVec 32) (x : BitVec 8) : BitVec 32 :=
  IntOp.addi (rq v m l rnd rest) (IntOp.shli .vector (x.signExtend 32) 4#32)

/-! ## Sums of words by halves, in floats -/

theorem sum_int_coe {n : ℕ} (a : Fin n → ℤ) : (∑ k, (((a k : ℤ) : ℝ) : EReal)) = (((∑ k, a k : ℤ) : ℝ) : EReal) := by
  have h : ∀ s : Finset (Fin n), ∑ k ∈ s, (((a k : ℤ) : ℝ) : EReal) = (((∑ k ∈ s, a k : ℤ) : ℝ) : EReal) := by
    intro s
    induction s using Finset.cons_induction with
    | empty => simp
    | cons i s hi ih => rw [Finset.sum_cons, Finset.sum_cons, ih, ← EReal.coe_add]; push_cast; rfl
  exact h Finset.univ

theorem sum_range {n : ℕ} (a : Fin n → ℤ) (lo hi : ℤ) (h : ∀ k, lo ≤ a k ∧ a k ≤ hi) : n * lo ≤ ∑ k, a k ∧ ∑ k, a k ≤ n * hi := by
  constructor
  · have := Finset.card_nsmul_le_sum Finset.univ a lo fun k _ => (h k).1
    simpa using this
  · have := Finset.sum_le_card_nsmul Finset.univ a hi fun k _ => (h k).2
    simpa using this

theorem sum_ofInt {ι : Type} (s : Finset ι) (a : ι → ℤ) : BitVec.ofInt 32 (∑ k ∈ s, a k) = ∑ k ∈ s, BitVec.ofInt 32 (a k) := by
  induction s using Finset.cons_induction with
  | empty => rfl
  | cons i s hi ih => rw [Finset.sum_cons, Finset.sum_cons, BitVec.ofInt_add, ih]

theorem word_range (w : BitVec 32) : -2147483648 ≤ w.toInt ∧ w.toInt ≤ 2147483647 := by
  have h1 := w.toInt_lt; have h2 := w.le_toInt
  norm_num at h1 h2
  omega

theorem hi_toInt (w : BitVec 32) (n : ℕ) (hn : n < 32) : (IntOp.shrsi .vector w (BitVec.ofNat 32 n)).toInt = w.toInt / 2 ^ n := by
  have hn' : (BitVec.ofNat 32 n).toNat = n := by
    rw [BitVec.toNat_ofNat]; exact Nat.mod_eq_of_lt (by omega)
  unfold IntOp.shrsi
  rw [hn', if_pos hn, BitVec.sshiftRight', hn', BitVec.toInt_sshiftRight, Int.shiftRight_eq_div_pow]
  push_cast; rfl

theorem lo_toInt (w : BitVec 32) : (IntOp.andi w 65535#32).toInt = w.toInt % 65536 := by
  have h : IntOp.andi w 65535#32 = BitVec.ofInt 32 (w.toInt % 65536) := by
    apply BitVec.eq_of_toNat_eq
    show (w &&& 65535#32).toNat = _
    rw [BitVec.toNat_and]
    show w.toNat &&& (2 ^ 16 - 1) = _
    rw [Nat.and_two_pow_sub_one_eq_mod]
    simp only [BitVec.toNat_ofInt]
    have h1 := w.toInt_eq_toNat_cond
    have h2 := w.isLt
    split at h1 <;> omega
  rw [h, toInt_ofInt _ (by omega) (by omega)]

theorem shli16_ofInt (a : ℤ) : IntOp.shli .vector (BitVec.ofInt 32 a) 16#32 = BitVec.ofInt 32 (a * 65536) := by
  unfold IntOp.shli
  rw [if_pos (by decide)]
  show (BitVec.ofInt 32 a) <<< 16 = _
  rw [BitVec.shiftLeft_eq_mul_twoPow, BitVec.ofInt_mul]
  rfl

/-- The high halves and the low halves, each summed in floats, make the sum of the words. -/
theorem lanes_word (w : Fin 128 → BitVec 32) :
    IntOp.addi (IntOp.shli .vector (Ideal.fptosi 32 (∑ l, ((((IntOp.shrsi .vector (w l) 16#32).toInt : ℤ) : ℝ) : EReal))) 16#32)
      (Ideal.fptosi 32 (∑ l, ((((IntOp.andi (w l) 65535#32).toInt : ℤ) : ℝ) : EReal))) = ∑ l, w l := by
  rw [sum_int_coe, sum_int_coe]
  have e1 : ∀ l, (IntOp.shrsi .vector (w l) 16#32).toInt = (w l).toInt / 65536 := fun l => hi_toInt (w l) 16 (by omega)
  have e2 : ∀ l, (IntOp.andi (w l) 65535#32).toInt = (w l).toInt % 65536 := fun l => lo_toInt (w l)
  simp only [e1, e2]
  have h1 := sum_range (fun l => (w l).toInt / 65536) (-32768) 32767 fun l => by have := word_range (w l); constructor <;> omega
  have h2 := sum_range (fun l => (w l).toInt % 65536) 0 65535 fun l => by constructor <;> omega
  norm_num at h1 h2
  rw [fptosi_int _ (by omega) (by omega), fptosi_int _ (by omega) (by omega), shli16_ofInt]
  show BitVec.ofInt 32 _ + BitVec.ofInt 32 _ = _
  rw [← BitVec.ofInt_add, Finset.sum_mul, ← Finset.sum_add_distrib, sum_ofInt]
  refine Finset.sum_congr rfl fun l _ => ?_
  rw [show (w l).toInt / 65536 * 65536 + (w l).toInt % 65536 = (w l).toInt by omega, BitVec.ofInt_toInt]

/-- A sum over 4096 columns, by 32 chunks within 128 lanes. -/
theorem sum_chunks (f : Fin 4096 → BitVec 32) : ∑ l : Fin 128, ∑ j : Fin 32, f ⟨128 * j.val + l.val, by omega⟩ = ∑ c, f c := by
  rw [Finset.sum_comm, ← Fintype.sum_prod_type' (f := fun (j : Fin 32) (l : Fin 128) => f ⟨128 * j.val + l.val, by omega⟩)]
  refine Fintype.sum_equiv (finProdFinEquiv (m := 32) (n := 128)) _ _ fun p => congrArg f (Fin.ext ?_)
  show 128 * p.1.val + p.2.val = p.2.val + 128 * p.1.val
  omega

/-! ## Bit lengths -/

/-- The bit length of a word. -/
def lenW (w : BitVec 32) : ℕ := if w = 0 then 0 else Nat.log2 w.toNat + 1

theorem lenW_le (w : BitVec 32) : lenW w ≤ 32 := by
  unfold lenW
  split
  · omega
  · rename_i h
    have h0 : w.toNat ≠ 0 := fun e => h (BitVec.eq_of_toNat_eq (by simpa using e))
    have := (Nat.log2_lt h0).2 w.isLt
    omega

theorem sub_ctlz (w : BitVec 32) : IntOp.subi 32#32 (IntOp.ctlz w) = BitVec.ofInt 32 (lenW w) := by
  have hl := lenW_le w
  unfold IntOp.subi IntOp.ctlz
  apply BitVec.eq_of_toNat_eq
  unfold lenW at *
  split
  · rfl
  · rename_i h
    rw [if_neg h] at hl
    rw [BitVec.toNat_sub, BitVec.toNat_ofNat, BitVec.toNat_ofNat, BitVec.toNat_ofInt]
    omega

theorem lenW_mono (a b : BitVec 32) (h : a.toNat ≤ b.toNat) : lenW a ≤ lenW b := by
  unfold lenW
  split
  · omega
  · rename_i ha
    have ha0 : a.toNat ≠ 0 := fun e => ha (BitVec.eq_of_toNat_eq (by simpa using e))
    have hb0 : b.toNat ≠ 0 := by omega
    rw [if_neg (fun e => hb0 (by rw [e]; rfl))]
    have h1 : 2 ^ a.toNat.log2 ≤ a.toNat := Nat.log2_self_le ha0
    have := (Nat.le_log2 hb0).2 (h1.trans h)
    omega

theorem toNat_le_of_toInt_le (a b : BitVec 32) (h0 : 0 ≤ a.toInt) (h : a.toInt ≤ b.toInt) : a.toNat ≤ b.toNat := by
  have ha := a.toInt_eq_toNat_cond
  have hb := b.toInt_eq_toNat_cond
  have := a.isLt
  have := b.isLt
  split at ha <;> split at hb <;> omega

/-- The greatest of the lanes' bit lengths, taken in floats, is the bit length of the greatest magnitude. -/
theorem bits_eq {n : ℕ} (a : Fin n → BitVec 32) (ha : ∀ c, 0 ≤ (a c).toInt) (M : BitVec 32) (hM1 : ∀ c, (a c).toInt ≤ M.toInt)
    (hM2 : ∃ c, M = a c) (t : Fin 128 → BitVec 32) (ht1 : ∀ c, ∃ l, (a c).toInt ≤ (t l).toInt) (ht2 : ∀ l, t l = 0#32 ∨ ∃ c, t l = a c) :
    Ideal.fptosi 32 (Finset.univ.fold max (⊥ : EReal) fun l => ((((IntOp.subi 32#32 (IntOp.ctlz (t l))).toInt : ℤ) : ℝ) : EReal))
      = IntOp.subi 32#32 (IntOp.ctlz M) := by
  have hz : ∀ w : BitVec 32, (BitVec.ofInt 32 (lenW w : ℤ)).toInt = lenW w := fun w => by
    have := lenW_le w
    exact toInt_ofInt _ (by omega) (by omega)
  simp only [sub_ctlz, hz]
  have h : (Finset.univ.fold max (⊥ : EReal) fun l => ((((lenW (t l) : ℕ) : ℤ) : ℝ) : EReal)) = ((((lenW M : ℕ) : ℤ) : ℝ) : EReal) := by
    obtain ⟨c0, hc0⟩ := hM2
    refine le_antisymm (Finset.fold_max_le _ |>.2 ⟨bot_le, fun l _ => ?_⟩) ((Finset.le_fold_max _).2 (Or.inr ?_))
    · have : lenW (t l) ≤ lenW M := by
        refine lenW_mono _ _ ?_
        rcases ht2 l with e | ⟨c, e⟩
        · rw [e]; exact Nat.zero_le _
        · rw [e]; exact toNat_le_of_toInt_le _ _ (ha c) (hM1 c)
      exact_mod_cast this
    · obtain ⟨l, hl⟩ := ht1 c0
      refine ⟨l, Finset.mem_univ l, ?_⟩
      have : lenW M ≤ lenW (t l) := lenW_mono _ _ (by rw [hc0]; exact toNat_le_of_toInt_le _ _ (ha c0) hl)
      exact_mod_cast this
  have := lenW_le M
  rw [h, fptosi_int _ (by omega) (by omega)]

/-! ## Greatest words -/

theorem maxsi_toInt (a b : BitVec 32) : (IntOp.maxsi a b).toInt = max a.toInt b.toInt := by
  unfold IntOp.maxsi
  rw [BitVec.slt_eq_decide]
  by_cases h : b.toInt < a.toInt
  · rw [if_pos (by simpa using h), max_eq_left h.le]
  · rw [if_neg (by simpa using h), max_eq_right (not_lt.1 h)]

theorem maxsi_cases (a b : BitVec 32) : IntOp.maxsi a b = a ∨ IntOp.maxsi a b = b := by
  unfold IntOp.maxsi; split <;> simp

theorem maxsi_comm (a b : BitVec 32) : IntOp.maxsi a b = IntOp.maxsi b a := by
  apply BitVec.eq_of_toInt_eq
  rw [maxsi_toInt, maxsi_toInt, max_comm]

theorem fold_maxsi {ι : Type} (s : Finset ι) (e : BitVec 32) (f : ι → BitVec 32) :
    (∀ i ∈ s, (f i).toInt ≤ (s.fold IntOp.maxsi e f).toInt) ∧ (s.fold IntOp.maxsi e f = e ∨ ∃ i ∈ s, s.fold IntOp.maxsi e f = f i) := by
  induction s using Finset.cons_induction with
  | empty => simp
  | cons i s hi ih =>
    rw [Finset.fold_cons]
    constructor
    · intro k hk
      rw [maxsi_toInt]
      rcases Finset.mem_cons.1 hk with rfl | hk
      · exact le_max_left _ _
      · exact (ih.1 k hk).trans (le_max_right _ _)
    · rcases maxsi_cases (f i) (s.fold IntOp.maxsi e f) with h | h
      · exact Or.inr ⟨i, Finset.mem_cons_self i s, h⟩
      · rw [h]
        rcases ih.2 with h' | ⟨k, hk, h'⟩
        · exact Or.inl h'
        · exact Or.inr ⟨k, Finset.mem_cons_of_mem hk, h'⟩

theorem absi_nonneg (w : BitVec 32) (h : w.toInt ≠ -2147483648) : 0 ≤ (IntOp.absi w).toInt := by
  have hr := word_range w
  have e := absi_ofInt w.toInt hr
  rw [BitVec.ofInt_toInt] at e
  have ha : |w.toInt| ≤ 2147483647 := abs_le.2 ⟨by omega, by omega⟩
  have h0 := abs_nonneg w.toInt
  rw [e, toInt_ofInt _ (by omega) ha]
  exact h0

theorem rowTop_ge (c : Fin 4096) : (IntOp.absi (rowY z c)).toInt ≤ (rowTop z).toInt :=
  (fold_maxsi Finset.univ _ fun c => IntOp.absi (rowY z c)).1 c (Finset.mem_univ c)

theorem rowTop_mem (h : ∀ c, (rowY z c).toInt ≠ -2147483648) : ∃ c, rowTop z = IntOp.absi (rowY z c) := by
  rcases (fold_maxsi Finset.univ 2147483648#32 fun c => IntOp.absi (rowY z c)).2 with e | ⟨c, _, e⟩
  · exfalso
    have h1 := rowTop_ge z 0
    have h2 := absi_nonneg _ (h 0)
    have h3 : (rowTop z).toInt = -2147483648 := by
      rw [show rowTop z = 2147483648#32 from e]; decide
    omega
  · exact ⟨c, e⟩

/-! ## The mean and the range of the deviations -/

theorem rowMu_range : -524288 ≤ (rowMu z).toInt ∧ (rowMu z).toInt ≤ 524287 := by
  have e := hi_toInt (IntOp.addi (∑ c, z c) 2048#32) 12 (by omega)
  have hr := word_range (IntOp.addi (∑ c, z c) 2048#32)
  unfold rowMu
  rw [show (12#32 : BitVec 32) = BitVec.ofNat 32 12 from rfl, e]
  norm_num
  omega

theorem rowY_ne (h : ∀ c, -1073750000 ≤ (z c).toInt ∧ (z c).toInt ≤ 1073750000) (c : Fin 4096) : (rowY z c).toInt ≠ -2147483648 := by
  have h1 := rowMu_range z
  have h2 := h c
  unfold rowY
  show (z c - rowMu z).toInt ≠ _
  rw [BitVec.toInt_sub, Int.bmod_eq_of_le (by norm_num; omega) (by norm_num; omega)]
  omega

/-- The division of a word by 4096 rounding down is its shift by twelve. -/
theorem fdivW_4096 (a : BitVec 32) : fdivW a 4096#32 = IntOp.shrsi .vector a 12#32 := by
  have hr := word_range a
  have hc : ¬IntOp.SDivCorner a 4096#32 := by
    unfold IntOp.SDivCorner
    rintro (h | ⟨_, h⟩) <;> exact absurd h (by decide)
  have hb : -2147483648 ≤ a.toInt.tdiv 4096 ∧ a.toInt.tdiv 4096 ≤ 2147483647 := by
    have key : a.toInt = 4096 * a.toInt.tdiv 4096 + a.toInt.tmod 4096 := (Int.mul_tdiv_add_tmod a.toInt 4096).symm
    have h1 := Int.lt_tmod_of_pos a.toInt (show (0 : ℤ) < 4096 by norm_num)
    have h2 := Int.tmod_lt_of_pos a.toInt (show (0 : ℤ) < 4096 by norm_num)
    omega
  have hd : (IntOp.divsi .vector a 4096#32).toInt = a.toInt.tdiv 4096 := by
    unfold IntOp.divsi
    rw [if_neg hc, BitVec.toInt_sdiv]
    rw [show (4096#32 : BitVec 32).toInt = 4096 from by decide]
    refine Int.bmod_eq_of_le ?_ ?_ <;> norm_num <;> omega
  have hm : (IntOp.remsi .vector a 4096#32).toInt = a.toInt.tmod 4096 := by
    unfold IntOp.remsi
    rw [if_neg hc, BitVec.toInt_srem]
    rw [show (4096#32 : BitVec 32).toInt = 4096 from by decide]
  have hs : (IntOp.shrsi .vector a 12#32).toInt = a.toInt / 4096 := hi_toInt a 12 (by omega)
  apply BitVec.eq_of_toInt_eq
  rw [hs]
  have hr0 : IntOp.remsi .vector a 4096#32 = 0#32 ↔ a.toInt.tmod 4096 = 0 := by
    rw [← hm]
    exact ⟨fun h => by rw [h]; rfl, fun h => BitVec.eq_of_toInt_eq (by rw [h]; rfl)⟩
  have key : a.toInt = 4096 * a.toInt.tdiv 4096 + a.toInt.tmod 4096 := (Int.mul_tdiv_add_tmod a.toInt 4096).symm
  have hmr : -4096 < a.toInt.tmod 4096 ∧ a.toInt.tmod 4096 < 4096 :=
    ⟨Int.lt_tmod_of_pos a.toInt (by norm_num), Int.tmod_lt_of_pos a.toInt (by norm_num)⟩
  have hsub : (IntOp.subi (IntOp.divsi .vector a 4096#32) 1#32).toInt = a.toInt.tdiv 4096 - 1 := by
    show (IntOp.divsi .vector a 4096#32 - 1#32).toInt = _
    rw [BitVec.toInt_sub, hd, show (1#32 : BitVec 32).toInt = 1 from by decide]
    refine Int.bmod_eq_of_le ?_ ?_ <;> norm_num <;> omega
  have hsg : IntOp.cmpi .ne (sgnW a) (sgnW 4096#32) = if 0 < a.toInt then 0#1 else 1#1 := by
    have e1 : sgnW 4096#32 = 1#32 := by decide
    rw [e1]
    unfold sgnW IntOp.cmpi
    simp only [BitVec.slt_eq_decide, show (0#32 : BitVec 32).toInt = 0 from by decide]
    by_cases h1 : 0 < a.toInt
    · have h2 : ¬ a.toInt < 0 := by omega
      simp [h1, h2]; decide
    · by_cases h2 : a.toInt < 0
      · simp [h1, h2]; decide
      · simp [h1, h2]; decide
  have hne : IntOp.cmpi .ne (IntOp.remsi .vector a 4096#32) 0#32 = if a.toInt.tmod 4096 = 0 then 0#1 else 1#1 := by
    unfold IntOp.cmpi
    by_cases h : a.toInt.tmod 4096 = 0
    · rw [if_pos h, hr0.2 h]; decide
    · rw [if_neg h]
      have : IntOp.remsi .vector a 4096#32 ≠ 0#32 := fun e => h (hr0.1 e)
      rw [show (IntOp.remsi .vector a 4096#32 != 0#32) = true from bne_iff_ne.2 this]; rfl
  unfold fdivW
  rw [hsg, hne]
  by_cases h1 : 0 < a.toInt
  · have hp : 0 ≤ a.toInt.tmod 4096 := Int.tmod_nonneg _ h1.le
    have hq := Int.tmod_lt_of_pos a.toInt (show (0 : ℤ) < 4096 by norm_num)
    rw [if_pos h1, Scalar.select, if_neg (by unfold IntOp.andi; split <;> decide), hd]
    omega
  · have hp : a.toInt.tmod 4096 ≤ 0 := by
      have := Int.tmod_nonneg (a := -a.toInt) 4096 (by omega)
      rw [Int.neg_tmod] at this
      omega
    by_cases h : a.toInt.tmod 4096 = 0
    · rw [if_neg h1, if_pos h, Scalar.select, if_neg (by decide), hd]
      omega
    · rw [if_neg h1, if_neg h, Scalar.select, if_pos (by decide), hsub]
      omega

/-- The requantised sum with the residual stays within 30 bits and a little, where the dyadic scale is below one half. -/
theorem zW_range (v m k : BitVec 32) (x : BitVec 8) (h1 : 16 ≤ k.toInt) (h2 : k.toInt ≤ 31) :
    -1073750000 ≤ (zW v m (IntOp.minsi k 15#32) (IntOp.shli .vector 1#32 (IntOp.subi k 1#32)) (IntOp.subi k (IntOp.minsi k 15#32)) x).toInt
      ∧ (zW v m (IntOp.minsi k 15#32) (IntOp.shli .vector 1#32 (IntOp.subi k 1#32)) (IntOp.subi k (IntOp.minsi k 15#32)) x).toInt ≤ 1073750000 := by
  have hk : k = BitVec.ofInt 32 k.toInt := (BitVec.ofInt_toInt).symm
  have hmin : IntOp.minsi k 15#32 = 15#32 := by
    rw [hk, show (15#32 : BitVec 32) = BitVec.ofInt 32 15 from rfl, minsi_ofInt _ _ (by omega) (by omega), min_eq_right (by omega)]
  have hsub : IntOp.subi k 15#32 = BitVec.ofNat 32 (k.toInt - 15).toNat := by
    apply BitVec.eq_of_toInt_eq
    rw [show BitVec.ofNat 32 (k.toInt - 15).toNat = BitVec.ofInt 32 (k.toInt - 15) from by
      rw [← BitVec.ofInt_natCast]; congr 1; omega, toInt_ofInt _ (by omega) (by omega)]
    show (k - 15#32).toInt = _
    rw [BitVec.toInt_sub, show (15#32 : BitVec 32).toInt = 15 from by decide]
    exact Int.bmod_eq_of_le (by norm_num; omega) (by norm_num; omega)
  rw [hmin, hsub]
  unfold zW rq
  generalize IntOp.addi (IntOp.muli _ _) _ = X
  have hq := hi_toInt X (k.toInt - 15).toNat (by omega)
  obtain ⟨d, hd⟩ : ∃ d : ℕ, (k.toInt - 15).toNat = d + 1 := ⟨(k.toInt - 15).toNat - 1, by omega⟩
  have hX := word_range X
  have hqr : -1073741824 ≤ X.toInt / 2 ^ (k.toInt - 15).toNat ∧ X.toInt / 2 ^ (k.toInt - 15).toNat ≤ 1073741823 := by
    rw [hd, pow_succ', ← Int.ediv_ediv_of_nonneg (by norm_num)]
    have hp : (1 : ℤ) ≤ 2 ^ d := one_le_pow₀ (by norm_num)
    have h0 : -1073741824 ≤ X.toInt / 2 ∧ X.toInt / 2 ≤ 1073741823 := by omega
    constructor
    · rw [Int.le_ediv_iff_mul_le (by omega)]
      nlinarith
    · exact Int.lt_add_one_iff.1 (by rw [Int.ediv_lt_iff_lt_mul (by omega)]; nlinarith)
  rw [← hq] at hqr
  have hx : IntOp.shli .vector (x.signExtend 32) 4#32 = BitVec.ofInt 32 (x.toInt * 16) := by
    unfold IntOp.shli
    rw [if_pos (by decide)]
    show (x.signExtend 32) <<< 4 = _
    rw [BitVec.shiftLeft_eq_mul_twoPow, BitVec.ofInt_mul]
    rfl
  rw [hx]
  have h3 := x.toInt_lt; have h4 := x.le_toInt
  norm_num at h3 h4
  show -1073750000 ≤ (_ + BitVec.ofInt 32 (x.toInt * 16)).toInt ∧ (_ + BitVec.ofInt 32 (x.toInt * 16)).toInt ≤ 1073750000
  rw [BitVec.toInt_add, toInt_ofInt _ (by omega) (by omega), Int.bmod_eq_of_le (by norm_num; omega) (by norm_num; omega)]
  omega

end Cert.Proof.Words

end
-- ==== Proof.BIdealCells.lean ====
/-
  Hand-written, untrusted. The LayerNorm trip of `KernelBIdeal`, entry by entry: the loads from the trip's own pieces, and each
  phase as the row's integer LayerNorm of `LnWords`.
-/
module

public import proofs.«01_k».proof.Proof.BIdealTrip
public import proofs.«01_k».proof.Proof.LnWords
public import Idealize.ShloMosaic.Lib.Pipeline.Value
public import Idealize.ShloMosaic.Lib.Pointwise

@[expose] public section

set_option maxRecDepth 65536

noncomputable section

open scoped BigOperators

namespace Cert.KernelBIdeal.Gen

open Idealize.ShloMosaic Idealize.ShloMosaic.TcCoe Idealize.SL Idealize.SL.Sem Idealize.ShloMosaic.Pipeline Cert.Proof.Words

section Loads

variable {F : FTy → Type} [FloatOps F]
variable (v15 : View sig .tc .vmem S1280x4096 .i32) (k : Fin k0_t2_loop.trips) (z : ℕ → IVec S64x128 32)

theorem rectC_disjoint (j n : ℕ) (hj : j < 32) (hn : n < 32) (h : n ≠ j) : Disjoint (rectC n k).set (rectC j k).toLoadRect.set := by
  refine Rect.unit_disjoint (1 : Fin 2) ?_
  rw [offC_eq n hn, offC_eq j hj]
  show 128 * n + 128 ≤ 128 * j ∨ 128 * j + 128 ≤ 128 * n
  omega

theorem cast_self (v : IVec S64x128 32) : shapeCast S64x128 v shapeCasts_S64x128_S64x128 = v := shapeCast_self _ _

theorem mem_rectC (j : ℕ) (hj : j < 32) (y : S1280x4096.Idx) :
    y ∈ (rectC j k).set ↔ (64 * k.val ≤ (y 0).val ∧ (y 0).val < 64 * k.val + 64) ∧ (128 * j ≤ (y 1).val ∧ (y 1).val < 128 * j + 128) := by
  rw [show (y ∈ (rectC j k).set) ↔ _ from Rect.mem_set_unit, offC_eq j hj]
  exact Fin.forall_fin_two

theorem readCov_pzC (j n : ℕ) (hj : j < n) (hn : n ≤ 32) : v15.readCov (pzC (F := F) k z n) (rectC j k).toLoadRect = z j := by
  induction n with
  | zero => omega
  | succ n ih =>
    unfold pzC
    by_cases e : j = n
    · subst e
      exact (View.readCov_cons_toLoadRect v15 (rectC j k) _ _).trans (cast_self (z j))
    · refine (View.readCov_cons_of_disjoint v15 _ _ _ ?_).trans (ih (by omega) (by omega))
      exact rectC_disjoint k j n (by omega) (by omega) (Ne.symm e)

theorem readCov_pyC (mu : IVec S64x1 32) (n : ℕ) (hn : n ≤ 32) : ∀ j, j < 32 →
    v15.readCov (pyC (F := F) v15 k z mu n) (rectC j k).toLoadRect = if j < n then yC (z j) mu else z j := by
  induction n with
  | zero => intro j hj; rw [if_neg (by omega)]; exact readCov_pzC v15 k z j 32 hj le_rfl
  | succ n ih =>
    intro j hj
    unfold pyC
    by_cases e : j = n
    · subst e
      refine (View.readCov_cons_toLoadRect v15 (rectC j k) _ _).trans ((cast_self _).trans ?_)
      rw [ih (by omega) j hj, if_neg (by omega), if_pos (by omega)]
    · refine (View.readCov_cons_of_disjoint v15 _ _ _ ?_).trans ((ih (by omega) j hj).trans ?_)
      · exact rectC_disjoint k j n hj (by omega) (Ne.symm e)
      by_cases h : j < n
      · rw [if_pos h, if_pos (by omega)]
      · rw [if_neg h, if_neg (by omega)]

/-- The greatest deviation of each lane, from the deviations. -/
def topS (mu : IVec S64x1 32) : ℕ → IVec S64x128 32
  | 0 => broadcast S64x128 0#32
  | n + 1 => maxsi (topS mu n) (absi (yC (z n) mu))

/-- The sum of the squares, from the deviations. -/
def vsS (mu sh : IVec S64x1 32) : ℕ → IVec S64x128 32
  | 0 => broadcast S64x128 0#32
  | n + 1 => addi (vsS mu sh n) (sqC (yC (z n) mu) sh)

theorem topC_eq (mu : IVec S64x1 32) (n : ℕ) (hn : n ≤ 32) : topC (F := F) v15 k z mu n = topS z mu n := by
  induction n with
  | zero => rfl
  | succ n ih => unfold topC topS; rw [ih (by omega), readCov_pyC v15 k z mu n (by omega) n (by omega), if_neg (by omega)]

theorem vsC_eq (mu sh : IVec S64x1 32) (n : ℕ) (hn : n ≤ 32) : vsC (F := F) v15 k (pyC v15 k z mu 32) sh n = vsS z mu sh n := by
  induction n with
  | zero => rfl
  | succ n ih => unfold vsC vsS; rw [ih (by omega), readCov_pyC v15 k z mu 32 le_rfl n (by omega), if_pos (by omega)]

theorem mem_poC (g : ℕ → IVec S64x128 32 → IVec S64x1 32 → IVec S64x128 8) (mu f : IVec S64x1 32) (n : ℕ) (hn : n ≤ 32)
    (p : View.Piece (Elt F) S1280x4096 .i8) :
    p ∈ poC (F := F) v15 k g (pyC v15 k z mu 32) f n ↔ ∃ j, j < n ∧ p = ⟨rectC j k, g j (yC (z j) mu) f⟩ := by
  induction n with
  | zero => simp [poC]
  | succ n ih =>
    unfold poC
    rw [List.mem_cons, ih (by omega), readCov_pyC v15 k z mu 32 le_rfl n (by omega), if_pos (by omega)]
    constructor
    · rintro (h | ⟨j, hj, h⟩)
      · exact ⟨n, by omega, h⟩
      · exact ⟨j, by omega, h⟩
    · rintro ⟨j, hj, h⟩
      by_cases e : j = n
      · subst e; exact Or.inl h
      · exact Or.inr ⟨j, by omega, h⟩

theorem mem_pzC (n : ℕ) (p : View.Piece (Elt F) S1280x4096 .i32) (h : p ∈ pzC (F := F) k z n) : ∃ j, j < n ∧ p.1 = rectC j k := by
  induction n with
  | zero => simp [pzC] at h
  | succ n ih =>
    unfold pzC at h
    rcases List.mem_cons.1 h with e | h
    · exact ⟨n, by omega, by rw [e]⟩
    · obtain ⟨j, hj, e⟩ := ih h
      exact ⟨j, by omega, e⟩

theorem mem_pyC (mu : IVec S64x1 32) (n : ℕ) (hn : n ≤ 32) (p : View.Piece (Elt F) S1280x4096 .i32) (h : p ∈ pyC (F := F) v15 k z mu n) :
    ∃ j, j < 32 ∧ p.1 = rectC j k := by
  induction n with
  | zero => exact mem_pzC k z 32 p h
  | succ n ih =>
    unfold pyC at h
    rcases List.mem_cons.1 h with e | h
    · exact ⟨n, by omega, by rw [e]⟩
    · exact ih (by omega) h

end Loads

/-! ## The phases on a row -/

variable (z : ℕ → IVec S64x128 32)

/-- Row `r` of the chunks. -/
def zrow (r : Fin 64) : Fin 4096 → BitVec 32 := fun c => z (c.val / 128) (ix2 r ⟨c.val % 128, Nat.mod_lt _ (by norm_num)⟩)

theorem zrow_chunk (r : Fin 64) (j : ℕ) (hj : j < 32) (l : Fin 128) : zrow z r ⟨128 * j + l.val, by omega⟩ = z j (ix2 r l) := by
  unfold zrow
  have e1 : (128 * j + l.val) / 128 = j := by omega
  have e2 : (128 * j + l.val) % 128 = l.val := by omega
  show z ((128 * j + l.val) / 128) (ix2 r ⟨(128 * j + l.val) % 128, _⟩) = _
  rw [e1]
  congr 2
  exact Fin.ext e2

theorem sumC_apply (n : ℕ) (i : S64x128.Idx) : sumC z n i = ∑ j : Fin n, z j i := by
  induction n with
  | zero => rfl
  | succ n ih =>
    rw [Fin.sum_univ_castSucc]
    show sumC z n i + z n i = _
    rw [ih]; rfl

theorem lanesC_apply (s : IVec S64x128 32) (r : Fin 64) : lanesC (F := Ideal) s (ix2 r 0) = ∑ l, s (ix2 r l) := by
  rw [← lanes_word fun l => s (ix2 r l)]
  unfold lanesC
  pointwise
  rfl

theorem muC_apply (s : IVec S64x128 32) (r : Fin 64) :
    muC (F := Ideal) s (ix2 r 0) = IntOp.shrsi .vector (IntOp.addi (∑ l, s (ix2 r l)) 2048#32) 12#32 := by
  rw [← lanesC_apply]; rfl

theorem tripMu_apply (r : Fin 64) : tripMu (F := Ideal) z (ix2 r 0) = rowMu (zrow z r) := by
  have e : ∑ l, sumC z 32 (ix2 r l) = ∑ c, zrow z r c := by
    refine Eq.trans ?_ (sum_chunks (zrow z r))
    refine Finset.sum_congr rfl fun l _ => ?_
    rw [sumC_apply]
    exact Finset.sum_congr rfl fun j _ => (zrow_chunk z r j.val j.isLt l).symm
  unfold tripMu rowMu
  rw [muC_apply, e]

theorem col_apply (v : IVec S64x1 32) (r : Fin 64) (l : Fin 128) : broadcastTo S64x128 v broadcasts_S64x1_S64x128 (ix2 r l) = v (ix2 r 0) := by
  pointwise

theorem row_apply (v : IVec S1x128 32) (r : Fin 64) (l : Fin 128) : broadcastTo S64x128 v broadcasts_S1x128_S64x128 (ix2 r l) = v (ix2 0 l) := by
  pointwise

theorem yC_apply (r : Fin 64) (j : ℕ) (hj : j < 32) (l : Fin 128) :
    yC (z j) (tripMu (F := Ideal) z) (ix2 r l) = rowY (zrow z r) ⟨128 * j + l.val, by omega⟩ := by
  show IntOp.subi (z j (ix2 r l)) (broadcastTo S64x128 (tripMu (F := Ideal) z) broadcasts_S64x1_S64x128 (ix2 r l)) = _
  rw [col_apply, tripMu_apply, ← zrow_chunk z r j hj l]; rfl

theorem topS_ge (mu : IVec S64x1 32) (i : S64x128.Idx) (n j : ℕ) (hj : j < n) :
    (IntOp.absi (yC (z j) mu i)).toInt ≤ (topS z mu n i).toInt := by
  induction n with
  | zero => omega
  | succ n ih =>
    have e : (topS z mu (n + 1) i).toInt = max (topS z mu n i).toInt (IntOp.absi (yC (z n) mu i)).toInt := maxsi_toInt _ _
    rw [e]
    by_cases h : j = n
    · subst h; exact le_max_right _ _
    · exact (ih (by omega)).trans (le_max_left _ _)

theorem topS_cases (mu : IVec S64x1 32) (i : S64x128.Idx) (n : ℕ) :
    topS z mu n i = 0#32 ∨ ∃ j, j < n ∧ topS z mu n i = IntOp.absi (yC (z j) mu i) := by
  induction n with
  | zero => exact Or.inl rfl
  | succ n ih =>
    rcases maxsi_cases (topS z mu n i) (IntOp.absi (yC (z n) mu i)) with h | h
    · rw [show topS z mu (n + 1) i = topS z mu n i from h]
      rcases ih with h' | ⟨j, hj, h'⟩
      · exact Or.inl h'
      · exact Or.inr ⟨j, by omega, h'⟩
    · exact Or.inr ⟨n, by omega, h⟩

theorem shC_apply (t : IVec S64x128 32) (r : Fin 64) : shC (F := Ideal) t (ix2 r 0)
    = IntOp.maxsi (IntOp.subi (Ideal.fptosi 32 (Finset.univ.fold max (⊥ : EReal) fun l : Fin 128 =>
        ((((IntOp.subi 32#32 (IntOp.ctlz (t (ix2 r l)))).toInt : ℤ) : ℝ) : EReal))) 9#32) 0#32 := by
  unfold shC
  pointwise
  rfl

variable (hz : ∀ r c, -1073750000 ≤ (zrow z r c).toInt ∧ (zrow z r c).toInt ≤ 1073750000)

include hz in
theorem shS_apply (r : Fin 64) : shC (F := Ideal) (topS z (tripMu (F := Ideal) z) 32) (ix2 r 0) = rowSh (zrow z r) := by
  rw [shC_apply]
  unfold rowSh shW
  have hne := rowY_ne (zrow z r) (hz r)
  rw [bits_eq (fun c => IntOp.absi (rowY (zrow z r) c)) (fun c => absi_nonneg _ (hne c)) (rowTop (zrow z r)) (rowTop_ge _) (rowTop_mem _ hne)
    (fun l => topS z (tripMu (F := Ideal) z) 32 (ix2 r l)) ?_ ?_]
  · intro c
    refine ⟨⟨c.val % 128, Nat.mod_lt _ (by norm_num)⟩, ?_⟩
    have h := topS_ge z (tripMu (F := Ideal) z) (ix2 r ⟨c.val % 128, Nat.mod_lt _ (by norm_num)⟩) 32 (c.val / 128) (by omega)
    rw [yC_apply z r _ (by omega)] at h
    have e : (⟨128 * (c.val / 128) + c.val % 128, by omega⟩ : Fin 4096) = c := Fin.ext (by show 128 * (c.val / 128) + c.val % 128 = _; omega)
    rw [e] at h
    exact h
  · intro l
    rcases topS_cases z (tripMu (F := Ideal) z) (ix2 r l) 32 with h | ⟨j, hj, h⟩
    · exact Or.inl h
    · exact Or.inr ⟨⟨128 * j + l.val, by omega⟩, by rw [h, yC_apply z r j hj l]⟩

theorem vsS_apply (mu sh : IVec S64x1 32) (n : ℕ) (i : S64x128.Idx) : vsS z mu sh n i = ∑ j : Fin n, sqC (yC (z j) mu) sh i := by
  induction n with
  | zero => rfl
  | succ n ih =>
    rw [Fin.sum_univ_castSucc]
    show vsS z mu sh n i + sqC (yC (z n) mu) sh i = _
    rw [ih]; rfl

theorem sqC_apply (y : IVec S64x128 32) (sh : IVec S64x1 32) (r : Fin 64) (l : Fin 128) :
    sqC y sh (ix2 r l) = sqW (y (ix2 r l)) (sh (ix2 r 0)) := by
  unfold sqW
  rw [← col_apply sh r l]; rfl

theorem varC_apply (v : IVec S64x128 32) (r : Fin 64) : varC (F := Ideal) v (ix2 r 0) = IntOp.maxsi (∑ l, v (ix2 r l)) 1#32 := by
  rw [← lanesC_apply]; rfl

theorem newtC_apply (v : IVec S64x1 32) (n : ℕ) (i : S64x1.Idx) : newtC v n i = newtW (v i) n := by
  induction n with
  | zero => rfl
  | succ n ih => unfold newtW; rw [← ih]; rfl

theorem facC_apply (v sh : IVec S64x1 32) (i : S64x1.Idx) : facC v sh i = facW (v i) (sh i) := by
  have e : sgnW 2147483647#32 = 1#32 := by decide
  unfold facW fdivW
  rw [e, ← newtC_apply]; rfl

variable (v15 : View sig .tc .vmem S1280x4096 .i32) (k : Fin k0_t2_loop.trips)

include hz in
theorem tripSh_apply (r : Fin 64) : tripSh (F := Ideal) v15 k z (ix2 r 0) = rowSh (zrow z r) := by
  unfold tripSh
  rw [topC_eq v15 k z _ 32 le_rfl, shS_apply z hz r]

include hz in
theorem tripVar_apply (r : Fin 64) : tripVar (F := Ideal) v15 k z (ix2 r 0) = rowVar (zrow z r) := by
  have e : ∑ l, vsS z (tripMu (F := Ideal) z) (tripSh (F := Ideal) v15 k z) 32 (ix2 r l) = ∑ c, sqW (rowY (zrow z r) c) (rowSh (zrow z r)) := by
    refine Eq.trans ?_ (sum_chunks fun c => sqW (rowY (zrow z r) c) (rowSh (zrow z r)))
    refine Finset.sum_congr rfl fun l _ => ?_
    rw [vsS_apply]
    refine Finset.sum_congr rfl fun j _ => ?_
    rw [sqC_apply, tripSh_apply z hz v15 k r, yC_apply z r j.val j.isLt l]
  unfold tripVar rowVar
  rw [vsC_eq v15 k z _ _ 32 le_rfl, varC_apply, e]

include hz in
theorem tripFac_apply (r : Fin 64) : tripFac (F := Ideal) v15 k z (ix2 r 0) = rowFac (zrow z r) := by
  unfold tripFac rowFac
  rw [facC_apply, tripVar_apply z hz v15 k r, tripSh_apply z hz v15 k r]

theorem oC_apply (y : IVec S64x128 32) (f : IVec S64x1 32) (m l' rr q b : IVec S1x128 32) (r : Fin 64) (l : Fin 128) :
    oC y f m l' rr q b (ix2 r l)
      = outW (y (ix2 r l)) (f (ix2 r 0)) (m (ix2 0 l)) (l' (ix2 0 l)) (rr (ix2 0 l)) (q (ix2 0 l)) (b (ix2 0 l)) := by
  unfold outW rq
  rw [← col_apply f r l]
  unfold oC rqC
  simp only [shapeCast_self]
  rw [← row_apply m r l, ← row_apply l' r l, ← row_apply rr r l, ← row_apply q r l, ← row_apply b r l]
  rfl

theorem zC_apply (v : IVec S64x128 32) (m l' rr q : IVec S1x128 32) (x : IVec S64x128 8) (r : Fin 64) (l : Fin 128) :
    zC v m l' rr q x (ix2 r l) = zW (v (ix2 r l)) (m (ix2 0 l)) (l' (ix2 0 l)) (rr (ix2 0 l)) (q (ix2 0 l)) (x (ix2 r l)) := by
  unfold zW rq
  unfold zC rqC
  simp only [shapeCast_self]
  rw [← row_apply m r l, ← row_apply l' r l, ← row_apply rr r l, ← row_apply q r l]
  rfl

end Cert.KernelBIdeal.Gen

end
-- ==== Proof.BIdealMm.lean ====
/-
  Hand-written, untrusted. What one trip of the multiplication loop of `KernelBIdeal` writes, in closed form, and what the loop
  leaves in the accumulator: each element is increased by its partial dot product.
-/
module

public import proofs.«01_k».proof.Proof.BIdealCells

@[expose] public section

set_option maxRecDepth 65536

noncomputable section

open scoped BigOperators

namespace Cert.KernelBIdeal.Gen

open Idealize.ShloMosaic Idealize.ShloMosaic.TcCoe Idealize.SL Idealize.SL.Sem Cert.Proof.Words

section Trip

variable {F : FTy → Type} [FloatOps F]

/-- Where column block `j` of trip `k` lies: 256 rows from `256 * k`, 512 columns from `512 * j`. -/
def offM : ℕ → Fin k0_t1_loop.trips → Fin 2 → ℕ
  | 0 => k0_off2
  | 1 => k0_off3
  | 2 => k0_off4
  | 3 => k0_off5
  | 4 => k0_off6
  | 5 => k0_off7
  | 6 => k0_off8
  | _ => k0_off9

theorem offM_eq' : ∀ j : Fin 8, ∀ k : Fin k0_t1_loop.trips, offM j.val k = ![256 * k.val, 512 * j.val] := by decide +kernel

theorem offM_eq (j : ℕ) (hj : j < 8) (k : Fin k0_t1_loop.trips) : offM j k = ![256 * k.val, 512 * j] := offM_eq' ⟨j, hj⟩ k

theorem off1_eq : ∀ k : Fin k0_t1_loop.trips, k0_off1 k = ![256 * k.val, 0] := by decide +kernel

theorem offM_inb' : ∀ j : Fin 8, ∀ k : Fin k0_t1_loop.trips, ∀ a, offM j.val k a + S256x512.size a ≤ S1280x4096.size a := by decide +kernel

theorem offM_inb (j : ℕ) (k : Fin k0_t1_loop.trips) : ∀ a, offM j k a + S256x512.size a ≤ S1280x4096.size a := by
  by_cases hj : j < 8
  · exact offM_inb' ⟨j, hj⟩ k
  · obtain ⟨n, rfl⟩ : ∃ n, j = n + 8 := ⟨j - 8, by omega⟩
    exact offM_inb' ⟨7, by omega⟩ k

/-- The rectangle of column block `j` of trip `k`. -/
abbrev rectM (j : ℕ) (k : Fin k0_t1_loop.trips) : Rect S1280x4096 := Rect.unit (s := S1280x4096) (offM j k) S256x512.size (offM_inb j k)

theorem colM_inb (j : ℕ) : ∀ a, (![0, 512 * (j % 8)] : Fin 2 → ℕ) a + S1024x512.size a ≤ S1024x4096.size a := by
  refine Fin.forall_fin_two.2 ⟨?_, ?_⟩
  · show 0 + 1024 ≤ 1024; omega
  · show 512 * (j % 8) + 512 ≤ 4096; omega

/-- The weight's columns of block `j`. -/
abbrev colM (j : ℕ) : Rect S1024x4096 := Rect.unit (s := S1024x4096) ![0, 512 * (j % 8)] S1024x512.size (colM_inb j)

variable (k : Fin k0_t1_loop.trips) (arg1 : Memref sig .tc .vmem S1280x1024 .i8) (arg15 : Memref sig .tc .vmem S1280x4096 .i32) (arg16 : Memref sig .tc .vmem S1024x4096 .bf16)
  (X_arg1 : BufTy.Contents (Elt F) arg1.view.ty) (X_arg16 : BufTy.Contents (Elt F) arg16.view.ty) (f15 : BufTy.Contents (Elt F) arg15.view.ty)

/-- The partial dot products of block `j`. -/
def dotM (j : ℕ) : IVec S256x512 32 :=
  fptosi 32 (matmul dot_S256x1024_S1024x512_S256x512_1_0_0_1_n_n none
    (sitofp .bf16 (arg1.view.readAt (Elt F) (Rect.unit (s := S1280x1024) (k0_off1 k) S256x1024.size (k0_off1_inb k)).toLoadRect X_arg1) : FVec F S256x1024 .bf16)
    (arg16.view.readAt (Elt F) (colM j).toLoadRect X_arg16) (constant S256x512 .f32 0x00000000#32 : FVec F S256x512 .f32))

/-- The trip's pieces. -/
def pmC : ℕ → List (View.Piece (Elt F) S1280x4096 .i32)
  | 0 => []
  | n + 1 => ⟨rectM n k, shapeCast S256x512 (addi (arg15.view.readAt (Elt F) (rectM n k).toLoadRect f15) (dotM (F := F) k arg1 arg16 X_arg1 X_arg16 n)) shapeCasts_S256x512_S256x512⟩ :: pmC n

theorem tripM_eq (𝒱 : Variants) (c : Dev nD) (bd : Option 𝒱.V) (i : grid0.Coords) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (harg15 : arg15.IsWhole) (harg16 : arg16.IsWhole) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg16 k f15 = pmC k arg1 arg15 arg16 X_arg1 X_arg16 f15 8 := by
  unfold tripL_k0_t1 trip_k0_t1
  rfl

theorem mem_pmC (n : ℕ) (p : View.Piece (Elt F) S1280x4096 .i32) :
    p ∈ pmC k arg1 arg15 arg16 X_arg1 X_arg16 f15 n ↔ ∃ j, j < n ∧ p = ⟨rectM j k, addi (arg15.view.readAt (Elt F) (rectM j k).toLoadRect f15) (dotM (F := F) k arg1 arg16 X_arg1 X_arg16 j)⟩ := by
  induction n with
  | zero => simp [pmC]
  | succ n ih =>
    unfold pmC
    rw [List.mem_cons, ih, show shapeCast S256x512 (addi (arg15.view.readAt (Elt F) (rectM n k).toLoadRect f15) (dotM (F := F) k arg1 arg16 X_arg1 X_arg16 n)) shapeCasts_S256x512_S256x512 = _ from shapeCast_self _ _]
    constructor
    · rintro (h | ⟨j, hj, h⟩)
      · exact ⟨n, by omega, h⟩
      · exact ⟨j, by omega, h⟩
    · rintro ⟨j, hj, h⟩
      by_cases e : j = n
      · subst e; exact Or.inl h
      · exact Or.inr ⟨j, by omega, h⟩

theorem mem_rectM (j : ℕ) (hj : j < 8) (y : S1280x4096.Idx) :
    y ∈ (rectM j k).set ↔ (256 * k.val ≤ (y 0).val ∧ (y 0).val < 256 * k.val + 256) ∧ (512 * j ≤ (y 1).val ∧ (y 1).val < 512 * j + 512) := by
  rw [show (y ∈ (rectM j k).set) ↔ _ from Rect.mem_set_unit, offM_eq j hj]
  exact Fin.forall_fin_two

end Trip

/-- The partial dot product of an element. -/
def dotD (A : S1280x1024.Idx → BitVec 8) (B : S1024x4096.Idx → BitVec 8) (y : S1280x4096.Idx) : BitVec 32 :=
  BitVec.ofInt 32 (∑ k : Fin 1024, (A (ix2 (y 0) k)).toInt * (B (ix2 k (y 1))).toInt)

variable (k : Fin k0_t1_loop.trips) (arg1 : Memref sig .tc .vmem S1280x1024 .i8) (arg15 : Memref sig .tc .vmem S1280x4096 .i32) (arg16 : Memref sig .tc .vmem S1024x4096 .bf16)
  (X_arg1 : BufTy.Contents (Elt Ideal) arg1.view.ty) (X_arg16 : BufTy.Contents (Elt Ideal) arg16.view.ty) (f15 : BufTy.Contents (Elt Ideal) arg15.view.ty)
  (A : S1280x1024.Idx → BitVec 8) (B : S1024x4096.Idx → BitVec 8)
  (hA : arg1.view.read (Elt Ideal) X_arg1 = A) (hB : ∀ i, arg16.view.read (Elt Ideal) X_arg16 i = (((B i).toInt : ℝ) : EReal))

theorem dot_apply (P : FVec Ideal S256x1024 .bf16) (Q : FVec Ideal S1024x512 .bf16) (r : Fin 256) (col : Fin 512) (x w : Fin 1024 → BitVec 8)
    (hP : ∀ k, P (ix2 r k) = (((x k).toInt : ℝ) : EReal)) (hQ : ∀ k, Q (ix2 k col) = (((w k).toInt : ℝ) : EReal)) :
    (fptosi 32 (matmul dot_S256x1024_S1024x512_S256x512_1_0_0_1_n_n none P Q (constant S256x512 .f32 0x00000000#32)) : IVec S256x512 32) (ix2 r col)
      = BitVec.ofInt 32 (∑ k, (x k).toInt * (w k).toInt) := by
  rw [← dot_fptosi (by norm_num) x w]
  pointwise
  simp only [hP, hQ]
  rfl

include hA hB in
theorem dotM_apply (j : ℕ) (hj : j < 8) (x : S256x512.Idx) (y : S1280x4096.Idx) (h0 : (y 0).val = 256 * k.val + (x 0).val) (h1 : (y 1).val = 512 * j + (x 1).val) :
    dotM (F := Ideal) k arg1 arg16 X_arg1 X_arg16 j x = dotD A B y := by
  rw [show x = ix2 (n0 := 256) (n1 := 512) (x 0) (x 1) from eq_ix2 x]
  unfold dotM dotD
  refine dot_apply _ _ (x 0) (x 1) (fun k => A (ix2 (y 0) k)) (fun k => B (ix2 k (y 1))) (fun q => ?_) (fun q => ?_)
  · show ((((arg1.view.read (Elt Ideal) X_arg1 _ : BitVec 8)).toInt : ℝ) : EReal) = _
    rw [hA]
    congr 4
    funext a
    revert a
    refine Fin.forall_fin_two.2 ⟨Fin.ext ?_, Fin.ext ?_⟩
    · show k0_off1 k 0 + 1 * (x 0).val = (y 0).val
      rw [off1_eq, h0]
      show 256 * k.val + 1 * (x 0).val = _
      omega
    · show k0_off1 k 1 + 1 * q.val = q.val
      rw [off1_eq]
      show 0 + 1 * q.val = _
      omega
  · show arg16.view.read (Elt Ideal) X_arg16 _ = _
    rw [hB]
    congr 4
    funext a
    revert a
    refine Fin.forall_fin_two.2 ⟨Fin.ext ?_, Fin.ext ?_⟩
    · show 0 + 1 * q.val = q.val
      omega
    · show 512 * (j % 8) + 1 * (x 1).val = (y 1).val
      omega

include hA hB in
/-- One trip increases the elements of its rows, and leaves the others. -/
theorem tripM_read (y : S1280x4096.Idx) :
    arg15.view.read (Elt Ideal) (arg15.view.writes (Elt Ideal) f15 (pmC (F := Ideal) k arg1 arg15 arg16 X_arg1 X_arg16 f15 8)) y
      = if 256 * k.val ≤ (y 0).val ∧ (y 0).val < 256 * k.val + 256 then IntOp.addi (arg15.view.read (Elt Ideal) f15 y) (dotD A B y)
        else arg15.view.read (Elt Ideal) f15 y := by
  by_cases hr : 256 * k.val ≤ (y 0).val ∧ (y 0).val < 256 * k.val + 256
  · rw [if_pos hr]
    refine View.read_writes_apply_of_pieces (Val := Elt Ideal) (e := .i32) arg15.view f15 (fun y => IntOp.addi (arg15.view.read (Elt Ideal) f15 y) (dotD A B y)) _ ?_ y ?_
    · intro p hp
      obtain ⟨j, hj, rfl⟩ := (mem_pmC (F := Ideal) k arg1 arg15 arg16 X_arg1 X_arg16 f15 8 p).1 hp
      intro x
      show IntOp.addi (arg15.view.read (Elt Ideal) f15 ((rectM j k).emb x)) _ = _
      rw [dotM_apply k arg1 arg16 X_arg1 X_arg16 A B hA hB j hj x ((rectM j k).emb x)]
      · show offM j k 0 + 1 * (x 0).val = _
        rw [offM_eq j hj]
        show 256 * k.val + 1 * (x 0).val = _
        omega
      · show offM j k 1 + 1 * (x 1).val = _
        rw [offM_eq j hj]
        show 512 * j + 1 * (x 1).val = _
        omega
    · have h1 : (y 1).val < 4096 := (y 1).isLt
      refine ⟨_, (mem_pmC (F := Ideal) k arg1 arg15 arg16 X_arg1 X_arg16 f15 8 _).2 ⟨(y 1).val / 512, by omega, rfl⟩, ?_⟩
      rw [mem_rectM k _ (by omega)]
      exact ⟨hr, by omega, by omega⟩
  · rw [if_neg hr]
    refine View.read_writes_apply_of_forall_not_mem (Val := Elt Ideal) arg15.view f15 y _ fun p hp => ?_
    obtain ⟨j, hj, rfl⟩ := (mem_pmC (F := Ideal) k arg1 arg15 arg16 X_arg1 X_arg16 f15 8 p).1 hp
    rw [mem_rectM k j hj]
    exact fun h => hr h.1

include hA hB in
/-- The loop's first `n` trips. -/
theorem loopM_read (𝒱 : Variants) (c : Dev nD) (bd : Option 𝒱.V) (i : grid0.Coords) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (harg15 : arg15.IsWhole) (harg16 : arg16.IsWhole) (G15 : BufTy.Contents (Elt Ideal) arg15.view.ty) (n : ℕ) (hn : n ≤ 5) (y : S1280x4096.Idx) :
    arg15.view.read (Elt Ideal) (arg15.view.writes (Elt Ideal) G15 (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg16 G15 n)) y
      = if (y 0).val < 256 * n then IntOp.addi (arg15.view.read (Elt Ideal) G15 y) (dotD A B y) else arg15.view.read (Elt Ideal) G15 y := by
  induction n with
  | zero => rw [if_neg (by omega)]; rfl
  | succ n ih =>
    have e := pb_k0_t1_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg16 G15 ⟨n, hn⟩
    rw [show pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 X_arg1 X_arg16 G15 (n + 1) = _ from e, View.writes_append, tripM_eq, tripM_read ⟨n, hn⟩ arg1 arg15 arg16 X_arg1 X_arg16 _ A B hA hB, ih (by omega)]
    show (if 256 * n ≤ (y 0).val ∧ (y 0).val < 256 * n + 256 then _ else _) = _
    by_cases h1 : (y 0).val < 256 * n
    · rw [if_neg (by omega), if_pos h1, if_pos (by omega)]
    · by_cases h2 : (y 0).val < 256 * n + 256
      · rw [if_pos (by omega), if_neg h1, if_pos (by omega)]
      · rw [if_neg (by omega), if_neg h1, if_neg (by omega)]

end Cert.KernelBIdeal.Gen

end
-- ==== Proof.BIdealLoopC.lean ====
/-
  Hand-written, untrusted. What the LayerNorm loop of `KernelBIdeal` leaves in the output: each row's integer LayerNorm.
-/
module

public import proofs.«01_k».proof.Proof.BIdealMm

@[expose] public section

set_option maxRecDepth 65536

noncomputable section

open scoped BigOperators

namespace Cert.KernelBIdeal.Gen

open Idealize.ShloMosaic Idealize.ShloMosaic.TcCoe Idealize.SL Idealize.SL.Sem Cert.Proof.Words

/-- A row of the sums with the residual. -/
def zR (acc : S1280x4096.Idx → BitVec 32) (m l rnd rest : S1x4096.Idx → BitVec 32) (x : S1280x4096.Idx → BitVec 8) (r : Fin 1280) (c : Fin 4096) : BitVec 32 :=
  zW (acc (ix2 r c)) (m (ix2 0 c)) (l (ix2 0 c)) (rnd (ix2 0 c)) (rest (ix2 0 c)) (x (ix2 r c))

/-- An element of the result. -/
def oR (acc : S1280x4096.Idx → BitVec 32) (m l rnd rest : S1x4096.Idx → BitVec 32) (x : S1280x4096.Idx → BitVec 8)
    (m' l' rnd' rest' b' : S1x4096.Idx → BitVec 32) (y : S1280x4096.Idx) : BitVec 8 :=
  outW (rowY (zR acc m l rnd rest x (y 0)) (y 1)) (rowFac (zR acc m l rnd rest x (y 0))) (m' (ix2 0 (y 1))) (l' (ix2 0 (y 1))) (rnd' (ix2 0 (y 1))) (rest' (ix2 0 (y 1))) (b' (ix2 0 (y 1)))

variable (k : Fin k0_t2_loop.trips) (i : grid0.Coords) (k0_h2 : k0_cond2 i = 1#1)
  (arg3 : Memref sig .tc .vmem S1280x4096 .i8) (arg5 : Memref sig .tc .vmem S1x4096 .i32) (arg6 : Memref sig .tc .vmem S1x4096 .i32) (arg7 : Memref sig .tc .vmem S1x4096 .i32) (arg8 : Memref sig .tc .vmem S1x4096 .i32) (arg9 : Memref sig .tc .vmem S1x4096 .i32) (arg10 : Memref sig .tc .vmem S1x4096 .i32) (arg11 : Memref sig .tc .vmem S1x4096 .i32) (arg12 : Memref sig .tc .vmem S1x4096 .i32) (arg13 : Memref sig .tc .vmem S1x4096 .i32) (arg14 : Memref sig .tc .vmem S1280x4096 .i8) (arg15 : Memref sig .tc .vmem S1280x4096 .i32)
  (X_arg3 : BufTy.Contents (Elt Ideal) arg3.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (X_arg13 : BufTy.Contents (Elt Ideal) arg13.view.ty)
  (f14 : BufTy.Contents (Elt Ideal) arg14.view.ty) (f15 : BufTy.Contents (Elt Ideal) arg15.view.ty)

theorem rectC_emb (j : ℕ) (hj : j < 32) (x : (rectC j k).shape.Idx) (y : S1280x4096.Idx) (h0 : (y 0).val = 64 * k.val + (x 0).val) (h1 : (y 1).val = 128 * j + (x 1).val) :
    (rectC j k).emb x = y := by
  funext a
  revert a
  refine Fin.forall_fin_two.2 ⟨Fin.ext ?_, Fin.ext ?_⟩
  · show offC j k 0 + 1 * (x 0).val = (y 0).val
    rw [offC_eq j hj, h0]
    show 64 * k.val + 1 * (x 0).val = _
    omega
  · show offC j k 1 + 1 * (x 1).val = (y 1).val
    rw [offC_eq j hj, h1]
    show 128 * j + 1 * (x 1).val = _
    omega

theorem colC_read (v : Memref sig .tc .vmem S1x4096 .i32) (X : BufTy.Contents (Elt Ideal) v.view.ty) (j : ℕ) (hj : j < 32) (l : Fin 128) (c : Fin 4096) (hc : c.val = 128 * j + l.val) :
    v.view.readAt (Elt Ideal) (colC j).toLoadRect X (ix2 0 l) = v.view.read (Elt Ideal) X (ix2 0 c) := by
  show v.view.read (Elt Ideal) X _ = _
  refine congrArg _ ?_
  funext a
  revert a
  refine Fin.forall_fin_two.2 ⟨Fin.ext ?_, Fin.ext ?_⟩
  · rfl
  · show 128 * (j % 32) + 1 * l.val = c.val
    omega

theorem rectC_read {e : EltTy} (v : Memref sig .tc .vmem S1280x4096 e) (X : BufTy.Contents (Elt Ideal) v.view.ty) (j : ℕ) (hj : j < 32) (r : Fin 64) (l : Fin 128) (y : S1280x4096.Idx)
    (h0 : (y 0).val = 64 * k.val + r.val) (h1 : (y 1).val = 128 * j + l.val) :
    v.view.readAt (Elt Ideal) (rectC j k).toLoadRect X (ix2 r l) = v.view.read (Elt Ideal) X y := by
  show v.view.read (Elt Ideal) X _ = _
  exact congrArg _ (rectC_emb k j hj (ix2 r l) y h0 h1)

theorem zT_apply (j : ℕ) (hj : j < 32) (r : Fin 64) (l : Fin 128) (y0 : Fin 1280) (c : Fin 4096) (h0 : y0.val = 64 * k.val + r.val) (h1 : c.val = 128 * j + l.val) :
    (zT (F := Ideal) k arg3 arg5 arg6 arg7 arg8 arg15 X_arg3 X_arg5 X_arg6 X_arg7 X_arg8 f15) j (ix2 r l) = zR (arg15.view.read (Elt Ideal) f15) (arg5.view.read (Elt Ideal) X_arg5) (arg6.view.read (Elt Ideal) X_arg6) (arg7.view.read (Elt Ideal) X_arg7) (arg8.view.read (Elt Ideal) X_arg8) (arg3.view.read (Elt Ideal) X_arg3) y0 c := by
  unfold zT zR
  rw [zC_apply]
  rw [rectC_read k arg15 f15 j hj r l (ix2 y0 c) h0 h1, rectC_read k arg3 X_arg3 j hj r l (ix2 y0 c) h0 h1,
    colC_read arg5 X_arg5 j hj l c h1, colC_read arg6 X_arg6 j hj l c h1, colC_read arg7 X_arg7 j hj l c h1, colC_read arg8 X_arg8 j hj l c h1]

variable (acc : S1280x4096.Idx → BitVec 32)

theorem zrow_zT (r : Fin 64) (y0 : Fin 1280) (h0 : y0.val = 64 * k.val + r.val) (hacc : ∀ c, arg15.view.read (Elt Ideal) f15 (ix2 y0 c) = acc (ix2 y0 c)) :
    zrow (zT (F := Ideal) k arg3 arg5 arg6 arg7 arg8 arg15 X_arg3 X_arg5 X_arg6 X_arg7 X_arg8 f15) r = zR acc (arg5.view.read (Elt Ideal) X_arg5) (arg6.view.read (Elt Ideal) X_arg6) (arg7.view.read (Elt Ideal) X_arg7) (arg8.view.read (Elt Ideal) X_arg8) (arg3.view.read (Elt Ideal) X_arg3) y0 := by
  funext c
  unfold zrow
  rw [zT_apply k arg3 arg5 arg6 arg7 arg8 arg15 X_arg3 X_arg5 X_arg6 X_arg7 X_arg8 f15 (c.val / 128) (by omega) r ⟨c.val % 128, Nat.mod_lt _ (by norm_num)⟩ y0 c h0
    (by show c.val = 128 * (c.val / 128) + c.val % 128; omega)]
  unfold zR
  rw [hacc]

variable (hz : ∀ r c, -1073750000 ≤ (zR acc (arg5.view.read (Elt Ideal) X_arg5) (arg6.view.read (Elt Ideal) X_arg6) (arg7.view.read (Elt Ideal) X_arg7) (arg8.view.read (Elt Ideal) X_arg8) (arg3.view.read (Elt Ideal) X_arg3) r c).toInt ∧ (zR acc (arg5.view.read (Elt Ideal) X_arg5) (arg6.view.read (Elt Ideal) X_arg6) (arg7.view.read (Elt Ideal) X_arg7) (arg8.view.read (Elt Ideal) X_arg8) (arg3.view.read (Elt Ideal) X_arg3) r c).toInt ≤ 1073750000)

/-- The trip's output pieces: where they lie. -/
theorem tripC_mem (𝒱 : Variants) (c : Dev nD) (bd : Option 𝒱.V) (arg1 : Memref sig .tc .vmem S1280x1024 .i8) (harg1 : arg1.IsWhole) (arg2 : Memref sig .tc .vmem S1024x4096 .i8) (harg2 : arg2.IsWhole) (harg3 : arg3.IsWhole) (arg4 : Memref sig .tc .vmem S1x4096 .i32) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (arg16 : Memref sig .tc .vmem S1024x4096 .bf16) (harg16 : arg16.IsWhole) (p : View.Piece (Elt Ideal) S1280x4096 .i8) :
    p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15).1 ↔ ∃ j, j < 32 ∧ p = ⟨rectC j k, oC (yC ((zT (F := Ideal) k arg3 arg5 arg6 arg7 arg8 arg15 X_arg3 X_arg5 X_arg6 X_arg7 X_arg8 f15) j) (tripMu (F := Ideal) (zT (F := Ideal) k arg3 arg5 arg6 arg7 arg8 arg15 X_arg3 X_arg5 X_arg6 X_arg7 X_arg8 f15))) (tripFac (F := Ideal) arg15.view k (zT (F := Ideal) k arg3 arg5 arg6 arg7 arg8 arg15 X_arg3 X_arg5 X_arg6 X_arg7 X_arg8 f15)) (arg9.view.readAt (Elt Ideal) (colC j).toLoadRect X_arg9) (arg10.view.readAt (Elt Ideal) (colC j).toLoadRect X_arg10) (arg11.view.readAt (Elt Ideal) (colC j).toLoadRect X_arg11) (arg12.view.readAt (Elt Ideal) (colC j).toLoadRect X_arg12) (arg13.view.readAt (Elt Ideal) (colC j).toLoadRect X_arg13)⟩ := by
  rw [tripL_eq]
  exact mem_poC (F := Ideal) arg15.view k (zT (F := Ideal) k arg3 arg5 arg6 arg7 arg8 arg15 X_arg3 X_arg5 X_arg6 X_arg7 X_arg8 f15) (fun j y f => oC y f (arg9.view.readAt (Elt Ideal) (colC j).toLoadRect X_arg9) (arg10.view.readAt (Elt Ideal) (colC j).toLoadRect X_arg10) (arg11.view.readAt (Elt Ideal) (colC j).toLoadRect X_arg11) (arg12.view.readAt (Elt Ideal) (colC j).toLoadRect X_arg12) (arg13.view.readAt (Elt Ideal) (colC j).toLoadRect X_arg13)) _ _ 32 le_rfl p

include hz in
theorem tripC_val (𝒱 : Variants) (c : Dev nD) (bd : Option 𝒱.V) (arg1 : Memref sig .tc .vmem S1280x1024 .i8) (harg1 : arg1.IsWhole) (arg2 : Memref sig .tc .vmem S1024x4096 .i8) (harg2 : arg2.IsWhole) (harg3 : arg3.IsWhole) (arg4 : Memref sig .tc .vmem S1x4096 .i32) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (arg16 : Memref sig .tc .vmem S1024x4096 .bf16) (harg16 : arg16.IsWhole) (hacc : ∀ r c, 64 * k.val ≤ r.val → r.val < 64 * k.val + 64 → arg15.view.read (Elt Ideal) f15 (ix2 r c) = acc (ix2 r c)) (p : View.Piece (Elt Ideal) S1280x4096 .i8)
    (hp : p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15).1) (x : p.1.shape.Idx) : p.2 x = oR acc (arg5.view.read (Elt Ideal) X_arg5) (arg6.view.read (Elt Ideal) X_arg6) (arg7.view.read (Elt Ideal) X_arg7) (arg8.view.read (Elt Ideal) X_arg8) (arg3.view.read (Elt Ideal) X_arg3) (arg9.view.read (Elt Ideal) X_arg9) (arg10.view.read (Elt Ideal) X_arg10) (arg11.view.read (Elt Ideal) X_arg11) (arg12.view.read (Elt Ideal) X_arg12) (arg13.view.read (Elt Ideal) X_arg13) (p.1.emb x) := by
  obtain ⟨j, hj, rfl⟩ := (tripC_mem k i k0_h2 arg3 arg5 arg6 arg7 arg8 arg9 arg10 arg11 arg12 arg13 arg14 arg15 X_arg3 X_arg5 X_arg6 X_arg7 X_arg8 X_arg9 X_arg10 X_arg11 X_arg12 X_arg13 f14 f15 𝒱 c bd arg1 harg1 arg2 harg2 harg3 arg4 harg4 harg5 harg6 harg7 harg8 harg9 harg10 harg11 harg12 harg13 harg14 harg15 arg16 harg16 p).1 hp
  have hk : k.val < 20 := k.isLt
  have hx0 : (x 0).val < 64 := (x 0).isLt
  have hx1 : (x 1).val < 128 := (x 1).isLt
  have hrow : ∀ r : Fin 64, zrow (zT (F := Ideal) k arg3 arg5 arg6 arg7 arg8 arg15 X_arg3 X_arg5 X_arg6 X_arg7 X_arg8 f15) r = zR acc (arg5.view.read (Elt Ideal) X_arg5) (arg6.view.read (Elt Ideal) X_arg6) (arg7.view.read (Elt Ideal) X_arg7) (arg8.view.read (Elt Ideal) X_arg8) (arg3.view.read (Elt Ideal) X_arg3) ⟨64 * k.val + r.val, by omega⟩ := fun r =>
    zrow_zT k arg3 arg5 arg6 arg7 arg8 arg15 X_arg3 X_arg5 X_arg6 X_arg7 X_arg8 f15 acc r ⟨64 * k.val + r.val, by omega⟩ rfl
      (fun c => hacc _ c (Nat.le_add_right _ _) (by show 64 * k.val + r.val < _; omega))
  rw [show (rectC j k).emb x = ix2 (n0 := 1280) (n1 := 4096) ⟨64 * k.val + (x 0).val, by omega⟩ ⟨128 * j + (x 1).val, by omega⟩ from rectC_emb k j hj x _ rfl rfl]
  have key : ∀ (r : Fin 64) (l : Fin 128), oC (yC ((zT (F := Ideal) k arg3 arg5 arg6 arg7 arg8 arg15 X_arg3 X_arg5 X_arg6 X_arg7 X_arg8 f15) j) (tripMu (F := Ideal) (zT (F := Ideal) k arg3 arg5 arg6 arg7 arg8 arg15 X_arg3 X_arg5 X_arg6 X_arg7 X_arg8 f15))) (tripFac (F := Ideal) arg15.view k (zT (F := Ideal) k arg3 arg5 arg6 arg7 arg8 arg15 X_arg3 X_arg5 X_arg6 X_arg7 X_arg8 f15)) (arg9.view.readAt (Elt Ideal) (colC j).toLoadRect X_arg9) (arg10.view.readAt (Elt Ideal) (colC j).toLoadRect X_arg10) (arg11.view.readAt (Elt Ideal) (colC j).toLoadRect X_arg11) (arg12.view.readAt (Elt Ideal) (colC j).toLoadRect X_arg12) (arg13.view.readAt (Elt Ideal) (colC j).toLoadRect X_arg13) (ix2 r l) = oR acc (arg5.view.read (Elt Ideal) X_arg5) (arg6.view.read (Elt Ideal) X_arg6) (arg7.view.read (Elt Ideal) X_arg7) (arg8.view.read (Elt Ideal) X_arg8) (arg3.view.read (Elt Ideal) X_arg3) (arg9.view.read (Elt Ideal) X_arg9) (arg10.view.read (Elt Ideal) X_arg10) (arg11.view.read (Elt Ideal) X_arg11) (arg12.view.read (Elt Ideal) X_arg12) (arg13.view.read (Elt Ideal) X_arg13) (ix2 (n0 := 1280) (n1 := 4096) ⟨64 * k.val + r.val, by omega⟩ ⟨128 * j + l.val, by omega⟩) := by
    intro r l
    rw [oC_apply, yC_apply _ _ j hj, tripFac_apply _ (fun r c => by rw [hrow r]; exact hz _ c), hrow,
      colC_read arg9 X_arg9 j hj l ⟨128 * j + l.val, by omega⟩ rfl, colC_read arg10 X_arg10 j hj l ⟨128 * j + l.val, by omega⟩ rfl,
      colC_read arg11 X_arg11 j hj l ⟨128 * j + l.val, by omega⟩ rfl, colC_read arg12 X_arg12 j hj l ⟨128 * j + l.val, by omega⟩ rfl,
      colC_read arg13 X_arg13 j hj l ⟨128 * j + l.val, by omega⟩ rfl]
    rfl
  exact (congrArg _ (show x = ix2 (n0 := 64) (n1 := 128) (x 0) (x 1) from eq_ix2 x)).trans (key (x 0) (x 1))

theorem tripC_cover (𝒱 : Variants) (c : Dev nD) (bd : Option 𝒱.V) (arg1 : Memref sig .tc .vmem S1280x1024 .i8) (harg1 : arg1.IsWhole) (arg2 : Memref sig .tc .vmem S1024x4096 .i8) (harg2 : arg2.IsWhole) (harg3 : arg3.IsWhole) (arg4 : Memref sig .tc .vmem S1x4096 .i32) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (arg16 : Memref sig .tc .vmem S1024x4096 .bf16) (harg16 : arg16.IsWhole) (y : S1280x4096.Idx) (h : 64 * k.val ≤ (y 0).val ∧ (y 0).val < 64 * k.val + 64) :
    ∃ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15).1, y ∈ p.1.set := by
  have h1 : (y 1).val < 4096 := (y 1).isLt
  refine ⟨_, (tripC_mem k i k0_h2 arg3 arg5 arg6 arg7 arg8 arg9 arg10 arg11 arg12 arg13 arg14 arg15 X_arg3 X_arg5 X_arg6 X_arg7 X_arg8 X_arg9 X_arg10 X_arg11 X_arg12 X_arg13 f14 f15 𝒱 c bd arg1 harg1 arg2 harg2 harg3 arg4 harg4 harg5 harg6 harg7 harg8 harg9 harg10 harg11 harg12 harg13 harg14 harg15 arg16 harg16 _).2 ⟨(y 1).val / 128, by omega, rfl⟩, ?_⟩
  rw [mem_rectC k _ (by omega)]
  exact ⟨h, by omega, by omega⟩

theorem tripC_off (𝒱 : Variants) (c : Dev nD) (bd : Option 𝒱.V) (arg1 : Memref sig .tc .vmem S1280x1024 .i8) (harg1 : arg1.IsWhole) (arg2 : Memref sig .tc .vmem S1024x4096 .i8) (harg2 : arg2.IsWhole) (harg3 : arg3.IsWhole) (arg4 : Memref sig .tc .vmem S1x4096 .i32) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (arg16 : Memref sig .tc .vmem S1024x4096 .bf16) (harg16 : arg16.IsWhole) (y : S1280x4096.Idx) (h : ¬(64 * k.val ≤ (y 0).val ∧ (y 0).val < 64 * k.val + 64)) :
    (∀ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15).1, y ∉ p.1.set) ∧ (∀ p ∈ (tripL_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 k f14 f15).2, y ∉ p.1.set) := by
  constructor
  · intro p hp
    obtain ⟨j, hj, rfl⟩ := (tripC_mem k i k0_h2 arg3 arg5 arg6 arg7 arg8 arg9 arg10 arg11 arg12 arg13 arg14 arg15 X_arg3 X_arg5 X_arg6 X_arg7 X_arg8 X_arg9 X_arg10 X_arg11 X_arg12 X_arg13 f14 f15 𝒱 c bd arg1 harg1 arg2 harg2 harg3 arg4 harg4 harg5 harg6 harg7 harg8 harg9 harg10 harg11 harg12 harg13 harg14 harg15 arg16 harg16 p).1 hp
    rw [mem_rectC k j hj]
    exact fun h' => h h'.1
  · intro p hp
    rw [tripL_eq] at hp
    obtain ⟨j, hj, e⟩ := mem_pyC (F := Ideal) arg15.view k _ _ 32 le_rfl p hp
    rw [e, mem_rectC k j hj]
    exact fun h' => h h'.1

/-- The loop's first `n` trips leave the later rows of the accumulator as they were, and cover the earlier rows of the output
    with the rows' results. -/
theorem loopC_read (𝒱 : Variants) (c : Dev nD) (bd : Option 𝒱.V) (arg1 : Memref sig .tc .vmem S1280x1024 .i8) (harg1 : arg1.IsWhole) (arg2 : Memref sig .tc .vmem S1024x4096 .i8) (harg2 : arg2.IsWhole) (harg3 : arg3.IsWhole) (arg4 : Memref sig .tc .vmem S1x4096 .i32) (harg4 : arg4.IsWhole) (harg5 : arg5.IsWhole) (harg6 : arg6.IsWhole) (harg7 : arg7.IsWhole) (harg8 : arg8.IsWhole) (harg9 : arg9.IsWhole) (harg10 : arg10.IsWhole) (harg11 : arg11.IsWhole) (harg12 : arg12.IsWhole) (harg13 : arg13.IsWhole) (harg14 : arg14.IsWhole) (harg15 : arg15.IsWhole) (arg16 : Memref sig .tc .vmem S1024x4096 .bf16) (harg16 : arg16.IsWhole) (G14 : BufTy.Contents (Elt Ideal) arg14.view.ty) (G15 : BufTy.Contents (Elt Ideal) arg15.view.ty)
    (hacc : ∀ y, arg15.view.read (Elt Ideal) G15 y = acc y) (hz : ∀ r c, -1073750000 ≤ (zR acc (arg5.view.read (Elt Ideal) X_arg5) (arg6.view.read (Elt Ideal) X_arg6) (arg7.view.read (Elt Ideal) X_arg7) (arg8.view.read (Elt Ideal) X_arg8) (arg3.view.read (Elt Ideal) X_arg3) r c).toInt ∧ (zR acc (arg5.view.read (Elt Ideal) X_arg5) (arg6.view.read (Elt Ideal) X_arg6) (arg7.view.read (Elt Ideal) X_arg7) (arg8.view.read (Elt Ideal) X_arg8) (arg3.view.read (Elt Ideal) X_arg3) r c).toInt ≤ 1073750000) (n : ℕ) (hn : n ≤ 20) :
    (∀ y : S1280x4096.Idx, 64 * n ≤ (y 0).val → arg15.view.read (Elt Ideal) (arg15.view.writes (Elt Ideal) G15 (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14 G15 n).2) y = acc y)
    ∧ (∀ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14 G15 n).1, ∀ x : p.1.shape.Idx, p.2 x = oR acc (arg5.view.read (Elt Ideal) X_arg5) (arg6.view.read (Elt Ideal) X_arg6) (arg7.view.read (Elt Ideal) X_arg7) (arg8.view.read (Elt Ideal) X_arg8) (arg3.view.read (Elt Ideal) X_arg3) (arg9.view.read (Elt Ideal) X_arg9) (arg10.view.read (Elt Ideal) X_arg10) (arg11.view.read (Elt Ideal) X_arg11) (arg12.view.read (Elt Ideal) X_arg12) (arg13.view.read (Elt Ideal) X_arg13) (p.1.emb x))
    ∧ (∀ y : S1280x4096.Idx, (y 0).val < 64 * n → ∃ p ∈ (pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14 G15 n).1, y ∈ p.1.set) := by
  induction n with
  | zero => exact ⟨fun y _ => hacc y, fun p hp => absurd hp List.not_mem_nil, fun y h => by omega⟩
  | succ n ih =>
    obtain ⟨i1, i2, i3⟩ := ih (by omega)
    have e := pb_k0_t2_succ (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14 G15 ⟨n, hn⟩
    rw [show pb_k0_t2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 X_arg3 X_arg5 X_arg6 X_arg7 X_arg8 X_arg9 X_arg10 X_arg11 X_arg12 X_arg13 G14 G15 (n + 1) = _ from e]
    refine ⟨fun y hy => ?_, fun p hp => ?_, fun y hy => ?_⟩
    · show arg15.view.read (Elt Ideal) (arg15.view.writes (Elt Ideal) G15 (_ ++ _)) y = _
      rw [View.writes_append]
      refine (View.read_writes_apply_of_forall_not_mem (Val := Elt Ideal) arg15.view _ y _ ?_).trans (i1 y (by omega))
      exact (tripC_off ⟨n, hn⟩ i k0_h2 arg3 arg5 arg6 arg7 arg8 arg9 arg10 arg11 arg12 arg13 arg14 arg15 X_arg3 X_arg5 X_arg6 X_arg7 X_arg8 X_arg9 X_arg10 X_arg11 X_arg12 X_arg13 _ _ 𝒱 c bd arg1 harg1 arg2 harg2 harg3 arg4 harg4 harg5 harg6 harg7 harg8 harg9 harg10 harg11 harg12 harg13 harg14 harg15 arg16 harg16 y (by show ¬(64 * n ≤ _ ∧ _ < 64 * n + 64); omega)).2
    · rcases List.mem_append.1 hp with hp | hp
      · exact tripC_val ⟨n, hn⟩ i k0_h2 arg3 arg5 arg6 arg7 arg8 arg9 arg10 arg11 arg12 arg13 arg14 arg15 X_arg3 X_arg5 X_arg6 X_arg7 X_arg8 X_arg9 X_arg10 X_arg11 X_arg12 X_arg13 _ _ acc hz 𝒱 c bd arg1 harg1 arg2 harg2 harg3 arg4 harg4 harg5 harg6 harg7 harg8 harg9 harg10 harg11 harg12 harg13 harg14 harg15 arg16 harg16 (fun r c h _ => i1 (ix2 r c) h) p hp
      · exact i2 p hp
    · by_cases h : (y 0).val < 64 * n
      · obtain ⟨p, hp, hy'⟩ := i3 y h
        exact ⟨p, List.mem_append.2 (Or.inr hp), hy'⟩
      · obtain ⟨p, hp, hy'⟩ := tripC_cover ⟨n, hn⟩ i k0_h2 arg3 arg5 arg6 arg7 arg8 arg9 arg10 arg11 arg12 arg13 arg14 arg15 X_arg3 X_arg5 X_arg6 X_arg7 X_arg8 X_arg9 X_arg10 X_arg11 X_arg12 X_arg13 _ _ 𝒱 c bd arg1 harg1 arg2 harg2 harg3 arg4 harg4 harg5 harg6 harg7 harg8 harg9 harg10 harg11 harg12 harg13 harg14 harg15 arg16 harg16 y (by show 64 * n ≤ _ ∧ _ < 64 * n + 64; omega)
        exact ⟨p, List.mem_append.2 (Or.inl hp), hy'⟩

end Cert.KernelBIdeal.Gen

end
-- ==== Proof.BIdealPoint.lean ====
/-
  Hand-written, untrusted. What each point of the grid of `KernelBIdeal` leaves, entry by entry: the first point starts the
  accumulator at the bias, every point adds its partial dot products, the last point writes the rows' integer LayerNorm.
-/
module

public import proofs.«01_k».proof.Proof.BIdealValue
public import proofs.«01_k».proof.Proof.BIdealLoopC

@[expose] public section

set_option maxRecDepth 65536

noncomputable section

open scoped BigOperators

namespace Cert.KernelBIdeal.Gen

open Idealize.ShloMosaic Idealize.ShloMosaic.TcCoe Idealize.SL Idealize.SL.Sem Cert.Proof.Words

theorem pay2_apply (x1 : Vec Ideal S1024x4096 .i8) (i : S1024x4096.Idx) : k0_pay2 (F := Ideal) x1 i = (((x1 i : BitVec 8).toInt : ℝ) : EReal) := by
  unfold k0_pay2
  exact congrFun (shapeCast_self _ _) i

theorem pay1_apply (x3 : Vec Ideal S1x4096 .i32) (y : S1280x4096.Idx) : k0_pay1 (F := Ideal) x3 y = x3 (ix2 0 (y 1)) := by
  rw [show y = ix2 (n0 := 1280) (n1 := 4096) (y 0) (y 1) from eq_ix2 y]
  unfold k0_pay1
  pointwise

/-- A memref written whole reads as what was written. -/
theorem read_whole {s : Shape} {e : EltTy} (v : View sig .tc .vmem s e) (f : v.ty.Contents (Elt Ideal)) (r : Rect s) (w : r.shape.Idx → Elt Ideal e) (G : s.Idx → Elt Ideal e)
    (hw : ∀ x, w x = G (r.emb x)) (i : s.Idx) (hi : i ∈ r.set) : v.read (Elt Ideal) (v.writes (Elt Ideal) f [⟨r, w⟩]) i = G i :=
  View.read_writes_apply_of_pieces (Val := Elt Ideal) v f G _ (fun p hp => by
    obtain rfl := List.mem_singleton.1 hp
    exact hw) i ⟨_, List.mem_singleton.2 rfl, hi⟩

theorem w16_A (c : Dev nD) (arg2 : Memref sig .tc .vmem S1024x4096 .i8) (harg2 : arg2.IsWhole) (arg16 : Memref sig .tc .vmem S1024x4096 .bf16) (x1 : Vec Ideal S1024x4096 .i8) (i : S1024x4096.Idx) :
    arg16.view.read (Elt Ideal) (arg16.view.writes (Elt Ideal) arg16.view.junk (kernelRun0_A.sl.HS1_1 c arg2 harg2 x1)) i = (((x1 i : BitVec 8).toInt : ℝ) : EReal) := by
  have h0 : (i 0).val < 1024 := (i 0).isLt
  have h1 : (i 1).val < 4096 := (i 1).isLt
  refine read_whole arg16.view _ _ _ (fun i => (((x1 i : BitVec 8).toInt : ℝ) : EReal)) (fun x => ?_) i (Rect.mem_set_unit.2 (Fin.forall_fin_two.2 ⟨⟨Nat.zero_le _, by show (i 0).val < 0 + 1024; omega⟩, ⟨Nat.zero_le _, by show (i 1).val < 0 + 4096; omega⟩⟩))
  refine (pay2_apply _ x).trans ?_
  show ((((arg2.view.read (Elt Ideal) (harg2.unread x1) _ : BitVec 8)).toInt : ℝ) : EReal) = _
  rw [harg2.read_unread x1]
  rfl

theorem w16_B (c : Dev nD) (arg2 : Memref sig .tc .vmem S1024x4096 .i8) (harg2 : arg2.IsWhole) (arg16 : Memref sig .tc .vmem S1024x4096 .bf16) (x1 : Vec Ideal S1024x4096 .i8) (i : S1024x4096.Idx) :
    arg16.view.read (Elt Ideal) (arg16.view.writes (Elt Ideal) arg16.view.junk (kernelRun0_B.sl.HS1_1 c arg2 harg2 x1)) i = (((x1 i : BitVec 8).toInt : ℝ) : EReal) := by
  have h0 : (i 0).val < 1024 := (i 0).isLt
  have h1 : (i 1).val < 4096 := (i 1).isLt
  refine read_whole arg16.view _ _ _ (fun i => (((x1 i : BitVec 8).toInt : ℝ) : EReal)) (fun x => ?_) i (Rect.mem_set_unit.2 (Fin.forall_fin_two.2 ⟨⟨Nat.zero_le _, by show (i 0).val < 0 + 1024; omega⟩, ⟨Nat.zero_le _, by show (i 1).val < 0 + 4096; omega⟩⟩))
  refine (pay2_apply _ x).trans ?_
  show ((((arg2.view.read (Elt Ideal) (harg2.unread x1) _ : BitVec 8)).toInt : ℝ) : EReal) = _
  rw [harg2.read_unread x1]
  rfl

theorem w16_C (c : Dev nD) (arg2 : Memref sig .tc .vmem S1024x4096 .i8) (harg2 : arg2.IsWhole) (arg16 : Memref sig .tc .vmem S1024x4096 .bf16) (x1 : Vec Ideal S1024x4096 .i8) (i : S1024x4096.Idx) :
    arg16.view.read (Elt Ideal) (arg16.view.writes (Elt Ideal) arg16.view.junk (kernelRun0_C.sl.HS1_1 c arg2 harg2 x1)) i = (((x1 i : BitVec 8).toInt : ℝ) : EReal) := by
  have h0 : (i 0).val < 1024 := (i 0).isLt
  have h1 : (i 1).val < 4096 := (i 1).isLt
  refine read_whole arg16.view _ _ _ (fun i => (((x1 i : BitVec 8).toInt : ℝ) : EReal)) (fun x => ?_) i (Rect.mem_set_unit.2 (Fin.forall_fin_two.2 ⟨⟨Nat.zero_le _, by show (i 0).val < 0 + 1024; omega⟩, ⟨Nat.zero_le _, by show (i 1).val < 0 + 4096; omega⟩⟩))
  refine (pay2_apply _ x).trans ?_
  show ((((arg2.view.read (Elt Ideal) (harg2.unread x1) _ : BitVec 8)).toInt : ℝ) : EReal) = _
  rw [harg2.read_unread x1]
  rfl

theorem soutA_apply (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : cond0_0 i) (hc1 : ¬cond0_1 i)
    (x0 : Vec Ideal S1280x1024 .i8) (x1 : Vec Ideal S1024x4096 .i8) (x2 : Vec Ideal S1280x4096 .i8) (x3 : Vec Ideal S1x4096 .i32) (x4 : Vec Ideal S1x4096 .i32) (x5 : Vec Ideal S1x4096 .i32) (x6 : Vec Ideal S1x4096 .i32) (x7 : Vec Ideal S1x4096 .i32) (x8 : Vec Ideal S1x4096 .i32) (x9 : Vec Ideal S1x4096 .i32) (x10 : Vec Ideal S1x4096 .i32) (x11 : Vec Ideal S1x4096 .i32) (x12 : Vec Ideal S1x4096 .i32) (y : S1280x4096.Idx) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 y = IntOp.addi (x3 (ix2 0 (y 1))) (dotD x0 x1 y) := by
  have cov := scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 y
  unfold sout0_A_0
  rw [View.read_writes_apply_eq (Val := Elt Ideal) VS0_0 VS0_0.junk arg15.view arg15.view.junk y _ cov]
  have hL : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12).2.1 = ((pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (arg16.view.writes (Elt Ideal) arg16.view.junk (kernelRun0_A.sl.HS1_1 c arg2 harg2 x1)) (arg15.view.writes (Elt Ideal) arg15.view.junk (kernelRun0_A.sl.HS0_1 c arg4 harg4 x3)) 5) ++ kernelRun0_A.sl.HS0_1 c arg4 harg4 x3) := by
    unfold kernelRun0_A
    rfl
  rw [hL]
  rw [View.writes_append]
  have key := loopM_read arg1 arg15 arg16 (harg1.unread x0) (arg16.view.writes (Elt Ideal) arg16.view.junk (kernelRun0_A.sl.HS1_1 c arg2 harg2 x1)) x0 x1 (harg1.read_unread x0) (w16_A c arg2 harg2 arg16 x1)
    Variants.none c none i harg1 arg2 harg2 arg3 harg3 arg4 harg4 arg5 harg5 arg6 harg6 arg7 harg7 arg8 harg8 arg9 harg9 arg10 harg10 arg11 harg11 arg12 harg12 arg13 harg13 arg14 harg14 harg15 harg16 (arg15.view.writes (Elt Ideal) arg15.view.junk (kernelRun0_A.sl.HS0_1 c arg4 harg4 x3)) 5 le_rfl y
  rw [key, if_pos (show (y 0).val < 256 * 5 from (y 0).isLt)]
  refine congrArg (fun a => IntOp.addi a (dotD x0 x1 y)) ?_
  have h0 : (y 0).val < 1280 := (y 0).isLt
  have h1 : (y 1).val < 4096 := (y 1).isLt
  refine read_whole arg15.view _ _ _ (fun y => x3 (ix2 0 (y 1))) (fun x => ?_) y (Rect.mem_set_unit.2 (Fin.forall_fin_two.2 ⟨⟨Nat.zero_le _, by show (y 0).val < 0 + 1280; omega⟩, ⟨Nat.zero_le _, by show (y 1).val < 0 + 4096; omega⟩⟩))
  refine (pay1_apply _ x).trans ?_
  show arg4.view.read (Elt Ideal) (harg4.unread x3) _ = _
  rw [harg4.read_unread x3]
  refine congrArg x3 ?_
  funext a
  revert a
  exact Fin.forall_fin_two.2 ⟨rfl, Fin.ext rfl⟩

theorem soutB_apply (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : ¬cond0_1 i)
    (x0 : Vec Ideal S1280x1024 .i8) (x1 : Vec Ideal S1024x4096 .i8) (x2 : Vec Ideal S1280x4096 .i8) (x3 : Vec Ideal S1x4096 .i32) (x4 : Vec Ideal S1x4096 .i32) (x5 : Vec Ideal S1x4096 .i32) (x6 : Vec Ideal S1x4096 .i32) (x7 : Vec Ideal S1x4096 .i32) (x8 : Vec Ideal S1x4096 .i32) (x9 : Vec Ideal S1x4096 .i32) (x10 : Vec Ideal S1x4096 .i32) (x11 : Vec Ideal S1x4096 .i32) (x12 : Vec Ideal S1x4096 .i32) (xs0 : Vec Ideal S1280x4096 .i32) (y : S1280x4096.Idx) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 y = IntOp.addi (xs0 y) (dotD x0 x1 y) := by
  have cov := scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 y
  unfold sout0_B_0
  rw [View.read_writes_apply_eq (Val := Elt Ideal) VS0_0 VS0_0.junk arg15.view (harg15.unread xs0) y _ cov]
  have hL : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).2.1 = (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (arg16.view.writes (Elt Ideal) arg16.view.junk (kernelRun0_B.sl.HS1_1 c arg2 harg2 x1)) (harg15.unread xs0) 5) := by
    unfold kernelRun0_B
    rfl
  rw [hL]
  have key := loopM_read arg1 arg15 arg16 (harg1.unread x0) (arg16.view.writes (Elt Ideal) arg16.view.junk (kernelRun0_B.sl.HS1_1 c arg2 harg2 x1)) x0 x1 (harg1.read_unread x0) (w16_B c arg2 harg2 arg16 x1)
    Variants.none c none i harg1 arg2 harg2 arg3 harg3 arg4 harg4 arg5 harg5 arg6 harg6 arg7 harg7 arg8 harg8 arg9 harg9 arg10 harg10 arg11 harg11 arg12 harg12 arg13 harg13 arg14 harg14 harg15 harg16 (harg15.unread xs0) 5 le_rfl y
  rw [key, if_pos (show (y 0).val < 256 * 5 from (y 0).isLt)]
  rw [harg15.read_unread xs0]

theorem outC_apply (c : Dev nD) (i : grid0.Coords) (arg1 : Memref sig .tc .vmem S1280x1024 .i8) (harg1 : arg1.IsWhole) (arg2 : Memref sig .tc .vmem S1024x4096 .i8) (harg2 : arg2.IsWhole) (arg3 : Memref sig .tc .vmem S1280x4096 .i8) (harg3 : arg3.IsWhole) (arg4 : Memref sig .tc .vmem S1x4096 .i32) (harg4 : arg4.IsWhole) (arg5 : Memref sig .tc .vmem S1x4096 .i32) (harg5 : arg5.IsWhole) (arg6 : Memref sig .tc .vmem S1x4096 .i32) (harg6 : arg6.IsWhole) (arg7 : Memref sig .tc .vmem S1x4096 .i32) (harg7 : arg7.IsWhole) (arg8 : Memref sig .tc .vmem S1x4096 .i32) (harg8 : arg8.IsWhole) (arg9 : Memref sig .tc .vmem S1x4096 .i32) (harg9 : arg9.IsWhole) (arg10 : Memref sig .tc .vmem S1x4096 .i32) (harg10 : arg10.IsWhole) (arg11 : Memref sig .tc .vmem S1x4096 .i32) (harg11 : arg11.IsWhole) (arg12 : Memref sig .tc .vmem S1x4096 .i32) (harg12 : arg12.IsWhole) (arg13 : Memref sig .tc .vmem S1x4096 .i32) (harg13 : arg13.IsWhole) (arg14 : Memref sig .tc .vmem S1280x4096 .i8) (harg14 : arg14.IsWhole) (arg15 : Memref sig .tc .vmem S1280x4096 .i32) (harg15 : arg15.IsWhole) (arg16 : Memref sig .tc .vmem S1024x4096 .bf16) (harg16 : arg16.IsWhole) (hc0 : ¬cond0_0 i) (hc1 : cond0_1 i)
    (x0 : Vec Ideal S1280x1024 .i8) (x1 : Vec Ideal S1024x4096 .i8) (x2 : Vec Ideal S1280x4096 .i8) (x3 : Vec Ideal S1x4096 .i32) (x4 : Vec Ideal S1x4096 .i32) (x5 : Vec Ideal S1x4096 .i32) (x6 : Vec Ideal S1x4096 .i32) (x7 : Vec Ideal S1x4096 .i32) (x8 : Vec Ideal S1x4096 .i32) (x9 : Vec Ideal S1x4096 .i32) (x10 : Vec Ideal S1x4096 .i32) (x11 : Vec Ideal S1x4096 .i32) (x12 : Vec Ideal S1x4096 .i32) (xs0 : Vec Ideal S1280x4096 .i32)
    (hz : ∀ r col, -1073750000 ≤ (zR (fun y => IntOp.addi (xs0 y) (dotD x0 x1 y)) x4 x5 x6 x7 x2 r col).toInt ∧ (zR (fun y => IntOp.addi (xs0 y) (dotD x0 x1 y)) x4 x5 x6 x7 x2 r col).toInt ≤ 1073750000) (y : S1280x4096.Idx) :
    out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 y = oR (fun y => IntOp.addi (xs0 y) (dotD x0 x1 y)) x4 x5 x6 x7 x2 x8 x9 x10 x11 x12 y := by
  have cov := cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0 y
  unfold out0_C_13
  have hL : (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 hc1 x0 x1 x2 x3 x4 x5 x6 x7 x8 x9 x10 x11 x12 xs0).1 = (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 (harg3.unread x2) (harg5.unread x4) (harg6.unread x5) (harg7.unread x6) (harg8.unread x7) (harg9.unread x8) (harg10.unread x9) (harg11.unread x10) (harg12.unread x11) (harg13.unread x12) arg14.view.junk (arg15.view.writes (Elt Ideal) (harg15.unread xs0) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (arg16.view.writes (Elt Ideal) arg16.view.junk (kernelRun0_C.sl.HS1_1 c arg2 harg2 x1)) (harg15.unread xs0) 5)) 20).1 := by
    unfold kernelRun0_C
    rfl
  rw [hL] at cov ⊢
  have hM : ∀ y, arg15.view.read (Elt Ideal) (arg15.view.writes (Elt Ideal) (harg15.unread xs0) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (arg16.view.writes (Elt Ideal) arg16.view.junk (kernelRun0_C.sl.HS1_1 c arg2 harg2 x1)) (harg15.unread xs0) 5)) y = (fun y => IntOp.addi (xs0 y) (dotD x0 x1 y)) y := fun y => by
    have key := loopM_read arg1 arg15 arg16 (harg1.unread x0) (arg16.view.writes (Elt Ideal) arg16.view.junk (kernelRun0_C.sl.HS1_1 c arg2 harg2 x1)) x0 x1 (harg1.read_unread x0) (w16_C c arg2 harg2 arg16 x1)
      Variants.none c none i harg1 arg2 harg2 arg3 harg3 arg4 harg4 arg5 harg5 arg6 harg6 arg7 harg7 arg8 harg8 arg9 harg9 arg10 harg10 arg11 harg11 arg12 harg12 arg13 harg13 arg14 harg14 harg15 harg16 (harg15.unread xs0) 5 le_rfl y
    rw [key, if_pos (show (y 0).val < 256 * 5 from (y 0).isLt), harg15.read_unread xs0]
  have key := (loopC_read i hc1 arg3 arg5 arg6 arg7 arg8 arg9 arg10 arg11 arg12 arg13 arg14 arg15 (harg3.unread x2) (harg5.unread x4) (harg6.unread x5) (harg7.unread x6) (harg8.unread x7) (harg9.unread x8) (harg10.unread x9) (harg11.unread x10) (harg12.unread x11) (harg13.unread x12) (fun y => IntOp.addi (xs0 y) (dotD x0 x1 y))
    Variants.none c none arg1 harg1 arg2 harg2 harg3 arg4 harg4 harg5 harg6 harg7 harg8 harg9 harg10 harg11 harg12 harg13 harg14 harg15 arg16 harg16 arg14.view.junk (arg15.view.writes (Elt Ideal) (harg15.unread xs0) (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (harg1.unread x0) (arg16.view.writes (Elt Ideal) arg16.view.junk (kernelRun0_C.sl.HS1_1 c arg2 harg2 x1)) (harg15.unread xs0) 5)) hM (by
      rw [harg3.read_unread, harg5.read_unread, harg6.read_unread, harg7.read_unread, harg8.read_unread]; exact hz) 20 le_rfl).2.1
  rw [harg3.read_unread, harg5.read_unread, harg6.read_unread, harg7.read_unread, harg8.read_unread, harg9.read_unread, harg10.read_unread, harg11.read_unread, harg12.read_unread, harg13.read_unread] at key
  exact View.read_writes_apply_of_pieces (Val := Elt Ideal) (e := .i8) VO0_13 VO0_13.junk (oR (fun y => IntOp.addi (xs0 y) (dotD x0 x1 y)) x4 x5 x6 x7 x2 x8 x9 x10 x11 x12) _ key y cov

end Cert.KernelBIdeal.Gen

end
-- ==== Proof.LnSpec.lean ====
/-
  Hand-written, untrusted. The second kernel's result, element by element, from its arguments: the dot product with the bias
  and the residual, the row's integer LayerNorm, the final requantisation.
-/
module

public import proofs.«01_k».proof.Proof.LnWords
public import Idealize.ShloMosaic.Lib.Pipeline.Value
public import Idealize.ShloMosaic.Lib.Pointwise

@[expose] public section

noncomputable section

open scoped BigOperators

namespace Cert.Proof.Ffn2

open Idealize.ShloMosaic Idealize.ShloMosaic.Pipeline Cert.Proof.Words

/-- The dot product of row `r` and column `c`, with the bias. -/
def accOf (H : Vec Ideal ⟨2, ![1280, 16384]⟩ .i8) (W : Vec Ideal ⟨2, ![16384, 4096]⟩ .i8) (B : Vec Ideal ⟨1, ![4096]⟩ .i32) (r : Fin 1280) (c : Fin 4096) : BitVec 32 :=
  IntOp.addi (B (ix1 c)) (BitVec.ofInt 32 (∑ k : Fin 16384, (H (ix2 r k) : BitVec 8).toInt * (W (ix2 k c) : BitVec 8).toInt))

/-- The element of row `r` and column `c` before the LayerNorm. -/
def zOf (H : Vec Ideal ⟨2, ![1280, 16384]⟩ .i8) (W : Vec Ideal ⟨2, ![16384, 4096]⟩ .i8) (X : Vec Ideal ⟨2, ![1280, 4096]⟩ .i8) (B M K : Vec Ideal ⟨1, ![4096]⟩ .i32)
    (r : Fin 1280) (c : Fin 4096) : BitVec 32 :=
  zW (accOf H W B r c) (M (ix1 c)) (IntOp.minsi (K (ix1 c)) 15#32) (IntOp.shli .vector 1#32 (IntOp.subi (K (ix1 c)) 1#32))
    (IntOp.subi (K (ix1 c)) (IntOp.minsi (K (ix1 c)) 15#32)) (X (ix2 r c))

/-- The element of the result at `i`. -/
def lnOf (H : Vec Ideal ⟨2, ![1280, 16384]⟩ .i8) (W : Vec Ideal ⟨2, ![16384, 4096]⟩ .i8) (X : Vec Ideal ⟨2, ![1280, 4096]⟩ .i8) (B M K MG KG BQ : Vec Ideal ⟨1, ![4096]⟩ .i32)
    (i : Shape.Idx ⟨2, ![1280, 4096]⟩) : BitVec 8 :=
  outW (rowY (zOf H W X B M K (i 0)) (i 1)) (rowFac (zOf H W X B M K (i 0))) (MG (ix1 (i 1))) (IntOp.minsi (KG (ix1 (i 1))) 15#32)
    (IntOp.shli .vector 1#32 (IntOp.subi (KG (ix1 (i 1))) 1#32)) (IntOp.subi (KG (ix1 (i 1))) (IntOp.minsi (KG (ix1 (i 1))) 15#32)) (BQ (ix1 (i 1)))

/-- Equal arguments have equal results. -/
theorem lnOf_congr {H H' : Vec Ideal ⟨2, ![1280, 16384]⟩ .i8} {W W' : Vec Ideal ⟨2, ![16384, 4096]⟩ .i8} {X X' : Vec Ideal ⟨2, ![1280, 4096]⟩ .i8}
    {B B' M M' K K' MG MG' KG KG' BQ BQ' : Vec Ideal ⟨1, ![4096]⟩ .i32} (hH : H' = H) (hW : W' = W) (hX : X' = X) (hB : B' = B) (hM : M' = M) (hK : K' = K)
    (hMG : MG' = MG) (hKG : KG' = KG) (hBQ : BQ' = BQ) : (fun i => lnOf H' W' X' B' M' K' MG' KG' BQ' i) = fun i => lnOf H W X B M K MG KG BQ i := by
  subst hH hW hX hB hM hK hMG hKG hBQ
  rfl

/-- The product's term of a natural index; nothing beyond the contraction. -/
def term (H : Vec Ideal ⟨2, ![1280, 16384]⟩ .i8) (W : Vec Ideal ⟨2, ![16384, 4096]⟩ .i8) (r : Fin 1280) (c : Fin 4096) (j : ℕ) : ℤ :=
  if h : j < 16384 then (H (ix2 r ⟨j, h⟩) : BitVec 8).toInt * (W (ix2 ⟨j, h⟩ c) : BitVec 8).toInt else 0

theorem term_of_lt (H : Vec Ideal ⟨2, ![1280, 16384]⟩ .i8) (W : Vec Ideal ⟨2, ![16384, 4096]⟩ .i8) (r : Fin 1280) (c : Fin 4096) (j : ℕ) (h : j < 16384) :
    term H W r c j = (H (ix2 r ⟨j, h⟩) : BitVec 8).toInt * (W (ix2 ⟨j, h⟩ c) : BitVec 8).toInt := dif_pos h

theorem accOf_eq (H : Vec Ideal ⟨2, ![1280, 16384]⟩ .i8) (W : Vec Ideal ⟨2, ![16384, 4096]⟩ .i8) (B : Vec Ideal ⟨1, ![4096]⟩ .i32) (r : Fin 1280) (c : Fin 4096) :
    accOf H W B r c = IntOp.addi (B (ix1 c)) (BitVec.ofInt 32 (∑ j ∈ Finset.range 16384, term H W r c j)) := by
  unfold accOf
  rw [← Fin.sum_univ_eq_sum_range (fun j => term H W r c j) 16384]
  refine congrArg (fun a => IntOp.addi (B (ix1 c)) (BitVec.ofInt 32 a)) (Finset.sum_congr rfl fun k _ => ?_)
  exact (term_of_lt H W r c k.val k.isLt).symm

/-- A partial sum and the next block's. -/
theorem acc_step (b : BitVec 32) (f : ℕ → ℤ) (n k : ℕ) :
    IntOp.addi (IntOp.addi b (BitVec.ofInt 32 (∑ j ∈ Finset.range n, f j))) (BitVec.ofInt 32 (∑ j ∈ Finset.range k, f (n + j)))
      = IntOp.addi b (BitVec.ofInt 32 (∑ j ∈ Finset.range (n + k), f j)) := by
  rw [Finset.sum_range_add, BitVec.ofInt_add]
  exact BitVec.add_assoc _ _ _

end Cert.Proof.Ffn2

end
-- ==== Proof.BIdealGrid.lean ====
/-
  Hand-written, untrusted. WHAT THE RESULT ARRAY OF THE SECOND KERNEL HOLDS after the run: the accumulator gathers the bias and
  the partial dot products point by point, and the last point writes the rows' LayerNorm of it.
-/
module

public import Idealize.ShloMosaic.Lib.KernelVsHost
public import Idealize.ShloMosaic.Lib.Pipeline.ValueKit
public import proofs.«01_k».proof.Proof.BIdealPoint
public import proofs.«01_k».proof.Proof.LnSpec

@[expose] public section

set_option maxRecDepth 65536

noncomputable section

open scoped BigOperators

namespace Cert.Proof.Ffn2

open Cert.KernelBIdeal Cert.KernelBIdeal.Gen Cert.KernelBIdeal.Value Idealize.ShloMosaic Cert.Proof.Words Idealize.ShloMosaic.TcCoe
open Idealize.ShloMosaic.Pipeline (Dat)

variable (m : (ℓ : Loc nD τ sig) → Buf (Elt Ideal) ℓ)

/-- Where each window's block sits: `h` and `w2` at block `t` of the contraction, the others whole. -/
theorem idx : ∀ t : Fin cfg0.N, win0_0.index t = ![0, t.val] ∧ win0_1.index t = ![t.val, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] :=
  (by decide +kernel : ∀ t : Fin grid0.N, _)

theorem lt16 (t : Fin cfg0.N) : t.val < 16 := lt_of_lt_of_eq t.isLt (show cfg0.N = 16 from N_0)

theorem w0 (c : Dev nD) (t : Fin cfg0.N) (r : Fin 1280) (k : Fin 1024) :
    iblk m c 0 t (ix2 r k) = m ((c : Thread nD τ).loc main_arg0) (ix2 r ⟨t.val * 1024 + k.val, by have := lt16 t; omega⟩) := by
  blk_ext! [iblk, V, idx t]
theorem w1 (c : Dev nD) (t : Fin cfg0.N) (k : Fin 1024) (j : Fin 4096) :
    iblk m c 1 t (ix2 k j) = m ((c : Thread nD τ).loc main_arg1) (ix2 ⟨t.val * 1024 + k.val, by have := lt16 t; omega⟩ j) := by
  blk_ext! [iblk, V, idx t]
theorem w2 (c : Dev nD) (t : Fin cfg0.N) (r : Fin 1280) (j : Fin 4096) : iblk m c 2 t (ix2 r j) = m ((c : Thread nD τ).loc main_arg2) (ix2 r j) := by
  blk_ext! [iblk, V, idx t]
theorem w3 (c : Dev nD) (t : Fin cfg0.N) (j : Fin 4096) : iblk m c 3 t (ix2 0 j) = m ((c : Thread nD τ).loc main_arg3) (ix1 j) := by
  blk_ext! [iblk, V, idx t]
theorem w4 (c : Dev nD) (t : Fin cfg0.N) (j : Fin 4096) : iblk m c 4 t (ix2 0 j) = m ((c : Thread nD τ).loc main_arg4) (ix1 j) := by
  blk_ext! [iblk, V, idx t]
theorem w8 (c : Dev nD) (t : Fin cfg0.N) (j : Fin 4096) : iblk m c 8 t (ix2 0 j) = m ((c : Thread nD τ).loc main_arg6) (ix1 j) := by
  blk_ext! [iblk, V, idx t]
theorem w12 (c : Dev nD) (t : Fin cfg0.N) (j : Fin 4096) : iblk m c 12 t (ix2 0 j) = m ((c : Thread nD τ).loc main_arg8) (ix1 j) := by
  blk_ext! [iblk, V, idx t]
theorem w5 (c : Dev nD) (t : Fin cfg0.N) (j : Fin 4096) : iblk m c 5 t (ix2 0 j) = IntOp.minsi (m ((c : Thread nD τ).loc main_arg5) (ix1 j)) 15#32 := by
  blk_simp [iblk]
  entry_read
  pointwise
  congr 1
  blk_ext [idx t]
theorem w6 (c : Dev nD) (t : Fin cfg0.N) (j : Fin 4096) : iblk m c 6 t (ix2 0 j) = IntOp.shli .vector 1#32 (IntOp.subi (m ((c : Thread nD τ).loc main_arg5) (ix1 j)) 1#32) := by
  blk_simp [iblk]
  entry_read
  pointwise
  show IntOp.shli .vector _ (IntOp.subi _ _) = _
  congr 2
  blk_ext [idx t]
theorem w7 (c : Dev nD) (t : Fin cfg0.N) (j : Fin 4096) : iblk m c 7 t (ix2 0 j) = IntOp.subi (m ((c : Thread nD τ).loc main_arg5) (ix1 j)) (IntOp.minsi (m ((c : Thread nD τ).loc main_arg5) (ix1 j)) 15#32) := by
  blk_simp [iblk]
  entry_read
  pointwise
  have e : ∀ a b : BitVec 32, a = b → IntOp.subi a (IntOp.minsi a 15#32) = IntOp.subi b (IntOp.minsi b 15#32) := fun a b h => by rw [h]
  refine e _ _ ?_
  blk_ext [idx t]
theorem w9 (c : Dev nD) (t : Fin cfg0.N) (j : Fin 4096) : iblk m c 9 t (ix2 0 j) = IntOp.minsi (m ((c : Thread nD τ).loc main_arg7) (ix1 j)) 15#32 := by
  blk_simp [iblk]
  entry_read
  pointwise
  congr 1
  blk_ext [idx t]
theorem w10 (c : Dev nD) (t : Fin cfg0.N) (j : Fin 4096) : iblk m c 10 t (ix2 0 j) = IntOp.shli .vector 1#32 (IntOp.subi (m ((c : Thread nD τ).loc main_arg7) (ix1 j)) 1#32) := by
  blk_simp [iblk]
  entry_read
  pointwise
  show IntOp.shli .vector _ (IntOp.subi _ _) = _
  congr 2
  blk_ext [idx t]
theorem w11 (c : Dev nD) (t : Fin cfg0.N) (j : Fin 4096) : iblk m c 11 t (ix2 0 j) = IntOp.subi (m ((c : Thread nD τ).loc main_arg7) (ix1 j)) (IntOp.minsi (m ((c : Thread nD τ).loc main_arg7) (ix1 j)) 15#32) := by
  blk_simp [iblk]
  entry_read
  pointwise
  have e : ∀ a b : BitVec 32, a = b → IntOp.subi a (IntOp.minsi a 15#32) = IntOp.subi b (IntOp.minsi b 15#32) := fun a b h => by rw [h]
  refine e _ _ ?_
  blk_ext [idx t]

/-- A point's partial dot products, of the arrays. -/
theorem dot_at (c : Dev nD) (t : Fin cfg0.N) (y : S1280x4096.Idx) :
    dotD (iblk m c 0 t) (iblk m c 1 t) y = BitVec.ofInt 32 (∑ k ∈ Finset.range 1024, term (m ((c : Thread nD τ).loc main_arg0)) (m ((c : Thread nD τ).loc main_arg1)) (y 0) (y 1) (t.val * 1024 + k)) := by
  unfold dotD
  rw [← Fin.sum_univ_eq_sum_range (fun k => term (m ((c : Thread nD τ).loc main_arg0)) (m ((c : Thread nD τ).loc main_arg1)) (y 0) (y 1) (t.val * 1024 + k)) 1024]
  refine congrArg (BitVec.ofInt 32) (Finset.sum_congr rfl fun k _ => ?_)
  refine Eq.trans ?_ (term_of_lt _ _ (y 0) (y 1) (t.val * 1024 + k.val) (by have := lt16 t; omega)).symm
  exact congrArg₂ (fun a b : BitVec 8 => a.toInt * b.toInt) (w0 m c t (y 0) k) (w1 m c t k (y 1))

/-- The accumulator after point `n`, before the last. -/
theorem acc_at (c : Dev nD) : ∀ (n : ℕ) (hn : n < cfg0.N) (_ : n < 15) (y : S1280x4096.Idx),
    (outsAt0 m c n hn).2 y = IntOp.addi ((m ((c : Thread nD τ).loc main_arg3)) (ix1 (y 1))) (BitVec.ofInt 32 (∑ j ∈ Finset.range (n * 1024 + 1024), term (m ((c : Thread nD τ).loc main_arg0)) (m ((c : Thread nD τ).loc main_arg1)) (y 0) (y 1) j))
  | 0, hn, _, y => by
    have e := outsAt0_A m c ⟨0, hn⟩ (Nat.zero_mod _) (fun h => by (try dsimp only at h); omega)
    refine ((congrArg (fun p => p.2 y) e).trans (soutA_apply c _ _ _ _ _ _ _ _ _ _ _ _ _ _ _ _ _ _ _ _ _ _ _ _ _ _ _ _ _ _ _ _ _ _ _ _ _ _ _ _ _ _ _ _ _ _ _ _ y)).trans ?_
    rw [w3 m c _ (y 1), dot_at]
    simp only [Nat.zero_mul, Nat.zero_add]
  | n + 1, hn, h15, y => by
    have e := (outsAt0_succ m c n hn).trans (stAt0_B m c ⟨n + 1, hn⟩ (outsAt0 m c n (Nat.lt_of_succ_lt hn)) (by (try dsimp only); omega) (by (try dsimp only); omega))
    refine ((congrArg (fun p => p.2 y) e).trans (soutB_apply c _ _ _ _ _ _ _ _ _ _ _ _ _ _ _ _ _ _ _ _ _ _ _ _ _ _ _ _ _ _ _ _ _ _ _ _ _ _ _ _ _ _ _ _ _ _ _ _ _ y)).trans ?_
    rw [dot_at, acc_at c n _ (by omega) y, show (n + 1) * 1024 = n * 1024 + 1024 by omega]
    exact acc_step _ _ _ _

/-- The accumulator the last point normalises. -/
theorem acc_last (c : Dev nD) (h14 : 14 < cfg0.N) (t : Fin cfg0.N) (ht : t.val = 15) (y : S1280x4096.Idx) :
    IntOp.addi ((outsAt0 m c 14 h14).2 y) (dotD (iblk m c 0 t) (iblk m c 1 t) y) = accOf (m ((c : Thread nD τ).loc main_arg0)) (m ((c : Thread nD τ).loc main_arg1)) (m ((c : Thread nD τ).loc main_arg3)) (y 0) (y 1) := by
  rw [dot_at, acc_at m c 14 h14 (by norm_num) y, ht]
  exact (acc_step _ _ (15 * 1024) 1024).trans (accOf_eq _ _ _ (y 0) (y 1)).symm

/-- A row before the LayerNorm, of the arrays. -/
theorem zR_eq (c : Dev nD) (t : Fin cfg0.N) (acc : S1280x4096.Idx → BitVec 32) (h : ∀ y, acc y = accOf (m ((c : Thread nD τ).loc main_arg0)) (m ((c : Thread nD τ).loc main_arg1)) (m ((c : Thread nD τ).loc main_arg3)) (y 0) (y 1)) (r : Fin 1280) (j : Fin 4096) :
    zR acc (iblk m c 4 t) (iblk m c 5 t) (iblk m c 6 t) (iblk m c 7 t) (iblk m c 2 t) r j = zOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r j := by
  unfold zR zOf
  rw [h, w4, w5, w6, w7, w2]
  rfl

theorem oR_eq (c : Dev nD) (t : Fin cfg0.N) (acc : S1280x4096.Idx → BitVec 32) (h : ∀ y, acc y = accOf (m ((c : Thread nD τ).loc main_arg0)) (m ((c : Thread nD τ).loc main_arg1)) (m ((c : Thread nD τ).loc main_arg3)) (y 0) (y 1)) (y : S1280x4096.Idx) :
    oR acc (iblk m c 4 t) (iblk m c 5 t) (iblk m c 6 t) (iblk m c 7 t) (iblk m c 2 t) (iblk m c 8 t) (iblk m c 9 t) (iblk m c 10 t) (iblk m c 11 t) (iblk m c 12 t) y
      = lnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) y := by
  have e : zR acc (iblk m c 4 t) (iblk m c 5 t) (iblk m c 6 t) (iblk m c 7 t) (iblk m c 2 t) (y 0) = zOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (y 0) :=
    funext fun j => zR_eq m c t acc h (y 0) j
  unfold oR lnOf
  rw [e, w8 m c t (y 1), w9 m c t (y 1), w10 m c t (y 1), w11 m c t (y 1), w12 m c t (y 1)]

/-- The result array after the run, the shifts of the first requantisation lying between 16 and 31. -/
theorem arr13 (c : Dev nD) (hk : ∀ j : Fin 4096, 16 ≤ ((m ((c : Thread nD τ).loc main_arg5)) (ix1 j) : BitVec 32).toInt ∧ ((m ((c : Thread nD τ).loc main_arg5)) (ix1 j) : BitVec 32).toInt ≤ 31) :
    (dats m 0 c).arrAt 13 cfg0.N = fun i => lnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  have h15 : 15 < cfg0.N := lt_of_lt_of_eq (by decide) N_0.symm
  have h14 : 14 < cfg0.N := lt_of_lt_of_eq (by decide) N_0.symm
  have hacc := fun y => acc_last m c h14 ⟨15, h15⟩ rfl y
  have e := (outsAt0_succ m c 14 h15).trans (stAt0_C m c ⟨15, h15⟩ (outsAt0 m c 14 h14) (show ¬15 % 16 = 0 by decide) (show 15 % 16 = 15 by decide))
  refine (final13 m c).trans ((G13_last m c).trans ((congrArg Prod.fst (outsAt0_sweep m c 15 h15).symm).trans (funext fun y => ?_)))
  refine ((congrArg (fun p => p.1 y) e).trans (outC_apply c _ _ _ _ _ _ _ _ _ _ _ _ _ _ _ _ _ _ _ _ _ _ _ _ _ _ _ _ _ _ _ _ _ _ _ _ _ _ _ _ _ _ _ _ _ _ _ _ _ (fun r j => ?_) y)).trans ?_
  · rw [zR_eq m c ⟨15, h15⟩ _ hacc r j]
    exact zW_range _ _ _ _ (hk j).1 (hk j).2
  · exact oR_eq m c ⟨15, h15⟩ _ hacc y

end Cert.Proof.Ffn2

end
-- ==== Proof.Ref2.lean ====
/-
  Hand-written, untrusted. WHAT THE SECOND REFERENCE COMPUTES: its result array, element by element, is the integer LayerNorm
  `Ffn2.lnOf` of the arguments. The square root's twenty steps are read off the body two or three at a time.
-/
module

public import proofs.«01_k».proof.Proof.Gen.ReferenceBIdeal.Value
public import Idealize.ShloMosaic.Lib.Pipeline.ValueKit
public import proofs.«01_k».proof.Proof.LnSpec
public import proofs.«01_k».proof.Proof.Words

@[expose] public section

set_option maxRecDepth 65536

noncomputable section

open scoped BigOperators

namespace Cert.Proof.Ref2

open Cert.ReferenceBIdeal Cert.ReferenceBIdeal.Gen Idealize.ShloMosaic Cert.Proof.Words Idealize.ShloMosaic.TcCoe
open Idealize.ShloMosaic.Pipeline

/-! ## The square root's steps, a column of rows at a time -/

/-- The sign. -/
def sgV (a : IVec S1280x1 32) : IVec S1280x1 32 :=
  subi (extui 32 (cmpi .sgt a (broadcast S1280x1 0#32)) natLt_1_32) (extui 32 (cmpi .slt a (broadcast S1280x1 0#32)) natLt_1_32)
/-- The signs differ. -/
def neV (a b : IVec S1280x1 32) : IVec S1280x1 1 := cmpi .ne (sgV a) (sgV b)
/-- The quotient is to be rounded down. -/
def anV (a b : IVec S1280x1 32) : IVec S1280x1 1 := andi (neV a b) (cmpi .ne (remsi a b) (broadcast S1280x1 0#32))
/-- The division rounding down. -/
def fdV (a b : IVec S1280x1 32) : IVec S1280x1 32 := select (anV a b) (subi (divsi a b) (broadcast S1280x1 1#32)) (divsi a b)
/-- One step. -/
def nwV (v s : IVec S1280x1 32) : IVec S1280x1 32 := shrsi (addi s (fdV v s)) (broadcast S1280x1 1#32)
/-- The state after `n` steps. -/
def stV (v : IVec S1280x1 32) : ℕ → IVec S1280x1 32
  | 0 => broadcast S1280x1 65536#32
  | n + 1 => nwV v (stV v n)

theorem fdV_apply (a b : IVec S1280x1 32) (i : S1280x1.Idx) : fdV a b i = fdivW (a i) (b i) := rfl

theorem nwV_apply (v s : IVec S1280x1 32) (i : S1280x1.Idx) : nwV v s i = IntOp.shrsi .vector (IntOp.addi (s i) (fdivW (v i) (s i))) 1#32 := rfl

theorem stV_apply (v : IVec S1280x1 32) (i : S1280x1.Idx) : ∀ n, stV v n i = newtW (v i) n
  | 0 => rfl
  | n + 1 => by
    show nwV v (stV v n) i = _
    rw [nwV_apply, stV_apply v i n]
    rfl

variable (v s : IVec S1280x1 32) (v80 : IVec S1280x4096 32) (v84 : IVec S1280x1 32)

theorem p11 : k0_pay11 v80 v84 = nwV (k0_pay10 v80 v84) (broadcast S1280x1 65536#32) := rfl
theorem p12 : k0_pay12 v80 v84 = divsi (k0_pay10 v80 v84) (k0_pay11 v80 v84) := rfl
theorem p13 : k0_pay13 v80 v84 = extui 32 (cmpi .sgt (k0_pay10 v80 v84) (broadcast S1280x1 0#32)) natLt_1_32 := rfl
theorem p15 : k0_pay15 v s (divsi v s) (extui 32 (cmpi .sgt v (broadcast S1280x1 0#32)) natLt_1_32) k0_pay14 = nwV v (nwV v s) := rfl
theorem p16 : k0_pay16 v s (divsi v s) (extui 32 (cmpi .sgt v (broadcast S1280x1 0#32)) natLt_1_32) k0_pay14 = divsi v (nwV v (nwV v s)) := rfl
theorem p17 : k0_pay17 v s (divsi v s) = nwV v s := rfl
theorem p18 : k0_pay18 v s (divsi v s) = divsi v (nwV v s) := rfl
theorem p19 : k0_pay19 v s (divsi v s) = anV v (nwV v s) := rfl
theorem p20 : k0_pay20 v s (divsi v s) = subi (divsi v (nwV v s)) (broadcast S1280x1 1#32) := rfl
theorem p21 : k0_pay21 v s (divsi v s) (anV v s) (subi (divsi v s) (broadcast S1280x1 1#32)) = nwV v (nwV v s) := rfl
theorem p22 : k0_pay22 v s (divsi v s) (anV v s) (subi (divsi v s) (broadcast S1280x1 1#32)) = divsi v (nwV v (nwV v s)) := rfl
theorem p23 : k0_pay23 v s (divsi v s) (anV v s) (subi (divsi v s) (broadcast S1280x1 1#32)) = neV v (nwV v (nwV v s)) := rfl
theorem p24 : k0_pay24 v s (divsi v s) (anV v s) (subi (divsi v s) (broadcast S1280x1 1#32)) = remsi v (nwV v (nwV v s)) := rfl
theorem p25 : k0_pay25 v s (divsi v s) (neV v s) (remsi v s) 0#32 = nwV v (nwV v s) := rfl
theorem p26 : k0_pay26 v s (divsi v s) (neV v s) (remsi v s) 0#32 = divsi v (nwV v (nwV v s)) := rfl
theorem p27 : k0_pay27 v = sgV v := rfl
theorem p28 : k0_pay28 v s (divsi v s) (neV v s) (remsi v s) 0#32 = extui 32 (cmpi .sgt (nwV v (nwV v s)) (broadcast S1280x1 0#32)) natLt_1_32 := rfl
theorem p30 : k0_pay30 v s (divsi v s) (sgV v) (extui 32 (cmpi .sgt s (broadcast S1280x1 0#32)) natLt_1_32) k0_pay29 = nwV v (nwV v s) := rfl
theorem p31 : k0_pay31 v s (divsi v s) (sgV v) (extui 32 (cmpi .sgt s (broadcast S1280x1 0#32)) natLt_1_32) k0_pay29 = divsi v (nwV v (nwV v s)) := rfl
theorem p32 : k0_pay32 v = sgV v := rfl
theorem p33 : k0_pay33 v s (divsi v s) (sgV v) = nwV v (nwV v s) := rfl
theorem p34 : k0_pay34 v s (divsi v s) (sgV v) = divsi v (nwV v (nwV v s)) := rfl
theorem p35 : k0_pay35 v = cmpi .sgt v (broadcast S1280x1 0#32) := rfl
theorem p36 : k0_pay36 v s (divsi v s) (cmpi .sgt v (broadcast S1280x1 0#32)) = addi (nwV v s) (fdV v (nwV v s)) := rfl
theorem p37 : k0_pay37 v (addi s (fdV v s)) 1#32 = nwV v (nwV v s) := rfl
theorem p38 : k0_pay38 v (addi s (fdV v s)) 1#32 = divsi v (nwV v (nwV v s)) := rfl
theorem p39 : k0_pay39 v (addi s (fdV v s)) 1#32 = anV v (nwV v (nwV v s)) := rfl
theorem p40 : k0_pay40 v s (divsi v s) (anV v s) = nwV v (nwV v s) := rfl
theorem p41 : k0_pay41 v s (divsi v s) (anV v s) = divsi v (nwV v (nwV v s)) := rfl
theorem p42 : k0_pay42 v = sgV v := rfl
theorem p43 : k0_pay43 v s (divsi v s) (anV v s) = sgV (nwV v (nwV v s)) := rfl
theorem p44 : k0_pay44 v s (divsi v s) (sgV v) (sgV s) = nwV v (nwV v s) := rfl
theorem p45 : k0_pay45 v s (divsi v s) (sgV v) (sgV s) = divsi v (nwV v (nwV v s)) := rfl
theorem p46 : k0_pay46 v = sgV v := rfl
theorem p47 : k0_pay47 v s (divsi v s) (sgV v) (sgV s) = cmpi .sgt (nwV v (nwV v s)) (broadcast S1280x1 0#32) := rfl

/-- The factor of a row of variance `v` and shift `sh`, the square root's last step at `s`. -/
def fcV (v s sh : IVec S1280x1 32) : IVec S1280x1 32 := fdV (broadcast S1280x1 2147483647#32) (shli (addi (nwV v s) (broadcast S1280x1 1#32)) sh)

theorem p48 (v90 : IVec S1280x1 32) : k0_pay48 v80 v90 v s (divsi v s) (sgV v) (cmpi .sgt s (broadcast S1280x1 0#32))
    = shrsi (muli v80 (broadcastTo S1280x4096 (fcV v s v90) broadcasts_S1280x1_S1280x4096)) (broadcast S1280x4096 16#32) := rfl

/-! ## The payloads, element by element -/

theorem p48_apply (v s : IVec S1280x1 32) (v80 : IVec S1280x4096 32) (v90 : IVec S1280x1 32) (r : Fin 1280) (c : Fin 4096) :
    shrsi (muli v80 (broadcastTo S1280x4096 (fcV v s v90) broadcasts_S1280x1_S1280x4096)) (broadcast S1280x4096 16#32) (ix2 r c)
      = IntOp.shrsi .vector (IntOp.muli (v80 (ix2 r c)) (fcV v s v90 (ix2 r 0))) 16#32 := by
  pointwise

/-- The element with the bias, requantised. -/
theorem pay2_apply (b mm k : Vec Ideal S1x4096 .i32) (H : Vec Ideal S1280x16384 .i8) (W : Vec Ideal S16384x4096 .i8) (r : Fin 1280) (c : Fin 4096) :
    k0_pay2 (F := Ideal) b H W mm k (ix2 r c)
      = rqk (IntOp.addi (b (ix2 0 c)) (BitVec.ofInt 32 (∑ k : Fin 16384, (H (ix2 r k) : BitVec 8).toInt * (W (ix2 k c) : BitVec 8).toInt))) (mm (ix2 0 c)) (k (ix2 0 c)) := by
  rw [← dot_fptosi (by norm_num)]
  pointwise [k0_pay2]
  rfl

/-- The final requantisation. -/
theorem pay1_apply (mm k b : IVec S1x4096 32) (n : IVec S1280x4096 32) (r : Fin 1280) (c : Fin 4096) :
    k0_pay1 mm k b n (ix2 r c)
      = (IntOp.minsi 127#32 (IntOp.maxsi 4294967169#32 (IntOp.addi (rqk (n (ix2 r c)) (mm (ix2 0 c)) (k (ix2 0 c))) (b (ix2 0 c))))).setWidth 8 := by
  pointwise [k0_pay1]
  rfl

/-- The row's elements less their mean. -/
theorem pay7_apply (a x : IVec S1280x4096 32) (r : Fin 1280) (c : Fin 4096) :
    k0_pay7 a x (ix2 r c) = rowY (fun c => IntOp.addi (a (ix2 r c)) (IntOp.shli .vector (x (ix2 r c)) 4#32)) c := by
  unfold rowY rowMu
  rw [← fdivW_4096]
  pointwise [k0_pay7]
  rfl

/-- The leading zeros of the row's greatest magnitude. -/
theorem pay8_apply (a x : IVec S1280x4096 32) (z : Fin 4096 → BitVec 32) (r : Fin 1280) (h : ∀ c, k0_pay7 a x (ix2 r c) = rowY z c) :
    k0_pay8 a x (ix2 r 0) = IntOp.ctlz (rowTop z) := by
  unfold rowTop
  simp only [← h]
  pointwise [k0_pay8]

theorem pay9_apply (l : IVec S1280x1 32) (r : Fin 1280) (top : BitVec 32) (h : l (ix2 r 0) = IntOp.ctlz top) : k0_pay9 l (ix2 r 0) = shW top := by
  unfold shW
  rw [maxsi_comm, ← h]
  rfl

/-- The row's variance. -/
theorem pay10_apply (y : IVec S1280x4096 32) (l : IVec S1280x1 32) (z : Fin 4096 → BitVec 32) (r : Fin 1280) (h : ∀ c, y (ix2 r c) = rowY z c)
    (h9 : k0_pay9 l (ix2 r 0) = rowSh z) : k0_pay10 y l (ix2 r 0) = rowVar z := by
  unfold rowVar sqW
  simp only [← h, ← h9]
  pointwise [k0_pay10]
  rfl

/-! ## The named values of the body -/

variable (x0 : Vec Ideal S1280x16384 .i8) (x1 : Vec Ideal S16384x4096 .i8) (x2 : Vec Ideal S1280x4096 .i8) (x3 x4 x5 x6 x7 x8 : Vec Ideal S1x4096 .i32)

theorem q54 : k0_pay54 (F := Ideal) x0 x1 x2 x3 x4 x5 x6 x7 x8 = (stV (k0_pay53 x0 x1 x2 x3 x4 x5 x6 x7 x8) 1) := by
  unfold k0_pay54
  exact p11 _ _
theorem q55 : k0_pay55 (F := Ideal) x0 x1 x2 x3 x4 x5 x6 x7 x8 = divsi (k0_pay53 x0 x1 x2 x3 x4 x5 x6 x7 x8) (stV (k0_pay53 x0 x1 x2 x3 x4 x5 x6 x7 x8) 1) := by
  unfold k0_pay55
  exact (p12 _ _).trans (congrArg _ (p11 _ _))
theorem q56 : k0_pay56 (F := Ideal) x0 x1 x2 x3 x4 x5 x6 x7 x8 = extui 32 (cmpi .sgt (k0_pay53 x0 x1 x2 x3 x4 x5 x6 x7 x8) (broadcast S1280x1 0#32)) natLt_1_32 := by
  unfold k0_pay56
  exact p13 _ _
theorem q57 : k0_pay57 (F := Ideal) x0 x1 x2 x3 x4 x5 x6 x7 x8 = k0_pay14 := by
  unfold k0_pay57
  exact rfl
theorem q58 : k0_pay58 (F := Ideal) x0 x1 x2 x3 x4 x5 x6 x7 x8 = (stV (k0_pay53 x0 x1 x2 x3 x4 x5 x6 x7 x8) 3) := by
  unfold k0_pay58
  rw [q54 x0 x1 x2 x3 x4 x5 x6 x7 x8, q55 x0 x1 x2 x3 x4 x5 x6 x7 x8, q56 x0 x1 x2 x3 x4 x5 x6 x7 x8, q57 x0 x1 x2 x3 x4 x5 x6 x7 x8]
  exact p15 _ _
theorem q59 : k0_pay59 (F := Ideal) x0 x1 x2 x3 x4 x5 x6 x7 x8 = divsi (k0_pay53 x0 x1 x2 x3 x4 x5 x6 x7 x8) (stV (k0_pay53 x0 x1 x2 x3 x4 x5 x6 x7 x8) 3) := by
  unfold k0_pay59
  rw [q54 x0 x1 x2 x3 x4 x5 x6 x7 x8, q55 x0 x1 x2 x3 x4 x5 x6 x7 x8, q56 x0 x1 x2 x3 x4 x5 x6 x7 x8, q57 x0 x1 x2 x3 x4 x5 x6 x7 x8]
  exact p16 _ _
theorem q60 : k0_pay60 (F := Ideal) x0 x1 x2 x3 x4 x5 x6 x7 x8 = (stV (k0_pay53 x0 x1 x2 x3 x4 x5 x6 x7 x8) 4) := by
  unfold k0_pay60
  rw [q58 x0 x1 x2 x3 x4 x5 x6 x7 x8, q59 x0 x1 x2 x3 x4 x5 x6 x7 x8]
  exact p17 _ _
theorem q61 : k0_pay61 (F := Ideal) x0 x1 x2 x3 x4 x5 x6 x7 x8 = divsi (k0_pay53 x0 x1 x2 x3 x4 x5 x6 x7 x8) (stV (k0_pay53 x0 x1 x2 x3 x4 x5 x6 x7 x8) 4) := by
  unfold k0_pay61
  rw [q58 x0 x1 x2 x3 x4 x5 x6 x7 x8, q59 x0 x1 x2 x3 x4 x5 x6 x7 x8]
  exact p18 _ _
theorem q62 : k0_pay62 (F := Ideal) x0 x1 x2 x3 x4 x5 x6 x7 x8 = anV (k0_pay53 x0 x1 x2 x3 x4 x5 x6 x7 x8) (stV (k0_pay53 x0 x1 x2 x3 x4 x5 x6 x7 x8) 4) := by
  unfold k0_pay62
  rw [q58 x0 x1 x2 x3 x4 x5 x6 x7 x8, q59 x0 x1 x2 x3 x4 x5 x6 x7 x8]
  exact p19 _ _
theorem q63 : k0_pay63 (F := Ideal) x0 x1 x2 x3 x4 x5 x6 x7 x8 = subi (divsi (k0_pay53 x0 x1 x2 x3 x4 x5 x6 x7 x8) (stV (k0_pay53 x0 x1 x2 x3 x4 x5 x6 x7 x8) 4)) (broadcast S1280x1 1#32) := by
  unfold k0_pay63
  rw [q58 x0 x1 x2 x3 x4 x5 x6 x7 x8, q59 x0 x1 x2 x3 x4 x5 x6 x7 x8]
  exact p20 _ _
theorem q64 : k0_pay64 (F := Ideal) x0 x1 x2 x3 x4 x5 x6 x7 x8 = (stV (k0_pay53 x0 x1 x2 x3 x4 x5 x6 x7 x8) 6) := by
  unfold k0_pay64
  rw [q60 x0 x1 x2 x3 x4 x5 x6 x7 x8, q61 x0 x1 x2 x3 x4 x5 x6 x7 x8, q62 x0 x1 x2 x3 x4 x5 x6 x7 x8, q63 x0 x1 x2 x3 x4 x5 x6 x7 x8]
  exact p21 _ _
theorem q65 : k0_pay65 (F := Ideal) x0 x1 x2 x3 x4 x5 x6 x7 x8 = divsi (k0_pay53 x0 x1 x2 x3 x4 x5 x6 x7 x8) (stV (k0_pay53 x0 x1 x2 x3 x4 x5 x6 x7 x8) 6) := by
  unfold k0_pay65
  rw [q60 x0 x1 x2 x3 x4 x5 x6 x7 x8, q61 x0 x1 x2 x3 x4 x5 x6 x7 x8, q62 x0 x1 x2 x3 x4 x5 x6 x7 x8, q63 x0 x1 x2 x3 x4 x5 x6 x7 x8]
  exact p22 _ _
theorem q66 : k0_pay66 (F := Ideal) x0 x1 x2 x3 x4 x5 x6 x7 x8 = neV (k0_pay53 x0 x1 x2 x3 x4 x5 x6 x7 x8) (stV (k0_pay53 x0 x1 x2 x3 x4 x5 x6 x7 x8) 6) := by
  unfold k0_pay66
  rw [q60 x0 x1 x2 x3 x4 x5 x6 x7 x8, q61 x0 x1 x2 x3 x4 x5 x6 x7 x8, q62 x0 x1 x2 x3 x4 x5 x6 x7 x8, q63 x0 x1 x2 x3 x4 x5 x6 x7 x8]
  exact p23 _ _
theorem q67 : k0_pay67 (F := Ideal) x0 x1 x2 x3 x4 x5 x6 x7 x8 = remsi (k0_pay53 x0 x1 x2 x3 x4 x5 x6 x7 x8) (stV (k0_pay53 x0 x1 x2 x3 x4 x5 x6 x7 x8) 6) := by
  unfold k0_pay67
  rw [q60 x0 x1 x2 x3 x4 x5 x6 x7 x8, q61 x0 x1 x2 x3 x4 x5 x6 x7 x8, q62 x0 x1 x2 x3 x4 x5 x6 x7 x8, q63 x0 x1 x2 x3 x4 x5 x6 x7 x8]
  exact p24 _ _
theorem q68 : k0_pay68 (F := Ideal) x0 x1 x2 x3 x4 x5 x6 x7 x8 = (stV (k0_pay53 x0 x1 x2 x3 x4 x5 x6 x7 x8) 8) := by
  unfold k0_pay68
  rw [q64 x0 x1 x2 x3 x4 x5 x6 x7 x8, q65 x0 x1 x2 x3 x4 x5 x6 x7 x8, q66 x0 x1 x2 x3 x4 x5 x6 x7 x8, q67 x0 x1 x2 x3 x4 x5 x6 x7 x8]
  exact p25 _ _
theorem q69 : k0_pay69 (F := Ideal) x0 x1 x2 x3 x4 x5 x6 x7 x8 = divsi (k0_pay53 x0 x1 x2 x3 x4 x5 x6 x7 x8) (stV (k0_pay53 x0 x1 x2 x3 x4 x5 x6 x7 x8) 8) := by
  unfold k0_pay69
  rw [q64 x0 x1 x2 x3 x4 x5 x6 x7 x8, q65 x0 x1 x2 x3 x4 x5 x6 x7 x8, q66 x0 x1 x2 x3 x4 x5 x6 x7 x8, q67 x0 x1 x2 x3 x4 x5 x6 x7 x8]
  exact p26 _ _
theorem q70 : k0_pay70 (F := Ideal) x0 x1 x2 x3 x4 x5 x6 x7 x8 = sgV (k0_pay53 x0 x1 x2 x3 x4 x5 x6 x7 x8) := by
  unfold k0_pay70
  exact p27 _
theorem q71 : k0_pay71 (F := Ideal) x0 x1 x2 x3 x4 x5 x6 x7 x8 = extui 32 (cmpi .sgt (stV (k0_pay53 x0 x1 x2 x3 x4 x5 x6 x7 x8) 8) (broadcast S1280x1 0#32)) natLt_1_32 := by
  unfold k0_pay71
  rw [q64 x0 x1 x2 x3 x4 x5 x6 x7 x8, q65 x0 x1 x2 x3 x4 x5 x6 x7 x8, q66 x0 x1 x2 x3 x4 x5 x6 x7 x8, q67 x0 x1 x2 x3 x4 x5 x6 x7 x8]
  exact p28 _ _
theorem q72 : k0_pay72 (F := Ideal) x0 x1 x2 x3 x4 x5 x6 x7 x8 = k0_pay29 := by
  unfold k0_pay72
  exact rfl
theorem q73 : k0_pay73 (F := Ideal) x0 x1 x2 x3 x4 x5 x6 x7 x8 = (stV (k0_pay53 x0 x1 x2 x3 x4 x5 x6 x7 x8) 10) := by
  unfold k0_pay73
  rw [q68 x0 x1 x2 x3 x4 x5 x6 x7 x8, q69 x0 x1 x2 x3 x4 x5 x6 x7 x8, q70 x0 x1 x2 x3 x4 x5 x6 x7 x8, q71 x0 x1 x2 x3 x4 x5 x6 x7 x8, q72 x0 x1 x2 x3 x4 x5 x6 x7 x8]
  exact p30 _ _
theorem q74 : k0_pay74 (F := Ideal) x0 x1 x2 x3 x4 x5 x6 x7 x8 = divsi (k0_pay53 x0 x1 x2 x3 x4 x5 x6 x7 x8) (stV (k0_pay53 x0 x1 x2 x3 x4 x5 x6 x7 x8) 10) := by
  unfold k0_pay74
  rw [q68 x0 x1 x2 x3 x4 x5 x6 x7 x8, q69 x0 x1 x2 x3 x4 x5 x6 x7 x8, q70 x0 x1 x2 x3 x4 x5 x6 x7 x8, q71 x0 x1 x2 x3 x4 x5 x6 x7 x8, q72 x0 x1 x2 x3 x4 x5 x6 x7 x8]
  exact p31 _ _
theorem q75 : k0_pay75 (F := Ideal) x0 x1 x2 x3 x4 x5 x6 x7 x8 = sgV (k0_pay53 x0 x1 x2 x3 x4 x5 x6 x7 x8) := by
  unfold k0_pay75
  exact p32 _
theorem q76 : k0_pay76 (F := Ideal) x0 x1 x2 x3 x4 x5 x6 x7 x8 = addi (stV (k0_pay53 x0 x1 x2 x3 x4 x5 x6 x7 x8) 13) (fdV (k0_pay53 x0 x1 x2 x3 x4 x5 x6 x7 x8) (stV (k0_pay53 x0 x1 x2 x3 x4 x5 x6 x7 x8) 13)) := by
  unfold k0_pay76
  rw [q73 x0 x1 x2 x3 x4 x5 x6 x7 x8, q74 x0 x1 x2 x3 x4 x5 x6 x7 x8, q75 x0 x1 x2 x3 x4 x5 x6 x7 x8]
  exact (congr (congr (congrArg _ (p33 _ _)) (p34 _ _)) (p35 _)).trans (p36 _ _)
theorem q77 : k0_pay77 (F := Ideal) x0 x1 x2 x3 x4 x5 x6 x7 x8 = (stV (k0_pay53 x0 x1 x2 x3 x4 x5 x6 x7 x8) 15) := by
  unfold k0_pay77
  rw [q76 x0 x1 x2 x3 x4 x5 x6 x7 x8]
  exact p37 _ _
theorem q78 : k0_pay78 (F := Ideal) x0 x1 x2 x3 x4 x5 x6 x7 x8 = divsi (k0_pay53 x0 x1 x2 x3 x4 x5 x6 x7 x8) (stV (k0_pay53 x0 x1 x2 x3 x4 x5 x6 x7 x8) 15) := by
  unfold k0_pay78
  rw [q76 x0 x1 x2 x3 x4 x5 x6 x7 x8]
  exact p38 _ _
theorem q79 : k0_pay79 (F := Ideal) x0 x1 x2 x3 x4 x5 x6 x7 x8 = anV (k0_pay53 x0 x1 x2 x3 x4 x5 x6 x7 x8) (stV (k0_pay53 x0 x1 x2 x3 x4 x5 x6 x7 x8) 15) := by
  unfold k0_pay79
  rw [q76 x0 x1 x2 x3 x4 x5 x6 x7 x8]
  exact p39 _ _
theorem q80 : k0_pay80 (F := Ideal) x0 x1 x2 x3 x4 x5 x6 x7 x8 = (stV (k0_pay53 x0 x1 x2 x3 x4 x5 x6 x7 x8) 17) := by
  unfold k0_pay80
  rw [q77 x0 x1 x2 x3 x4 x5 x6 x7 x8, q78 x0 x1 x2 x3 x4 x5 x6 x7 x8, q79 x0 x1 x2 x3 x4 x5 x6 x7 x8]
  exact p40 _ _
theorem q81 : k0_pay81 (F := Ideal) x0 x1 x2 x3 x4 x5 x6 x7 x8 = divsi (k0_pay53 x0 x1 x2 x3 x4 x5 x6 x7 x8) (stV (k0_pay53 x0 x1 x2 x3 x4 x5 x6 x7 x8) 17) := by
  unfold k0_pay81
  rw [q77 x0 x1 x2 x3 x4 x5 x6 x7 x8, q78 x0 x1 x2 x3 x4 x5 x6 x7 x8, q79 x0 x1 x2 x3 x4 x5 x6 x7 x8]
  exact p41 _ _
theorem q82 : k0_pay82 (F := Ideal) x0 x1 x2 x3 x4 x5 x6 x7 x8 = sgV (k0_pay53 x0 x1 x2 x3 x4 x5 x6 x7 x8) := by
  unfold k0_pay82
  exact p42 _
theorem q83 : k0_pay83 (F := Ideal) x0 x1 x2 x3 x4 x5 x6 x7 x8 = sgV (stV (k0_pay53 x0 x1 x2 x3 x4 x5 x6 x7 x8) 17) := by
  unfold k0_pay83
  rw [q77 x0 x1 x2 x3 x4 x5 x6 x7 x8, q78 x0 x1 x2 x3 x4 x5 x6 x7 x8, q79 x0 x1 x2 x3 x4 x5 x6 x7 x8]
  exact p43 _ _

/-- The scaled elements before the final requantisation. -/
theorem n_eq (r : Fin 1280) (c : Fin 4096) (z : Fin 4096 → BitVec 32) (hy : ∀ c, k0_pay51 (F := Ideal) x0 x1 x2 x3 x4 x5 x6 x7 x8 (ix2 r c) = rowY z c) :
    k0_pay48 (k0_pay51 x0 x1 x2 x3 x4 x5 x6 x7 x8) (k0_pay9 (k0_pay52 x0 x1 x2 x3 x4 x5 x6 x7 x8)) (k0_pay53 x0 x1 x2 x3 x4 x5 x6 x7 x8) (k0_pay44 (k0_pay53 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8)) (k0_pay45 (k0_pay53 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8)) (k0_pay46 (k0_pay53 x0 x1 x2 x3 x4 x5 x6 x7 x8)) (k0_pay47 (k0_pay53 x0 x1 x2 x3 x4 x5 x6 x7 x8) (k0_pay80 x0 x1 x2 x3 x4 x5 x6 x7 x8) (k0_pay81 x0 x1 x2 x3 x4 x5 x6 x7 x8) (k0_pay82 x0 x1 x2 x3 x4 x5 x6 x7 x8) (k0_pay83 x0 x1 x2 x3 x4 x5 x6 x7 x8)) (ix2 r c)
      = IntOp.shrsi .vector (IntOp.muli (rowY z c) (rowFac z)) 16#32 := by
  rw [q80 x0 x1 x2 x3 x4 x5 x6 x7 x8, q81 x0 x1 x2 x3 x4 x5 x6 x7 x8, q82 x0 x1 x2 x3 x4 x5 x6 x7 x8, q83 x0 x1 x2 x3 x4 x5 x6 x7 x8, p44, p45, p46, p47, p48, p48_apply, hy]
  have h8 : k0_pay52 (F := Ideal) x0 x1 x2 x3 x4 x5 x6 x7 x8 (ix2 r 0) = IntOp.ctlz (rowTop z) := pay8_apply _ _ z r hy
  have h9 : k0_pay9 (k0_pay52 (F := Ideal) x0 x1 x2 x3 x4 x5 x6 x7 x8) (ix2 r 0) = rowSh z := pay9_apply _ r _ h8
  have h10 : (k0_pay53 x0 x1 x2 x3 x4 x5 x6 x7 x8) (ix2 r 0) = rowVar z := pay10_apply _ _ z r hy h9
  refine congrArg (fun a => IntOp.shrsi .vector (IntOp.muli (rowY z c) a) 16#32) ?_
  show fdivW 2147483647#32 (IntOp.shli .vector (IntOp.addi (stV (k0_pay53 x0 x1 x2 x3 x4 x5 x6 x7 x8) 20 (ix2 r 0)) 1#32) (k0_pay9 (k0_pay52 (F := Ideal) x0 x1 x2 x3 x4 x5 x6 x7 x8) (ix2 r 0))) = facW (rowVar z) (rowSh z)
  rw [stV_apply, h10, h9]
  rfl

variable (m : (ℓ : Loc nD τ sig) → Buf (Elt Ideal) ℓ)

/-- Every window's one block is its whole array. -/
theorem idx : ∀ t : Fin cfg0.N, win0_0.index t = ![0, 0] ∧ win0_1.index t = ![0, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![0, 0] ∧ win0_9.index t = ![0, 0] :=
  (by decide +kernel : ∀ t : Fin grid0.N, _)

theorem blk0 (c : Dev nD) : iblk m c 0 t0_0 = m ((c : Thread nD τ).loc main_arg0) := by blk_ext! [iblk, V, idx t0_0]
theorem blk1 (c : Dev nD) : iblk m c 1 t0_0 = m ((c : Thread nD τ).loc main_arg1) := by blk_ext! [iblk, V, idx t0_0]
theorem blk2 (c : Dev nD) : iblk m c 2 t0_0 = m ((c : Thread nD τ).loc main_arg2) := by blk_ext! [iblk, V, idx t0_0]
theorem blk3 (c : Dev nD) (j : Fin 4096) : iblk m c 3 t0_0 (ix2 0 j) = m ((c : Thread nD τ).loc main_arg3) (ix1 j) := by blk_ext! [iblk, V, idx t0_0]
theorem blk4 (c : Dev nD) (j : Fin 4096) : iblk m c 4 t0_0 (ix2 0 j) = m ((c : Thread nD τ).loc main_arg4) (ix1 j) := by blk_ext! [iblk, V, idx t0_0]
theorem blk5 (c : Dev nD) (j : Fin 4096) : iblk m c 5 t0_0 (ix2 0 j) = m ((c : Thread nD τ).loc main_arg5) (ix1 j) := by blk_ext! [iblk, V, idx t0_0]
theorem blk6 (c : Dev nD) (j : Fin 4096) : iblk m c 6 t0_0 (ix2 0 j) = m ((c : Thread nD τ).loc main_arg6) (ix1 j) := by blk_ext! [iblk, V, idx t0_0]
theorem blk7 (c : Dev nD) (j : Fin 4096) : iblk m c 7 t0_0 (ix2 0 j) = m ((c : Thread nD τ).loc main_arg7) (ix1 j) := by blk_ext! [iblk, V, idx t0_0]
theorem blk8 (c : Dev nD) (j : Fin 4096) : iblk m c 8 t0_0 (ix2 0 j) = m ((c : Thread nD τ).loc main_arg8) (ix1 j) := by blk_ext! [iblk, V, idx t0_0]

theorem hz2 : (![0, 0] : Fin 2 → ℕ) = fun _ => 0 := funext fun a => by fin_cases a <;> rfl
theorem ld0 (x : Vec Ideal S1x4096 .i32) : View.ld x r0_0 = x := View.ld_unit_zero hz2 _ x
theorem ld1 (x : Vec Ideal S1280x16384 .i8) : View.ld x r0_1 = x := View.ld_unit_zero hz2 _ x
theorem ld2 (x : Vec Ideal S16384x4096 .i8) : View.ld x r0_2 = x := View.ld_unit_zero hz2 _ x
theorem ld3 (x : Vec Ideal S1280x4096 .i8) : View.ld x r0_3 = x := View.ld_unit_zero hz2 _ x

/-- A row less its mean, of the arrays. -/
theorem y_eq (c : Dev nD) (r : Fin 1280) (j : Fin 4096) :
    k0_pay51 (F := Ideal) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (ix2 r j) = rowY (Ffn2.zOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r) j := by
  unfold k0_pay51
  refine (pay7_apply _ _ r j).trans (congrArg (fun z => rowY z j) (funext fun j => ?_))
  unfold k0_pay49 k0_pay50
  rw [ld0, ld0, ld0, ld1, ld2, ld3, pay2_apply, blk0, blk1, blk2, blk3, blk4, blk5]
  rfl

/-- The element of the body's result. -/
theorem out_eq (c : Dev nD) (r : Fin 1280) (j : Fin 4096) :
    k0_pay1 (k0_pay4 (View.ld (iblk m c 6 t0_0) r0_0)) (k0_pay5 (View.ld (iblk m c 7 t0_0) r0_0)) (k0_pay6 (View.ld (iblk m c 8 t0_0) r0_0)) (k0_pay48 (k0_pay51 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay9 (k0_pay52 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0))) (k0_pay53 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay44 (k0_pay53 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay80 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay81 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay82 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay83 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0))) (k0_pay45 (k0_pay53 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay80 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay81 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay82 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay83 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0))) (k0_pay46 (k0_pay53 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0))) (k0_pay47 (k0_pay53 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay80 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay81 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay82 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)) (k0_pay83 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0)))) (ix2 r j)
      = Ffn2.lnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (ix2 r j) := by
  rw [ld0, ld0, ld0, pay1_apply, n_eq (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) r j _ (y_eq m c r)]
  have e4 (x : Vec Ideal S1x4096 .i32) : k0_pay4 (F := Ideal) x = x := shapeCast_self _ _
  have e5 (x : Vec Ideal S1x4096 .i32) : k0_pay5 (F := Ideal) x = x := shapeCast_self _ _
  have e6 (x : Vec Ideal S1x4096 .i32) : k0_pay6 (F := Ideal) x = x := shapeCast_self _ _
  rw [e4, e5, e6, blk6, blk7, blk8]
  rfl

/-- The one store's payload, read back: the whole of it. -/
theorem canon_whole (p : Vec Ideal S1280x4096 .i8) (y : S1280x4096.Idx) : View.canon (Val := Elt Ideal) [⟨r0_3, p⟩] y = p y :=
  congrFun (View.canon_cons_unit_zero hz2 _ p []) y

/-- The body's result, element by element. -/
theorem out9_apply (c : Dev nD) (y : S1280x4096.Idx) : out0_9 (F := Ideal) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) y = Ffn2.lnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) y := by
  obtain ⟨r, col, rfl⟩ : ∃ (r : Fin 1280) (col : Fin 4096), y = ix2 r col := ⟨y 0, y 1, eq_ix2 y⟩
  unfold out0_9
  exact (canon_whole _ _).trans (out_eq m c r col)

/-- The result. -/
theorem arr9 (c : Dev nD) : (dats m 0 c).arrAt 9 cfg0.N = fun i => Ffn2.lnOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) i := by
  refine (dats m 0 c).arrAt_eq_of_after_last 9 t0_0 (by decide +kernel) _ fun j => ?_
  blk_simp
  rw [after0_9]
  exact out9_apply m c j

end Cert.Proof.Ref2

end
-- ==== Proof.Ffn2Eq.lean ====
/-
  Hand-written, untrusted. The second kernel against its reference: of equal arguments, the shifts `k2` lying between 16 and 31,
  both leave `Ffn2.lnOf` of them.
-/
module

public import proofs.«01_k».proof.Defs
public import proofs.«01_k».proof.Proof.BIdealGrid
public import proofs.«01_k».proof.Proof.Ref2

@[expose] public section

noncomputable section

namespace Cert.Proof.Ffn2Eq

open Idealize.ShloMosaic Idealize.SL.Sem Cert.Proof.Words Idealize.ShloMosaic.TcCoe Idealize.ShloMosaic.Pipeline

/-- The one fact the precondition's text needs. -/
theorem pre_facts : Cert.Pre_k2_in_range.Facts := ⟨by decide⟩

/-- Two bits whose conjunction is one. -/
theorem and_one (a b : BitVec 1) (h : IntOp.andi a b = 1#1) : a = 1#1 ∧ b = 1#1 := by
  revert a b
  decide

theorem sge_one (x y : BitVec 32) (h : IntOp.cmpi .sge x y = 1#1) : y.toInt ≤ x.toInt := by
  by_contra hn
  have e : IntOp.cmpi .sge x y = 0#1 := by
    show BitVec.ofBool (y.sle x) = 0#1
    rw [show y.sle x = false from by rw [BitVec.sle_eq_decide]; exact decide_eq_false hn]
    rfl
  rw [e] at h
  exact absurd h (by decide)

theorem sle_one (x y : BitVec 32) (h : IntOp.cmpi .sle x y = 1#1) : x.toInt ≤ y.toInt := by
  by_contra hn
  have e : IntOp.cmpi .sle x y = 0#1 := by
    show BitVec.ofBool (x.sle y) = 0#1
    rw [show x.sle y = false from by rw [BitVec.sle_eq_decide]; exact decide_eq_false hn]
    rfl
  rw [e] at h
  exact absurd h (by decide)

/-- What the precondition says of every shift. -/
theorem range_of_pre (m : (ℓ : Loc Cert.KernelBIdeal.nD Cert.KernelBIdeal.τ Cert.KernelBIdeal.sig) → Buf (Elt Ideal) ℓ)
    (h : Cert.Pre_KernelBIdeal_k2_in_range (hPre_k2_in_range := pre_facts) m) (c : Dev Cert.KernelBIdeal.nD) (j : Fin 4096) :
    16 ≤ (m (c.tc.loc Cert.KernelBIdeal.main_arg5) (ix1 j) : BitVec 32).toInt ∧ (m (c.tc.loc Cert.KernelBIdeal.main_arg5) (ix1 j) : BitVec 32).toInt ≤ 31 := by
  have e := congrFun (h c) (ix1 j)
  have e' : IntOp.andi (IntOp.cmpi .sge (m (c.tc.loc Cert.KernelBIdeal.main_arg5) (ix1 j) : BitVec 32) 16#32)
      (IntOp.cmpi .sle (m (c.tc.loc Cert.KernelBIdeal.main_arg5) (ix1 j) : BitVec 32) 31#32) = 1#1 := e
  obtain ⟨h1, h2⟩ := and_one _ _ e'
  exact ⟨sge_one _ _ h1, sle_one _ _ h2⟩

/-- Equal arguments give equal results, at the idealized floats. -/
theorem algebraic : Cert.algebraic_KernelBIdeal_ReferenceBIdeal_pre_k2_in_range (hKernelBIdeal := Cert.KernelBIdeal.Gen.facts)
    (hReferenceBIdeal := Cert.ReferenceBIdeal.Gen.facts) (hPre_k2_in_range := pre_facts) := by
  intro m g m' g' hpre hagree
  refine ⟨fun c => (fun i => Ffn2.lnOf (m (c.tc.loc Cert.KernelBIdeal.main_arg0)) (m (c.tc.loc Cert.KernelBIdeal.main_arg1)) (m (c.tc.loc Cert.KernelBIdeal.main_arg2))
    (m (c.tc.loc Cert.KernelBIdeal.main_arg3)) (m (c.tc.loc Cert.KernelBIdeal.main_arg4)) (m (c.tc.loc Cert.KernelBIdeal.main_arg5)) (m (c.tc.loc Cert.KernelBIdeal.main_arg6))
    (m (c.tc.loc Cert.KernelBIdeal.main_arg7)) (m (c.tc.loc Cert.KernelBIdeal.main_arg8)) i), ?_, ?_⟩
  · refine (θ_run _ _ _).mono (fun r h c => ?_) (Cert.KernelBIdeal.Value.run_blocks (F := Ideal) m g)
    obtain ⟨h13, h⟩ := h c
    exact ⟨h13.trans (Ffn2.arr13 m c (range_of_pre m hpre c)), h⟩
  · refine (θ_run _ _ _).mono (fun r h c => ?_) (Cert.ReferenceBIdeal.Value.run_blocks (F := Ideal) m' g')
    obtain ⟨h9, h⟩ := h c
    obtain ⟨a0, a1, a2, a3, a4, a5, a6, a7, a8⟩ := hagree c
    exact ⟨h9.trans ((Ref2.arr9 m' c).trans (Ffn2.lnOf_congr a0 a1 a2 a3 a4 a5 a6 a7 a8)), h⟩

end Cert.Proof.Ffn2Eq

end
-- ==== Proof.lean ====
/- Hand-written, untrusted: `Cert.Claim` from its parts — the frames (`Proof/Gen/`, `Proof/BFrame.lean`, `Proof/BIdealFrame.lean`),
   `preserves` (the idealized kernels are the kernels' own programs), and the equations of kernel and reference
   (`Proof/Ffn1Eq.lean`, `Proof/Ffn2Eq.lean`). -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.ReferenceBIdeal
public import proofs.«01_k».proof.Proof.Gen.ReferenceBIdeal.Frame
public import proofs.«01_k».proof.Proof.BFrame
public import proofs.«01_k».proof.Proof.BIdealFrame
public import proofs.«01_k».proof.Proof.Ffn1Eq
public import proofs.«01_k».proof.Proof.Ffn2Eq
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.KernelB.Gen.facts, Cert.KernelBIdeal.Gen.facts,
    Cert.ReferenceBIdeal.Gen.facts, Ffn2Eq.pre_facts,
    fun m ρ _ => Cert.Kernel.Gen.frame m ρ, fun m ρ _ => Cert.KernelIdeal.Gen.frame m ρ, fun m ρ _ => Cert.ReferenceIdeal.Gen.frame m ρ,
    fun m ρ _ => Cert.KernelB.Gen.frame m ρ, fun m ρ _ => Cert.KernelBIdeal.Gen.frame m ρ, fun m ρ _ => Cert.KernelBIdeal.Gen.frame m ρ,
    fun m ρ _ => Cert.ReferenceBIdeal.Gen.frame m ρ, fun m ρ _ => Cert.ReferenceBIdeal.Gen.frame m ρ,
    trivial, Ffn1Eq.algebraic, trivial, Ffn2Eq.algebraic⟩

end Cert.Proof

end
